-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_Gd (m : (ℓ : Loc Cert.Gd.nD Cert.Gd.τ Cert.Gd.sig) → Buf (Elt Bits) ℓ) : Prop :=
  True

def Pre_GdIdeal (m : (ℓ : Loc Cert.GdIdeal.nD Cert.GdIdeal.τ Cert.GdIdeal.sig) → Buf (Elt Ideal) ℓ) : Prop :=
  True

def Pre_GdRefIdeal (m : (ℓ : Loc Cert.GdRefIdeal.nD Cert.GdRefIdeal.τ Cert.GdRefIdeal.sig) → Buf (Elt Ideal) ℓ) : Prop :=
  True

def Pre_Gu (m : (ℓ : Loc Cert.Gu.nD Cert.Gu.τ Cert.Gu.sig) → Buf (Elt Bits) ℓ) : Prop :=
  True

def Pre_GuIdeal (m : (ℓ : Loc Cert.GuIdeal.nD Cert.GuIdeal.τ Cert.GuIdeal.sig) → Buf (Elt Ideal) ℓ) : Prop :=
  True

def Pre_GuRefIdeal (m : (ℓ : Loc Cert.GuRefIdeal.nD Cert.GuRefIdeal.τ Cert.GuRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Dm (m : (ℓ : Loc Cert.Dm.nD Cert.Dm.τ Cert.Dm.sig) → Buf (Elt Bits) ℓ) : Prop :=
  True

def Pre_DmIdeal (m : (ℓ : Loc Cert.DmIdeal.nD Cert.DmIdeal.τ Cert.DmIdeal.sig) → Buf (Elt Ideal) ℓ) : Prop :=
  True

def Pre_DmRefIdeal (m : (ℓ : Loc Cert.DmRefIdeal.nD Cert.DmRefIdeal.τ Cert.DmRefIdeal.sig) → Buf (Elt Ideal) ℓ) : Prop :=
  True

def Pre_Go (m : (ℓ : Loc Cert.Go.nD Cert.Go.τ Cert.Go.sig) → Buf (Elt Bits) ℓ) : Prop :=
  True

def Pre_GoIdeal (m : (ℓ : Loc Cert.GoIdeal.nD Cert.GoIdeal.τ Cert.GoIdeal.sig) → Buf (Elt Ideal) ℓ) : Prop :=
  True

def Pre_GoRefIdeal (m : (ℓ : Loc Cert.GoRefIdeal.nD Cert.GoRefIdeal.τ Cert.GoRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Di (m : (ℓ : Loc Cert.Di.nD Cert.Di.τ Cert.Di.sig) → Buf (Elt Bits) ℓ) : Prop :=
  True

def Pre_DiIdeal (m : (ℓ : Loc Cert.DiIdeal.nD Cert.DiIdeal.τ Cert.DiIdeal.sig) → Buf (Elt Ideal) ℓ) : Prop :=
  True

def Pre_DiRefIdeal (m : (ℓ : Loc Cert.DiRefIdeal.nD Cert.DiRefIdeal.τ Cert.DiRefIdeal.sig) → Buf (Elt Ideal) ℓ) : Prop :=
  True

def Pre_Far (m : (ℓ : Loc Cert.Far.nD Cert.Far.τ Cert.Far.sig) → Buf (Elt Bits) ℓ) : Prop :=
  True

def Pre_FarIdeal (m : (ℓ : Loc Cert.FarIdeal.nD Cert.FarIdeal.τ Cert.FarIdeal.sig) → Buf (Elt Ideal) ℓ) : Prop :=
  True

def Pre_FarRefIdeal (m : (ℓ : Loc Cert.FarRefIdeal.nD Cert.FarRefIdeal.τ Cert.FarRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1)
      ∧ r.2.mem ((c.tc : Thread Cert.Dz.nD Cert.Dz.τ).loc Cert.Dz.main_arg2) = m ((c.tc : Thread Cert.Dz.nD Cert.Dz.τ).loc Cert.Dz.main_arg2))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
      ∧ r.2.mem ((c.tc : Thread Cert.DzIdeal.nD Cert.DzIdeal.τ).loc Cert.DzIdeal.main_arg2) = m ((c.tc : Thread Cert.DzIdeal.nD Cert.DzIdeal.τ).loc Cert.DzIdeal.main_arg2))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1)
      ∧ r.2.mem ((c.tc : Thread Cert.DzRefIdeal.nD Cert.DzRefIdeal.τ).loc Cert.DzRefIdeal.main_arg2) = m ((c.tc : Thread Cert.DzRefIdeal.nD Cert.DzRefIdeal.τ).loc Cert.DzRefIdeal.main_arg2))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2))
      ∧ r.2.sem = fun _ => 0)

def quiescent_Gd [hGd : Cert.Gd.Facts] : Prop :=
  ∀ (m : (ℓ : Loc Cert.Gd.nD Cert.Gd.τ Cert.Gd.sig) → Buf (Elt Bits) ℓ) (g : Dev Cert.Gd.nD → PrngReg), Pre_Gd m →
    θ_run (Cert.Gd.defs (F := Bits)) (onTc (τ := Cert.Gd.τ) (Cert.Gd.main (F := Bits))) ⟨m, fun _ => 0, g⟩ (fun r => (∀ c : Dev Cert.Gd.nD,
      r.2.mem ((c.tc : Thread Cert.Gd.nD Cert.Gd.τ).loc Cert.Gd.main_arg0) = m ((c.tc : Thread Cert.Gd.nD Cert.Gd.τ).loc Cert.Gd.main_arg0)
      ∧ r.2.mem ((c.tc : Thread Cert.Gd.nD Cert.Gd.τ).loc Cert.Gd.main_arg1) = m ((c.tc : Thread Cert.Gd.nD Cert.Gd.τ).loc Cert.Gd.main_arg1)
      ∧ r.2.mem ((c.tc : Thread Cert.Gd.nD Cert.Gd.τ).loc Cert.Gd.main_arg2) = m ((c.tc : Thread Cert.Gd.nD Cert.Gd.τ).loc Cert.Gd.main_arg2)
      ∧ r.2.mem ((c.tc : Thread Cert.Gd.nD Cert.Gd.τ).loc Cert.Gd.main_arg3) = m ((c.tc : Thread Cert.Gd.nD Cert.Gd.τ).loc Cert.Gd.main_arg3)
      ∧ r.2.mem ((c.tc : Thread Cert.Gd.nD Cert.Gd.τ).loc Cert.Gd.main_arg4) = m ((c.tc : Thread Cert.Gd.nD Cert.Gd.τ).loc Cert.Gd.main_arg4))
      ∧ r.2.sem = fun _ => 0)

def quiescent_GdIdeal [hGdIdeal : Cert.GdIdeal.Facts] : Prop :=
  ∀ (m : (ℓ : Loc Cert.GdIdeal.nD Cert.GdIdeal.τ Cert.GdIdeal.sig) → Buf (Elt Ideal) ℓ) (g : Dev Cert.GdIdeal.nD → PrngReg), Pre_GdIdeal m →
    θ_run (Cert.GdIdeal.defs (F := Ideal)) (onTc (τ := Cert.GdIdeal.τ) (Cert.GdIdeal.main (F := Ideal))) ⟨m, fun _ => 0, g⟩ (fun r => (∀ c : Dev Cert.GdIdeal.nD,
      r.2.mem ((c.tc : Thread Cert.GdIdeal.nD Cert.GdIdeal.τ).loc Cert.GdIdeal.main_arg0) = m ((c.tc : Thread Cert.GdIdeal.nD Cert.GdIdeal.τ).loc Cert.GdIdeal.main_arg0)
      ∧ r.2.mem ((c.tc : Thread Cert.GdIdeal.nD Cert.GdIdeal.τ).loc Cert.GdIdeal.main_arg1) = m ((c.tc : Thread Cert.GdIdeal.nD Cert.GdIdeal.τ).loc Cert.GdIdeal.main_arg1)
      ∧ r.2.mem ((c.tc : Thread Cert.GdIdeal.nD Cert.GdIdeal.τ).loc Cert.GdIdeal.main_arg2) = m ((c.tc : Thread Cert.GdIdeal.nD Cert.GdIdeal.τ).loc Cert.GdIdeal.main_arg2)
      ∧ r.2.mem ((c.tc : Thread Cert.GdIdeal.nD Cert.GdIdeal.τ).loc Cert.GdIdeal.main_arg3) = m ((c.tc : Thread Cert.GdIdeal.nD Cert.GdIdeal.τ).loc Cert.GdIdeal.main_arg3)
      ∧ r.2.mem ((c.tc : Thread Cert.GdIdeal.nD Cert.GdIdeal.τ).loc Cert.GdIdeal.main_arg4) = m ((c.tc : Thread Cert.GdIdeal.nD Cert.GdIdeal.τ).loc Cert.GdIdeal.main_arg4))
      ∧ r.2.sem = fun _ => 0)

def quiescent_GdRefIdeal [hGdRefIdeal : Cert.GdRefIdeal.Facts] : Prop :=
  ∀ (m : (ℓ : Loc Cert.GdRefIdeal.nD Cert.GdRefIdeal.τ Cert.GdRefIdeal.sig) → Buf (Elt Ideal) ℓ) (g : Dev Cert.GdRefIdeal.nD → PrngReg), Pre_GdRefIdeal m →
    θ_run (Cert.GdRefIdeal.defs (F := Ideal)) (onTc (τ := Cert.GdRefIdeal.τ) (Cert.GdRefIdeal.main (F := Ideal))) ⟨m, fun _ => 0, g⟩ (fun r => (∀ c : Dev Cert.GdRefIdeal.nD,
      r.2.mem ((c.tc : Thread Cert.GdRefIdeal.nD Cert.GdRefIdeal.τ).loc Cert.GdRefIdeal.main_arg0) = m ((c.tc : Thread Cert.GdRefIdeal.nD Cert.GdRefIdeal.τ).loc Cert.GdRefIdeal.main_arg0)
      ∧ r.2.mem ((c.tc : Thread Cert.GdRefIdeal.nD Cert.GdRefIdeal.τ).loc Cert.GdRefIdeal.main_arg1) = m ((c.tc : Thread Cert.GdRefIdeal.nD Cert.GdRefIdeal.τ).loc Cert.GdRefIdeal.main_arg1)
      ∧ r.2.mem ((c.tc : Thread Cert.GdRefIdeal.nD Cert.GdRefIdeal.τ).loc Cert.GdRefIdeal.main_arg2) = m ((c.tc : Thread Cert.GdRefIdeal.nD Cert.GdRefIdeal.τ).loc Cert.GdRefIdeal.main_arg2)
      ∧ r.2.mem ((c.tc : Thread Cert.GdRefIdeal.nD Cert.GdRefIdeal.τ).loc Cert.GdRefIdeal.main_arg3) = m ((c.tc : Thread Cert.GdRefIdeal.nD Cert.GdRefIdeal.τ).loc Cert.GdRefIdeal.main_arg3)
      ∧ r.2.mem ((c.tc : Thread Cert.GdRefIdeal.nD Cert.GdRefIdeal.τ).loc Cert.GdRefIdeal.main_arg4) = m ((c.tc : Thread Cert.GdRefIdeal.nD Cert.GdRefIdeal.τ).loc Cert.GdRefIdeal.main_arg4))
      ∧ r.2.sem = fun _ => 0)

def quiescent_Gu [hGu : Cert.Gu.Facts] : Prop :=
  ∀ (m : (ℓ : Loc Cert.Gu.nD Cert.Gu.τ Cert.Gu.sig) → Buf (Elt Bits) ℓ) (g : Dev Cert.Gu.nD → PrngReg), Pre_Gu m →
    θ_run (Cert.Gu.defs (F := Bits)) (onTc (τ := Cert.Gu.τ) (Cert.Gu.main (F := Bits))) ⟨m, fun _ => 0, g⟩ (fun r => (∀ c : Dev Cert.Gu.nD,
      r.2.mem ((c.tc : Thread Cert.Gu.nD Cert.Gu.τ).loc Cert.Gu.main_arg0) = m ((c.tc : Thread Cert.Gu.nD Cert.Gu.τ).loc Cert.Gu.main_arg0)
      ∧ r.2.mem ((c.tc : Thread Cert.Gu.nD Cert.Gu.τ).loc Cert.Gu.main_arg1) = m ((c.tc : Thread Cert.Gu.nD Cert.Gu.τ).loc Cert.Gu.main_arg1)
      ∧ r.2.mem ((c.tc : Thread Cert.Gu.nD Cert.Gu.τ).loc Cert.Gu.main_arg2) = m ((c.tc : Thread Cert.Gu.nD Cert.Gu.τ).loc Cert.Gu.main_arg2)
      ∧ r.2.mem ((c.tc : Thread Cert.Gu.nD Cert.Gu.τ).loc Cert.Gu.main_arg3) = m ((c.tc : Thread Cert.Gu.nD Cert.Gu.τ).loc Cert.Gu.main_arg3)
      ∧ r.2.mem ((c.tc : Thread Cert.Gu.nD Cert.Gu.τ).loc Cert.Gu.main_arg4) = m ((c.tc : Thread Cert.Gu.nD Cert.Gu.τ).loc Cert.Gu.main_arg4))
      ∧ r.2.sem = fun _ => 0)

def quiescent_GuIdeal [hGuIdeal : Cert.GuIdeal.Facts] : Prop :=
  ∀ (m : (ℓ : Loc Cert.GuIdeal.nD Cert.GuIdeal.τ Cert.GuIdeal.sig) → Buf (Elt Ideal) ℓ) (g : Dev Cert.GuIdeal.nD → PrngReg), Pre_GuIdeal m →
    θ_run (Cert.GuIdeal.defs (F := Ideal)) (onTc (τ := Cert.GuIdeal.τ) (Cert.GuIdeal.main (F := Ideal))) ⟨m, fun _ => 0, g⟩ (fun r => (∀ c : Dev Cert.GuIdeal.nD,
      r.2.mem ((c.tc : Thread Cert.GuIdeal.nD Cert.GuIdeal.τ).loc Cert.GuIdeal.main_arg0) = m ((c.tc : Thread Cert.GuIdeal.nD Cert.GuIdeal.τ).loc Cert.GuIdeal.main_arg0)
      ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
      ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
      ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
      ∧ r.2.mem ((c.tc : Thread Cert.GuIdeal.nD Cert.GuIdeal.τ).loc Cert.GuIdeal.main_arg4) = m ((c.tc : Thread Cert.GuIdeal.nD Cert.GuIdeal.τ).loc Cert.GuIdeal.main_arg4))
      ∧ r.2.sem = fun _ => 0)

def quiescent_GuRefIdeal [hGuRefIdeal : Cert.GuRefIdeal.Facts] : Prop :=
  ∀ (m : (ℓ : Loc Cert.GuRefIdeal.nD Cert.GuRefIdeal.τ Cert.GuRefIdeal.sig) → Buf (Elt Ideal) ℓ) (g : Dev Cert.GuRefIdeal.nD → PrngReg), Pre_GuRefIdeal m →
    θ_run (Cert.GuRefIdeal.defs (F := Ideal)) (onTc (τ := Cert.GuRefIdeal.τ) (Cert.GuRefIdeal.main (F := Ideal))) ⟨m, fun _ => 0, g⟩ (fun r => (∀ c : Dev Cert.GuRefIdeal.nD,
      r.2.mem ((c.tc : Thread Cert.GuRefIdeal.nD Cert.GuRefIdeal.τ).loc Cert.GuRefIdeal.main_arg0) = m ((c.tc : Thread Cert.GuRefIdeal.nD Cert.GuRefIdeal.τ).loc Cert.GuRefIdeal.main_arg0)
      ∧ r.2.mem ((c.tc : Thread Cert.GuRefIdeal.nD Cert.GuRefIdeal.τ).loc Cert.GuRefIdeal.main_arg1) = m ((c.tc : Thread Cert.GuRefIdeal.nD Cert.GuRefIdeal.τ).loc Cert.GuRefIdeal.main_arg1)
      ∧ r.2.mem ((c.tc : Thread Cert.GuRefIdeal.nD Cert.GuRefIdeal.τ).loc Cert.GuRefIdeal.main_arg2) = m ((c.tc : Thread Cert.GuRefIdeal.nD Cert.GuRefIdeal.τ).loc Cert.GuRefIdeal.main_arg2)
      ∧ r.2.mem ((c.tc : Thread Cert.GuRefIdeal.nD Cert.GuRefIdeal.τ).loc Cert.GuRefIdeal.main_arg3) = m ((c.tc : Thread Cert.GuRefIdeal.nD Cert.GuRefIdeal.τ).loc Cert.GuRefIdeal.main_arg3)
      ∧ r.2.mem ((c.tc : Thread Cert.GuRefIdeal.nD Cert.GuRefIdeal.τ).loc Cert.GuRefIdeal.main_arg4) = m ((c.tc : Thread Cert.GuRefIdeal.nD Cert.GuRefIdeal.τ).loc Cert.GuRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Dm [hDm : Cert.Dm.Facts] : Prop :=
  ∀ (m : (ℓ : Loc Cert.Dm.nD Cert.Dm.τ Cert.Dm.sig) → Buf (Elt Bits) ℓ) (g : Dev Cert.Dm.nD → PrngReg), Pre_Dm m →
    θ_run (Cert.Dm.defs (F := Bits)) (onTc (τ := Cert.Dm.τ) (Cert.Dm.main (F := Bits))) ⟨m, fun _ => 0, g⟩ (fun r => (∀ c : Dev Cert.Dm.nD,
      r.2.mem ((c.tc : Thread Cert.Dm.nD Cert.Dm.τ).loc Cert.Dm.main_arg0) = m ((c.tc : Thread Cert.Dm.nD Cert.Dm.τ).loc Cert.Dm.main_arg0)
      ∧ r.2.mem ((c.tc : Thread Cert.Dm.nD Cert.Dm.τ).loc Cert.Dm.main_arg1) = m ((c.tc : Thread Cert.Dm.nD Cert.Dm.τ).loc Cert.Dm.main_arg1)
      ∧ r.2.mem ((c.tc : Thread Cert.Dm.nD Cert.Dm.τ).loc Cert.Dm.main_arg2) = m ((c.tc : Thread Cert.Dm.nD Cert.Dm.τ).loc Cert.Dm.main_arg2))
      ∧ r.2.sem = fun _ => 0)

def quiescent_DmIdeal [hDmIdeal : Cert.DmIdeal.Facts] : Prop :=
  ∀ (m : (ℓ : Loc Cert.DmIdeal.nD Cert.DmIdeal.τ Cert.DmIdeal.sig) → Buf (Elt Ideal) ℓ) (g : Dev Cert.DmIdeal.nD → PrngReg), Pre_DmIdeal m →
    θ_run (Cert.DmIdeal.defs (F := Ideal)) (onTc (τ := Cert.DmIdeal.τ) (Cert.DmIdeal.main (F := Ideal))) ⟨m, fun _ => 0, g⟩ (fun r => (∀ c : Dev Cert.DmIdeal.nD,
      r.2.mem ((c.tc : Thread Cert.DmIdeal.nD Cert.DmIdeal.τ).loc Cert.DmIdeal.main_arg0) = m ((c.tc : Thread Cert.DmIdeal.nD Cert.DmIdeal.τ).loc Cert.DmIdeal.main_arg0)
      ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
      ∧ r.2.mem ((c.tc : Thread Cert.DmIdeal.nD Cert.DmIdeal.τ).loc Cert.DmIdeal.main_arg2) = m ((c.tc : Thread Cert.DmIdeal.nD Cert.DmIdeal.τ).loc Cert.DmIdeal.main_arg2))
      ∧ r.2.sem = fun _ => 0)

def quiescent_DmRefIdeal [hDmRefIdeal : Cert.DmRefIdeal.Facts] : Prop :=
  ∀ (m : (ℓ : Loc Cert.DmRefIdeal.nD Cert.DmRefIdeal.τ Cert.DmRefIdeal.sig) → Buf (Elt Ideal) ℓ) (g : Dev Cert.DmRefIdeal.nD → PrngReg), Pre_DmRefIdeal m →
    θ_run (Cert.DmRefIdeal.defs (F := Ideal)) (onTc (τ := Cert.DmRefIdeal.τ) (Cert.DmRefIdeal.main (F := Ideal))) ⟨m, fun _ => 0, g⟩ (fun r => (∀ c : Dev Cert.DmRefIdeal.nD,
      r.2.mem ((c.tc : Thread Cert.DmRefIdeal.nD Cert.DmRefIdeal.τ).loc Cert.DmRefIdeal.main_arg0) = m ((c.tc : Thread Cert.DmRefIdeal.nD Cert.DmRefIdeal.τ).loc Cert.DmRefIdeal.main_arg0)
      ∧ r.2.mem ((c.tc : Thread Cert.DmRefIdeal.nD Cert.DmRefIdeal.τ).loc Cert.DmRefIdeal.main_arg1) = m ((c.tc : Thread Cert.DmRefIdeal.nD Cert.DmRefIdeal.τ).loc Cert.DmRefIdeal.main_arg1)
      ∧ r.2.mem ((c.tc : Thread Cert.DmRefIdeal.nD Cert.DmRefIdeal.τ).loc Cert.DmRefIdeal.main_arg2) = m ((c.tc : Thread Cert.DmRefIdeal.nD Cert.DmRefIdeal.τ).loc Cert.DmRefIdeal.main_arg2))
      ∧ r.2.sem = fun _ => 0)

def quiescent_Go [hGo : Cert.Go.Facts] : Prop :=
  ∀ (m : (ℓ : Loc Cert.Go.nD Cert.Go.τ Cert.Go.sig) → Buf (Elt Bits) ℓ) (g : Dev Cert.Go.nD → PrngReg), Pre_Go m →
    θ_run (Cert.Go.defs (F := Bits)) (onTc (τ := Cert.Go.τ) (Cert.Go.main (F := Bits))) ⟨m, fun _ => 0, g⟩ (fun r => (∀ c : Dev Cert.Go.nD,
      r.2.mem ((c.tc : Thread Cert.Go.nD Cert.Go.τ).loc Cert.Go.main_arg0) = m ((c.tc : Thread Cert.Go.nD Cert.Go.τ).loc Cert.Go.main_arg0)
      ∧ r.2.mem ((c.tc : Thread Cert.Go.nD Cert.Go.τ).loc Cert.Go.main_arg1) = m ((c.tc : Thread Cert.Go.nD Cert.Go.τ).loc Cert.Go.main_arg1)
      ∧ r.2.mem ((c.tc : Thread Cert.Go.nD Cert.Go.τ).loc Cert.Go.main_arg2) = m ((c.tc : Thread Cert.Go.nD Cert.Go.τ).loc Cert.Go.main_arg2)
      ∧ r.2.mem ((c.tc : Thread Cert.Go.nD Cert.Go.τ).loc Cert.Go.main_arg3) = m ((c.tc : Thread Cert.Go.nD Cert.Go.τ).loc Cert.Go.main_arg3)
      ∧ r.2.mem ((c.tc : Thread Cert.Go.nD Cert.Go.τ).loc Cert.Go.main_arg4) = m ((c.tc : Thread Cert.Go.nD Cert.Go.τ).loc Cert.Go.main_arg4))
      ∧ r.2.sem = fun _ => 0)

def quiescent_GoIdeal [hGoIdeal : Cert.GoIdeal.Facts] : Prop :=
  ∀ (m : (ℓ : Loc Cert.GoIdeal.nD Cert.GoIdeal.τ Cert.GoIdeal.sig) → Buf (Elt Ideal) ℓ) (g : Dev Cert.GoIdeal.nD → PrngReg), Pre_GoIdeal m →
    θ_run (Cert.GoIdeal.defs (F := Ideal)) (onTc (τ := Cert.GoIdeal.τ) (Cert.GoIdeal.main (F := Ideal))) ⟨m, fun _ => 0, g⟩ (fun r => (∀ c : Dev Cert.GoIdeal.nD,
      r.2.mem ((c.tc : Thread Cert.GoIdeal.nD Cert.GoIdeal.τ).loc Cert.GoIdeal.main_arg0) = m ((c.tc : Thread Cert.GoIdeal.nD Cert.GoIdeal.τ).loc Cert.GoIdeal.main_arg0)
      ∧ r.2.mem ((c.tc : Thread Cert.GoIdeal.nD Cert.GoIdeal.τ).loc Cert.GoIdeal.main_arg1) = m ((c.tc : Thread Cert.GoIdeal.nD Cert.GoIdeal.τ).loc Cert.GoIdeal.main_arg1)
      ∧ r.2.mem ((c.tc : Thread Cert.GoIdeal.nD Cert.GoIdeal.τ).loc Cert.GoIdeal.main_arg2) = m ((c.tc : Thread Cert.GoIdeal.nD Cert.GoIdeal.τ).loc Cert.GoIdeal.main_arg2)
      ∧ r.2.mem ((c.tc : Thread Cert.GoIdeal.nD Cert.GoIdeal.τ).loc Cert.GoIdeal.main_arg3) = m ((c.tc : Thread Cert.GoIdeal.nD Cert.GoIdeal.τ).loc Cert.GoIdeal.main_arg3)
      ∧ r.2.mem ((c.tc : Thread Cert.GoIdeal.nD Cert.GoIdeal.τ).loc Cert.GoIdeal.main_arg4) = m ((c.tc : Thread Cert.GoIdeal.nD Cert.GoIdeal.τ).loc Cert.GoIdeal.main_arg4))
      ∧ r.2.sem = fun _ => 0)

def quiescent_GoRefIdeal [hGoRefIdeal : Cert.GoRefIdeal.Facts] : Prop :=
  ∀ (m : (ℓ : Loc Cert.GoRefIdeal.nD Cert.GoRefIdeal.τ Cert.GoRefIdeal.sig) → Buf (Elt Ideal) ℓ) (g : Dev Cert.GoRefIdeal.nD → PrngReg), Pre_GoRefIdeal m →
    θ_run (Cert.GoRefIdeal.defs (F := Ideal)) (onTc (τ := Cert.GoRefIdeal.τ) (Cert.GoRefIdeal.main (F := Ideal))) ⟨m, fun _ => 0, g⟩ (fun r => (∀ c : Dev Cert.GoRefIdeal.nD,
      r.2.mem ((c.tc : Thread Cert.GoRefIdeal.nD Cert.GoRefIdeal.τ).loc Cert.GoRefIdeal.main_arg0) = m ((c.tc : Thread Cert.GoRefIdeal.nD Cert.GoRefIdeal.τ).loc Cert.GoRefIdeal.main_arg0)
      ∧ r.2.mem ((c.tc : Thread Cert.GoRefIdeal.nD Cert.GoRefIdeal.τ).loc Cert.GoRefIdeal.main_arg1) = m ((c.tc : Thread Cert.GoRefIdeal.nD Cert.GoRefIdeal.τ).loc Cert.GoRefIdeal.main_arg1)
      ∧ r.2.mem ((c.tc : Thread Cert.GoRefIdeal.nD Cert.GoRefIdeal.τ).loc Cert.GoRefIdeal.main_arg2) = m ((c.tc : Thread Cert.GoRefIdeal.nD Cert.GoRefIdeal.τ).loc Cert.GoRefIdeal.main_arg2)
      ∧ r.2.mem ((c.tc : Thread Cert.GoRefIdeal.nD Cert.GoRefIdeal.τ).loc Cert.GoRefIdeal.main_arg3) = m ((c.tc : Thread Cert.GoRefIdeal.nD Cert.GoRefIdeal.τ).loc Cert.GoRefIdeal.main_arg3)
      ∧ r.2.mem ((c.tc : Thread Cert.GoRefIdeal.nD Cert.GoRefIdeal.τ).loc Cert.GoRefIdeal.main_arg4) = m ((c.tc : Thread Cert.GoRefIdeal.nD Cert.GoRefIdeal.τ).loc Cert.GoRefIdeal.main_arg4))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2))
      ∧ r.2.sem = fun _ => 0)

def quiescent_Di [hDi : Cert.Di.Facts] : Prop :=
  ∀ (m : (ℓ : Loc Cert.Di.nD Cert.Di.τ Cert.Di.sig) → Buf (Elt Bits) ℓ) (g : Dev Cert.Di.nD → PrngReg), Pre_Di m →
    θ_run (Cert.Di.defs (F := Bits)) (onTc (τ := Cert.Di.τ) (Cert.Di.main (F := Bits))) ⟨m, fun _ => 0, g⟩ (fun r => (∀ c : Dev Cert.Di.nD,
      r.2.mem ((c.tc : Thread Cert.Di.nD Cert.Di.τ).loc Cert.Di.main_arg0) = m ((c.tc : Thread Cert.Di.nD Cert.Di.τ).loc Cert.Di.main_arg0)
      ∧ r.2.mem ((c.tc : Thread Cert.Di.nD Cert.Di.τ).loc Cert.Di.main_arg1) = m ((c.tc : Thread Cert.Di.nD Cert.Di.τ).loc Cert.Di.main_arg1)
      ∧ r.2.mem ((c.tc : Thread Cert.Di.nD Cert.Di.τ).loc Cert.Di.main_arg2) = m ((c.tc : Thread Cert.Di.nD Cert.Di.τ).loc Cert.Di.main_arg2))
      ∧ r.2.sem = fun _ => 0)

def quiescent_DiIdeal [hDiIdeal : Cert.DiIdeal.Facts] : Prop :=
  ∀ (m : (ℓ : Loc Cert.DiIdeal.nD Cert.DiIdeal.τ Cert.DiIdeal.sig) → Buf (Elt Ideal) ℓ) (g : Dev Cert.DiIdeal.nD → PrngReg), Pre_DiIdeal m →
    θ_run (Cert.DiIdeal.defs (F := Ideal)) (onTc (τ := Cert.DiIdeal.τ) (Cert.DiIdeal.main (F := Ideal))) ⟨m, fun _ => 0, g⟩ (fun r => (∀ c : Dev Cert.DiIdeal.nD,
      r.2.mem ((c.tc : Thread Cert.DiIdeal.nD Cert.DiIdeal.τ).loc Cert.DiIdeal.main_arg0) = m ((c.tc : Thread Cert.DiIdeal.nD Cert.DiIdeal.τ).loc Cert.DiIdeal.main_arg0)
      ∧ r.2.mem ((c.tc : Thread Cert.DiIdeal.nD Cert.DiIdeal.τ).loc Cert.DiIdeal.main_arg1) = m ((c.tc : Thread Cert.DiIdeal.nD Cert.DiIdeal.τ).loc Cert.DiIdeal.main_arg1)
      ∧ r.2.mem ((c.tc : Thread Cert.DiIdeal.nD Cert.DiIdeal.τ).loc Cert.DiIdeal.main_arg2) = m ((c.tc : Thread Cert.DiIdeal.nD Cert.DiIdeal.τ).loc Cert.DiIdeal.main_arg2))
      ∧ r.2.sem = fun _ => 0)

def quiescent_DiRefIdeal [hDiRefIdeal : Cert.DiRefIdeal.Facts] : Prop :=
  ∀ (m : (ℓ : Loc Cert.DiRefIdeal.nD Cert.DiRefIdeal.τ Cert.DiRefIdeal.sig) → Buf (Elt Ideal) ℓ) (g : Dev Cert.DiRefIdeal.nD → PrngReg), Pre_DiRefIdeal m →
    θ_run (Cert.DiRefIdeal.defs (F := Ideal)) (onTc (τ := Cert.DiRefIdeal.τ) (Cert.DiRefIdeal.main (F := Ideal))) ⟨m, fun _ => 0, g⟩ (fun r => (∀ c : Dev Cert.DiRefIdeal.nD,
      r.2.mem ((c.tc : Thread Cert.DiRefIdeal.nD Cert.DiRefIdeal.τ).loc Cert.DiRefIdeal.main_arg0) = m ((c.tc : Thread Cert.DiRefIdeal.nD Cert.DiRefIdeal.τ).loc Cert.DiRefIdeal.main_arg0)
      ∧ r.2.mem ((c.tc : Thread Cert.DiRefIdeal.nD Cert.DiRefIdeal.τ).loc Cert.DiRefIdeal.main_arg1) = m ((c.tc : Thread Cert.DiRefIdeal.nD Cert.DiRefIdeal.τ).loc Cert.DiRefIdeal.main_arg1)
      ∧ r.2.mem ((c.tc : Thread Cert.DiRefIdeal.nD Cert.DiRefIdeal.τ).loc Cert.DiRefIdeal.main_arg2) = m ((c.tc : Thread Cert.DiRefIdeal.nD Cert.DiRefIdeal.τ).loc Cert.DiRefIdeal.main_arg2))
      ∧ r.2.sem = fun _ => 0)

def quiescent_Far [hFar : Cert.Far.Facts] : Prop :=
  ∀ (m : (ℓ : Loc Cert.Far.nD Cert.Far.τ Cert.Far.sig) → Buf (Elt Bits) ℓ) (g : Dev Cert.Far.nD → PrngReg), Pre_Far m →
    θ_run (Cert.Far.defs (F := Bits)) (onTc (τ := Cert.Far.τ) (Cert.Far.main (F := Bits))) ⟨m, fun _ => 0, g⟩ (fun r => (∀ c : Dev Cert.Far.nD,
      r.2.mem ((c.tc : Thread Cert.Far.nD Cert.Far.τ).loc Cert.Far.main_arg0) = m ((c.tc : Thread Cert.Far.nD Cert.Far.τ).loc Cert.Far.main_arg0)
      ∧ r.2.mem ((c.tc : Thread Cert.Far.nD Cert.Far.τ).loc Cert.Far.main_arg1) = m ((c.tc : Thread Cert.Far.nD Cert.Far.τ).loc Cert.Far.main_arg1)
      ∧ r.2.mem ((c.tc : Thread Cert.Far.nD Cert.Far.τ).loc Cert.Far.main_arg2) = m ((c.tc : Thread Cert.Far.nD Cert.Far.τ).loc Cert.Far.main_arg2)
      ∧ r.2.mem ((c.tc : Thread Cert.Far.nD Cert.Far.τ).loc Cert.Far.main_arg3) = m ((c.tc : Thread Cert.Far.nD Cert.Far.τ).loc Cert.Far.main_arg3)
      ∧ r.2.mem ((c.tc : Thread Cert.Far.nD Cert.Far.τ).loc Cert.Far.main_arg4) = m ((c.tc : Thread Cert.Far.nD Cert.Far.τ).loc Cert.Far.main_arg4)
      ∧ r.2.mem ((c.tc : Thread Cert.Far.nD Cert.Far.τ).loc Cert.Far.main_arg5) = m ((c.tc : Thread Cert.Far.nD Cert.Far.τ).loc Cert.Far.main_arg5))
      ∧ r.2.sem = fun _ => 0)

def quiescent_FarIdeal [hFarIdeal : Cert.FarIdeal.Facts] : Prop :=
  ∀ (m : (ℓ : Loc Cert.FarIdeal.nD Cert.FarIdeal.τ Cert.FarIdeal.sig) → Buf (Elt Ideal) ℓ) (g : Dev Cert.FarIdeal.nD → PrngReg), Pre_FarIdeal m →
    θ_run (Cert.FarIdeal.defs (F := Ideal)) (onTc (τ := Cert.FarIdeal.τ) (Cert.FarIdeal.main (F := Ideal))) ⟨m, fun _ => 0, g⟩ (fun r => (∀ c : Dev Cert.FarIdeal.nD,
      r.2.mem ((c.tc : Thread Cert.FarIdeal.nD Cert.FarIdeal.τ).loc Cert.FarIdeal.main_arg0) = m ((c.tc : Thread Cert.FarIdeal.nD Cert.FarIdeal.τ).loc Cert.FarIdeal.main_arg0)
      ∧ r.2.mem ((c.tc : Thread Cert.FarIdeal.nD Cert.FarIdeal.τ).loc Cert.FarIdeal.main_arg1) = m ((c.tc : Thread Cert.FarIdeal.nD Cert.FarIdeal.τ).loc Cert.FarIdeal.main_arg1)
      ∧ r.2.mem ((c.tc : Thread Cert.FarIdeal.nD Cert.FarIdeal.τ).loc Cert.FarIdeal.main_arg2) = m ((c.tc : Thread Cert.FarIdeal.nD Cert.FarIdeal.τ).loc Cert.FarIdeal.main_arg2)
      ∧ r.2.mem ((c.tc : Thread Cert.FarIdeal.nD Cert.FarIdeal.τ).loc Cert.FarIdeal.main_arg3) = m ((c.tc : Thread Cert.FarIdeal.nD Cert.FarIdeal.τ).loc Cert.FarIdeal.main_arg3)
      ∧ r.2.mem ((c.tc : Thread Cert.FarIdeal.nD Cert.FarIdeal.τ).loc Cert.FarIdeal.main_arg4) = m ((c.tc : Thread Cert.FarIdeal.nD Cert.FarIdeal.τ).loc Cert.FarIdeal.main_arg4)
      ∧ r.2.mem ((c.tc : Thread Cert.FarIdeal.nD Cert.FarIdeal.τ).loc Cert.FarIdeal.main_arg5) = m ((c.tc : Thread Cert.FarIdeal.nD Cert.FarIdeal.τ).loc Cert.FarIdeal.main_arg5))
      ∧ r.2.sem = fun _ => 0)

def quiescent_FarRefIdeal [hFarRefIdeal : Cert.FarRefIdeal.Facts] : Prop :=
  ∀ (m : (ℓ : Loc Cert.FarRefIdeal.nD Cert.FarRefIdeal.τ Cert.FarRefIdeal.sig) → Buf (Elt Ideal) ℓ) (g : Dev Cert.FarRefIdeal.nD → PrngReg), Pre_FarRefIdeal m →
    θ_run (Cert.FarRefIdeal.defs (F := Ideal)) (onTc (τ := Cert.FarRefIdeal.τ) (Cert.FarRefIdeal.main (F := Ideal))) ⟨m, fun _ => 0, g⟩ (fun r => (∀ c : Dev Cert.FarRefIdeal.nD,
      r.2.mem ((c.tc : Thread Cert.FarRefIdeal.nD Cert.FarRefIdeal.τ).loc Cert.FarRefIdeal.main_arg0) = m ((c.tc : Thread Cert.FarRefIdeal.nD Cert.FarRefIdeal.τ).loc Cert.FarRefIdeal.main_arg0)
      ∧ r.2.mem ((c.tc : Thread Cert.FarRefIdeal.nD Cert.FarRefIdeal.τ).loc Cert.FarRefIdeal.main_arg1) = m ((c.tc : Thread Cert.FarRefIdeal.nD Cert.FarRefIdeal.τ).loc Cert.FarRefIdeal.main_arg1)
      ∧ r.2.mem ((c.tc : Thread Cert.FarRefIdeal.nD Cert.FarRefIdeal.τ).loc Cert.FarRefIdeal.main_arg2) = m ((c.tc : Thread Cert.FarRefIdeal.nD Cert.FarRefIdeal.τ).loc Cert.FarRefIdeal.main_arg2)
      ∧ r.2.mem ((c.tc : Thread Cert.FarRefIdeal.nD Cert.FarRefIdeal.τ).loc Cert.FarRefIdeal.main_arg3) = m ((c.tc : Thread Cert.FarRefIdeal.nD Cert.FarRefIdeal.τ).loc Cert.FarRefIdeal.main_arg3)
      ∧ r.2.mem ((c.tc : Thread Cert.FarRefIdeal.nD Cert.FarRefIdeal.τ).loc Cert.FarRefIdeal.main_arg4) = m ((c.tc : Thread Cert.FarRefIdeal.nD Cert.FarRefIdeal.τ).loc Cert.FarRefIdeal.main_arg4)
      ∧ r.2.mem ((c.tc : Thread Cert.FarRefIdeal.nD Cert.FarRefIdeal.τ).loc Cert.FarRefIdeal.main_arg5) = m ((c.tc : Thread Cert.FarRefIdeal.nD Cert.FarRefIdeal.τ).loc Cert.FarRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78_0)) (v1 : (c : Dev Cert.KernelIdeal.nD) → Buf (Elt Ideal) ((c.tc : Thread Cert.KernelIdeal.nD Cert.KernelIdeal.τ).loc Cert.KernelIdeal.main_v78_1)) (v2 : (c : Dev Cert.KernelIdeal.nD) → Buf (Elt Ideal) ((c.tc : Thread Cert.KernelIdeal.nD Cert.KernelIdeal.τ).loc Cert.KernelIdeal.main_v78_2)) (v3 : (c : Dev Cert.KernelIdeal.nD) → Buf (Elt Ideal) ((c.tc : Thread Cert.KernelIdeal.nD Cert.KernelIdeal.τ).loc Cert.KernelIdeal.main_v78_3)) (v4 : (c : Dev Cert.KernelIdeal.nD) → Buf (Elt Ideal) ((c.tc : Thread Cert.KernelIdeal.nD Cert.KernelIdeal.τ).loc Cert.KernelIdeal.main_v78_4)) (v5 : (c : Dev Cert.KernelIdeal.nD) → Buf (Elt Ideal) ((c.tc : Thread Cert.KernelIdeal.nD Cert.KernelIdeal.τ).loc Cert.KernelIdeal.main_v78_5)) (v6 : (c : Dev Cert.KernelIdeal.nD) → Buf (Elt Ideal) ((c.tc : Thread Cert.KernelIdeal.nD Cert.KernelIdeal.τ).loc Cert.KernelIdeal.main_v78_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78_0) = v0 c
          ∧ r.2.mem ((c.tc : Thread Cert.KernelIdeal.nD Cert.KernelIdeal.τ).loc Cert.KernelIdeal.main_v78_1) = v1 c
          ∧ r.2.mem ((c.tc : Thread Cert.KernelIdeal.nD Cert.KernelIdeal.τ).loc Cert.KernelIdeal.main_v78_2) = v2 c
          ∧ r.2.mem ((c.tc : Thread Cert.KernelIdeal.nD Cert.KernelIdeal.τ).loc Cert.KernelIdeal.main_v78_3) = v3 c
          ∧ r.2.mem ((c.tc : Thread Cert.KernelIdeal.nD Cert.KernelIdeal.τ).loc Cert.KernelIdeal.main_v78_4) = v4 c
          ∧ r.2.mem ((c.tc : Thread Cert.KernelIdeal.nD Cert.KernelIdeal.τ).loc Cert.KernelIdeal.main_v78_5) = v5 c
          ∧ r.2.mem ((c.tc : Thread Cert.KernelIdeal.nD Cert.KernelIdeal.τ).loc Cert.KernelIdeal.main_v78_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_v208) = v1 c
          ∧ r.2.mem ((c.tc : Thread Cert.ReferenceIdeal.nD Cert.ReferenceIdeal.τ).loc Cert.ReferenceIdeal.main_v209) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_v210) = v4 c
          ∧ r.2.mem ((c.tc : Thread Cert.ReferenceIdeal.nD Cert.ReferenceIdeal.τ).loc Cert.ReferenceIdeal.main_v153) = v5 c
          ∧ r.2.mem ((c.tc : Thread Cert.ReferenceIdeal.nD Cert.ReferenceIdeal.τ).loc Cert.ReferenceIdeal.main_v147) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)
      ∧ m' ((c.tc : Thread Cert.DzRefIdeal.nD Cert.DzRefIdeal.τ).loc Cert.DzRefIdeal.main_arg2) = m ((c.tc : Thread Cert.DzIdeal.nD Cert.DzIdeal.τ).loc Cert.DzIdeal.main_arg2)) →
    ∃ (v0 : (c : Dev Cert.DzIdeal.nD) → Buf (Elt Ideal) ((c.tc : Thread Cert.DzIdeal.nD Cert.DzIdeal.τ).loc Cert.DzIdeal.main_v5)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v5) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1)
          ∧ r.2.mem ((c.tc : Thread Cert.DzIdeal.nD Cert.DzIdeal.τ).loc Cert.DzIdeal.main_arg2) = m ((c.tc : Thread Cert.DzIdeal.nD Cert.DzIdeal.τ).loc Cert.DzIdeal.main_arg2))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v13) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1)
          ∧ r.2.mem ((c.tc : Thread Cert.DzRefIdeal.nD Cert.DzRefIdeal.τ).loc Cert.DzRefIdeal.main_arg2) = m' ((c.tc : Thread Cert.DzRefIdeal.nD Cert.DzRefIdeal.τ).loc Cert.DzRefIdeal.main_arg2))

def preserves_Dn_DnIdeal : Prop :=
  True

def algebraic_DnIdeal_DnRefIdeal [hDnIdeal : Cert.DnIdeal.Facts] [hDnRefIdeal : Cert.DnRefIdeal.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)
      ∧ m' ((c.tc : Thread Cert.DnRefIdeal.nD Cert.DnRefIdeal.τ).loc Cert.DnRefIdeal.main_arg2) = m ((c.tc : Thread Cert.DnIdeal.nD Cert.DnIdeal.τ).loc Cert.DnIdeal.main_arg2)) →
    ∃ (v0 : (c : Dev Cert.DnIdeal.nD) → Buf (Elt Ideal) ((c.tc : Thread Cert.DnIdeal.nD Cert.DnIdeal.τ).loc Cert.DnIdeal.main_v5)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v5) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
          ∧ r.2.mem ((c.tc : Thread Cert.DnIdeal.nD Cert.DnIdeal.τ).loc Cert.DnIdeal.main_arg2) = m ((c.tc : Thread Cert.DnIdeal.nD Cert.DnIdeal.τ).loc Cert.DnIdeal.main_arg2))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v2) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2))

def preserves_Gd_GdIdeal : Prop :=
  True

def algebraic_GdIdeal_GdRefIdeal [hGdIdeal : Cert.GdIdeal.Facts] [hGdRefIdeal : Cert.GdRefIdeal.Facts] : Prop :=
  ∀ (m : (ℓ : Loc Cert.GdIdeal.nD Cert.GdIdeal.τ Cert.GdIdeal.sig) → Buf (Elt Ideal) ℓ) (g : Dev Cert.GdIdeal.nD → PrngReg)
    (m' : (ℓ : Loc Cert.GdRefIdeal.nD Cert.GdRefIdeal.τ Cert.GdRefIdeal.sig) → Buf (Elt Ideal) ℓ) (g' : Dev Cert.GdRefIdeal.nD → PrngReg), Pre_GdIdeal m →
    (∀ c : Dev Cert.GdIdeal.nD,
      m' ((c.tc : Thread Cert.GdRefIdeal.nD Cert.GdRefIdeal.τ).loc Cert.GdRefIdeal.main_arg0) = m ((c.tc : Thread Cert.GdIdeal.nD Cert.GdIdeal.τ).loc Cert.GdIdeal.main_arg0)
      ∧ m' ((c.tc : Thread Cert.GdRefIdeal.nD Cert.GdRefIdeal.τ).loc Cert.GdRefIdeal.main_arg1) = m ((c.tc : Thread Cert.GdIdeal.nD Cert.GdIdeal.τ).loc Cert.GdIdeal.main_arg1)
      ∧ m' ((c.tc : Thread Cert.GdRefIdeal.nD Cert.GdRefIdeal.τ).loc Cert.GdRefIdeal.main_arg2) = m ((c.tc : Thread Cert.GdIdeal.nD Cert.GdIdeal.τ).loc Cert.GdIdeal.main_arg2)
      ∧ m' ((c.tc : Thread Cert.GdRefIdeal.nD Cert.GdRefIdeal.τ).loc Cert.GdRefIdeal.main_arg3) = m ((c.tc : Thread Cert.GdIdeal.nD Cert.GdIdeal.τ).loc Cert.GdIdeal.main_arg3)
      ∧ m' ((c.tc : Thread Cert.GdRefIdeal.nD Cert.GdRefIdeal.τ).loc Cert.GdRefIdeal.main_arg4) = m ((c.tc : Thread Cert.GdIdeal.nD Cert.GdIdeal.τ).loc Cert.GdIdeal.main_arg4)) →
    ∃ (v0 : (c : Dev Cert.GdIdeal.nD) → Buf (Elt Ideal) ((c.tc : Thread Cert.GdIdeal.nD Cert.GdIdeal.τ).loc Cert.GdIdeal.main_v14_0)) (v1 : (c : Dev Cert.GdIdeal.nD) → Buf (Elt Ideal) ((c.tc : Thread Cert.GdIdeal.nD Cert.GdIdeal.τ).loc Cert.GdIdeal.main_v14_1)),
      θ_run (Cert.GdIdeal.defs (F := Ideal)) (onTc (τ := Cert.GdIdeal.τ) (Cert.GdIdeal.main (F := Ideal))) ⟨m, fun _ => 0, g⟩ (fun r => ∀ c : Dev Cert.GdIdeal.nD,
          r.2.mem ((c.tc : Thread Cert.GdIdeal.nD Cert.GdIdeal.τ).loc Cert.GdIdeal.main_v14_0) = v0 c
          ∧ r.2.mem ((c.tc : Thread Cert.GdIdeal.nD Cert.GdIdeal.τ).loc Cert.GdIdeal.main_v14_1) = v1 c
          ∧ r.2.mem ((c.tc : Thread Cert.GdIdeal.nD Cert.GdIdeal.τ).loc Cert.GdIdeal.main_arg0) = m ((c.tc : Thread Cert.GdIdeal.nD Cert.GdIdeal.τ).loc Cert.GdIdeal.main_arg0)
          ∧ r.2.mem ((c.tc : Thread Cert.GdIdeal.nD Cert.GdIdeal.τ).loc Cert.GdIdeal.main_arg1) = m ((c.tc : Thread Cert.GdIdeal.nD Cert.GdIdeal.τ).loc Cert.GdIdeal.main_arg1)
          ∧ r.2.mem ((c.tc : Thread Cert.GdIdeal.nD Cert.GdIdeal.τ).loc Cert.GdIdeal.main_arg2) = m ((c.tc : Thread Cert.GdIdeal.nD Cert.GdIdeal.τ).loc Cert.GdIdeal.main_arg2)
          ∧ r.2.mem ((c.tc : Thread Cert.GdIdeal.nD Cert.GdIdeal.τ).loc Cert.GdIdeal.main_arg3) = m ((c.tc : Thread Cert.GdIdeal.nD Cert.GdIdeal.τ).loc Cert.GdIdeal.main_arg3)
          ∧ r.2.mem ((c.tc : Thread Cert.GdIdeal.nD Cert.GdIdeal.τ).loc Cert.GdIdeal.main_arg4) = m ((c.tc : Thread Cert.GdIdeal.nD Cert.GdIdeal.τ).loc Cert.GdIdeal.main_arg4))
      ∧ θ_run (Cert.GdRefIdeal.defs (F := Ideal)) (onTc (τ := Cert.GdRefIdeal.τ) (Cert.GdRefIdeal.main (F := Ideal))) ⟨m', fun _ => 0, g'⟩ (fun r => ∀ c : Dev Cert.GdRefIdeal.nD,
          r.2.mem ((c.tc : Thread Cert.GdRefIdeal.nD Cert.GdRefIdeal.τ).loc Cert.GdRefIdeal.main_v10) = v0 c
          ∧ r.2.mem ((c.tc : Thread Cert.GdRefIdeal.nD Cert.GdRefIdeal.τ).loc Cert.GdRefIdeal.main_v11) = v1 c
          ∧ r.2.mem ((c.tc : Thread Cert.GdRefIdeal.nD Cert.GdRefIdeal.τ).loc Cert.GdRefIdeal.main_arg0) = m' ((c.tc : Thread Cert.GdRefIdeal.nD Cert.GdRefIdeal.τ).loc Cert.GdRefIdeal.main_arg0)
          ∧ r.2.mem ((c.tc : Thread Cert.GdRefIdeal.nD Cert.GdRefIdeal.τ).loc Cert.GdRefIdeal.main_arg1) = m' ((c.tc : Thread Cert.GdRefIdeal.nD Cert.GdRefIdeal.τ).loc Cert.GdRefIdeal.main_arg1)
          ∧ r.2.mem ((c.tc : Thread Cert.GdRefIdeal.nD Cert.GdRefIdeal.τ).loc Cert.GdRefIdeal.main_arg2) = m' ((c.tc : Thread Cert.GdRefIdeal.nD Cert.GdRefIdeal.τ).loc Cert.GdRefIdeal.main_arg2)
          ∧ r.2.mem ((c.tc : Thread Cert.GdRefIdeal.nD Cert.GdRefIdeal.τ).loc Cert.GdRefIdeal.main_arg3) = m' ((c.tc : Thread Cert.GdRefIdeal.nD Cert.GdRefIdeal.τ).loc Cert.GdRefIdeal.main_arg3)
          ∧ r.2.mem ((c.tc : Thread Cert.GdRefIdeal.nD Cert.GdRefIdeal.τ).loc Cert.GdRefIdeal.main_arg4) = m' ((c.tc : Thread Cert.GdRefIdeal.nD Cert.GdRefIdeal.τ).loc Cert.GdRefIdeal.main_arg4))

def preserves_Gu_GuIdeal : Prop :=
  True

def algebraic_GuIdeal_GuRefIdeal [hGuIdeal : Cert.GuIdeal.Facts] [hGuRefIdeal : Cert.GuRefIdeal.Facts] : Prop :=
  ∀ (m : (ℓ : Loc Cert.GuIdeal.nD Cert.GuIdeal.τ Cert.GuIdeal.sig) → Buf (Elt Ideal) ℓ) (g : Dev Cert.GuIdeal.nD → PrngReg)
    (m' : (ℓ : Loc Cert.GuRefIdeal.nD Cert.GuRefIdeal.τ Cert.GuRefIdeal.sig) → Buf (Elt Ideal) ℓ) (g' : Dev Cert.GuRefIdeal.nD → PrngReg), Pre_GuIdeal m →
    (∀ c : Dev Cert.GuIdeal.nD,
      m' ((c.tc : Thread Cert.GuRefIdeal.nD Cert.GuRefIdeal.τ).loc Cert.GuRefIdeal.main_arg0) = m ((c.tc : Thread Cert.GuIdeal.nD Cert.GuIdeal.τ).loc Cert.GuIdeal.main_arg0)
      ∧ m' ((c.tc : Thread Cert.GuRefIdeal.nD Cert.GuRefIdeal.τ).loc Cert.GuRefIdeal.main_arg1) = m ((c.tc : Thread Cert.GuIdeal.nD Cert.GuIdeal.τ).loc Cert.GuIdeal.main_arg1)
      ∧ m' ((c.tc : Thread Cert.GuRefIdeal.nD Cert.GuRefIdeal.τ).loc Cert.GuRefIdeal.main_arg2) = m ((c.tc : Thread Cert.GuIdeal.nD Cert.GuIdeal.τ).loc Cert.GuIdeal.main_arg2)
      ∧ m' ((c.tc : Thread Cert.GuRefIdeal.nD Cert.GuRefIdeal.τ).loc Cert.GuRefIdeal.main_arg3) = m ((c.tc : Thread Cert.GuIdeal.nD Cert.GuIdeal.τ).loc Cert.GuIdeal.main_arg3)
      ∧ m' ((c.tc : Thread Cert.GuRefIdeal.nD Cert.GuRefIdeal.τ).loc Cert.GuRefIdeal.main_arg4) = m ((c.tc : Thread Cert.GuIdeal.nD Cert.GuIdeal.τ).loc Cert.GuIdeal.main_arg4)) →
    ∃ (v0 : (c : Dev Cert.GuIdeal.nD) → Buf (Elt Ideal) ((c.tc : Thread Cert.GuIdeal.nD Cert.GuIdeal.τ).loc Cert.GuIdeal.main_v10_0)) (v1 : (c : Dev Cert.GuIdeal.nD) → Buf (Elt Ideal) ((c.tc : Thread Cert.GuIdeal.nD Cert.GuIdeal.τ).loc Cert.GuIdeal.main_v10_1)),
      θ_run (Cert.GuIdeal.defs (F := Ideal)) (onTc (τ := Cert.GuIdeal.τ) (Cert.GuIdeal.main (F := Ideal))) ⟨m, fun _ => 0, g⟩ (fun r => ∀ c : Dev Cert.GuIdeal.nD,
          r.2.mem ((c.tc : Thread Cert.GuIdeal.nD Cert.GuIdeal.τ).loc Cert.GuIdeal.main_v10_0) = v0 c
          ∧ r.2.mem ((c.tc : Thread Cert.GuIdeal.nD Cert.GuIdeal.τ).loc Cert.GuIdeal.main_v10_1) = v1 c
          ∧ r.2.mem ((c.tc : Thread Cert.GuIdeal.nD Cert.GuIdeal.τ).loc Cert.GuIdeal.main_arg0) = m ((c.tc : Thread Cert.GuIdeal.nD Cert.GuIdeal.τ).loc Cert.GuIdeal.main_arg0)
          ∧ r.2.mem ((c.tc : Thread Cert.GuIdeal.nD Cert.GuIdeal.τ).loc Cert.GuIdeal.main_arg1) = m ((c.tc : Thread Cert.GuIdeal.nD Cert.GuIdeal.τ).loc Cert.GuIdeal.main_arg1)
          ∧ r.2.mem ((c.tc : Thread Cert.GuIdeal.nD Cert.GuIdeal.τ).loc Cert.GuIdeal.main_arg2) = m ((c.tc : Thread Cert.GuIdeal.nD Cert.GuIdeal.τ).loc Cert.GuIdeal.main_arg2)
          ∧ r.2.mem ((c.tc : Thread Cert.GuIdeal.nD Cert.GuIdeal.τ).loc Cert.GuIdeal.main_arg3) = m ((c.tc : Thread Cert.GuIdeal.nD Cert.GuIdeal.τ).loc Cert.GuIdeal.main_arg3)
          ∧ r.2.mem ((c.tc : Thread Cert.GuIdeal.nD Cert.GuIdeal.τ).loc Cert.GuIdeal.main_arg4) = m ((c.tc : Thread Cert.GuIdeal.nD Cert.GuIdeal.τ).loc Cert.GuIdeal.main_arg4))
      ∧ θ_run (Cert.GuRefIdeal.defs (F := Ideal)) (onTc (τ := Cert.GuRefIdeal.τ) (Cert.GuRefIdeal.main (F := Ideal))) ⟨m', fun _ => 0, g'⟩ (fun r => ∀ c : Dev Cert.GuRefIdeal.nD,
          r.2.mem ((c.tc : Thread Cert.GuRefIdeal.nD Cert.GuRefIdeal.τ).loc Cert.GuRefIdeal.main_v8) = v0 c
          ∧ r.2.mem ((c.tc : Thread Cert.GuRefIdeal.nD Cert.GuRefIdeal.τ).loc Cert.GuRefIdeal.main_v9) = v1 c
          ∧ r.2.mem ((c.tc : Thread Cert.GuRefIdeal.nD Cert.GuRefIdeal.τ).loc Cert.GuRefIdeal.main_arg0) = m' ((c.tc : Thread Cert.GuRefIdeal.nD Cert.GuRefIdeal.τ).loc Cert.GuRefIdeal.main_arg0)
          ∧ r.2.mem ((c.tc : Thread Cert.GuRefIdeal.nD Cert.GuRefIdeal.τ).loc Cert.GuRefIdeal.main_arg1) = m' ((c.tc : Thread Cert.GuRefIdeal.nD Cert.GuRefIdeal.τ).loc Cert.GuRefIdeal.main_arg1)
          ∧ r.2.mem ((c.tc : Thread Cert.GuRefIdeal.nD Cert.GuRefIdeal.τ).loc Cert.GuRefIdeal.main_arg2) = m' ((c.tc : Thread Cert.GuRefIdeal.nD Cert.GuRefIdeal.τ).loc Cert.GuRefIdeal.main_arg2)
          ∧ r.2.mem ((c.tc : Thread Cert.GuRefIdeal.nD Cert.GuRefIdeal.τ).loc Cert.GuRefIdeal.main_arg3) = m' ((c.tc : Thread Cert.GuRefIdeal.nD Cert.GuRefIdeal.τ).loc Cert.GuRefIdeal.main_arg3)
          ∧ r.2.mem ((c.tc : Thread Cert.GuRefIdeal.nD Cert.GuRefIdeal.τ).loc Cert.GuRefIdeal.main_arg4) = m' ((c.tc : Thread Cert.GuRefIdeal.nD Cert.GuRefIdeal.τ).loc Cert.GuRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Dm_DmIdeal : Prop :=
  True

def algebraic_DmIdeal_DmRefIdeal [hDmIdeal : Cert.DmIdeal.Facts] [hDmRefIdeal : Cert.DmRefIdeal.Facts] : Prop :=
  ∀ (m : (ℓ : Loc Cert.DmIdeal.nD Cert.DmIdeal.τ Cert.DmIdeal.sig) → Buf (Elt Ideal) ℓ) (g : Dev Cert.DmIdeal.nD → PrngReg)
    (m' : (ℓ : Loc Cert.DmRefIdeal.nD Cert.DmRefIdeal.τ Cert.DmRefIdeal.sig) → Buf (Elt Ideal) ℓ) (g' : Dev Cert.DmRefIdeal.nD → PrngReg), Pre_DmIdeal m →
    (∀ c : Dev Cert.DmIdeal.nD,
      m' ((c.tc : Thread Cert.DmRefIdeal.nD Cert.DmRefIdeal.τ).loc Cert.DmRefIdeal.main_arg0) = m ((c.tc : Thread Cert.DmIdeal.nD Cert.DmIdeal.τ).loc Cert.DmIdeal.main_arg0)
      ∧ m' ((c.tc : Thread Cert.DmRefIdeal.nD Cert.DmRefIdeal.τ).loc Cert.DmRefIdeal.main_arg1) = m ((c.tc : Thread Cert.DmIdeal.nD Cert.DmIdeal.τ).loc Cert.DmIdeal.main_arg1)
      ∧ m' ((c.tc : Thread Cert.DmRefIdeal.nD Cert.DmRefIdeal.τ).loc Cert.DmRefIdeal.main_arg2) = m ((c.tc : Thread Cert.DmIdeal.nD Cert.DmIdeal.τ).loc Cert.DmIdeal.main_arg2)) →
    ∃ (v0 : (c : Dev Cert.DmIdeal.nD) → Buf (Elt Ideal) ((c.tc : Thread Cert.DmIdeal.nD Cert.DmIdeal.τ).loc Cert.DmIdeal.main_v3)),
      θ_run (Cert.DmIdeal.defs (F := Ideal)) (onTc (τ := Cert.DmIdeal.τ) (Cert.DmIdeal.main (F := Ideal))) ⟨m, fun _ => 0, g⟩ (fun r => ∀ c : Dev Cert.DmIdeal.nD,
          r.2.mem ((c.tc : Thread Cert.DmIdeal.nD Cert.DmIdeal.τ).loc Cert.DmIdeal.main_v3) = v0 c
          ∧ r.2.mem ((c.tc : Thread Cert.DmIdeal.nD Cert.DmIdeal.τ).loc Cert.DmIdeal.main_arg0) = m ((c.tc : Thread Cert.DmIdeal.nD Cert.DmIdeal.τ).loc Cert.DmIdeal.main_arg0)
          ∧ r.2.mem ((c.tc : Thread Cert.DmIdeal.nD Cert.DmIdeal.τ).loc Cert.DmIdeal.main_arg1) = m ((c.tc : Thread Cert.DmIdeal.nD Cert.DmIdeal.τ).loc Cert.DmIdeal.main_arg1)
          ∧ r.2.mem ((c.tc : Thread Cert.DmIdeal.nD Cert.DmIdeal.τ).loc Cert.DmIdeal.main_arg2) = m ((c.tc : Thread Cert.DmIdeal.nD Cert.DmIdeal.τ).loc Cert.DmIdeal.main_arg2))
      ∧ θ_run (Cert.DmRefIdeal.defs (F := Ideal)) (onTc (τ := Cert.DmRefIdeal.τ) (Cert.DmRefIdeal.main (F := Ideal))) ⟨m', fun _ => 0, g'⟩ (fun r => ∀ c : Dev Cert.DmRefIdeal.nD,
          r.2.mem ((c.tc : Thread Cert.DmRefIdeal.nD Cert.DmRefIdeal.τ).loc Cert.DmRefIdeal.main_v2) = v0 c
          ∧ r.2.mem ((c.tc : Thread Cert.DmRefIdeal.nD Cert.DmRefIdeal.τ).loc Cert.DmRefIdeal.main_arg0) = m' ((c.tc : Thread Cert.DmRefIdeal.nD Cert.DmRefIdeal.τ).loc Cert.DmRefIdeal.main_arg0)
          ∧ r.2.mem ((c.tc : Thread Cert.DmRefIdeal.nD Cert.DmRefIdeal.τ).loc Cert.DmRefIdeal.main_arg1) = m' ((c.tc : Thread Cert.DmRefIdeal.nD Cert.DmRefIdeal.τ).loc Cert.DmRefIdeal.main_arg1)
          ∧ r.2.mem ((c.tc : Thread Cert.DmRefIdeal.nD Cert.DmRefIdeal.τ).loc Cert.DmRefIdeal.main_arg2) = m' ((c.tc : Thread Cert.DmRefIdeal.nD Cert.DmRefIdeal.τ).loc Cert.DmRefIdeal.main_arg2))

def preserves_Go_GoIdeal : Prop :=
  True

def algebraic_GoIdeal_GoRefIdeal [hGoIdeal : Cert.GoIdeal.Facts] [hGoRefIdeal : Cert.GoRefIdeal.Facts] : Prop :=
  ∀ (m : (ℓ : Loc Cert.GoIdeal.nD Cert.GoIdeal.τ Cert.GoIdeal.sig) → Buf (Elt Ideal) ℓ) (g : Dev Cert.GoIdeal.nD → PrngReg)
    (m' : (ℓ : Loc Cert.GoRefIdeal.nD Cert.GoRefIdeal.τ Cert.GoRefIdeal.sig) → Buf (Elt Ideal) ℓ) (g' : Dev Cert.GoRefIdeal.nD → PrngReg), Pre_GoIdeal m →
    (∀ c : Dev Cert.GoIdeal.nD,
      m' ((c.tc : Thread Cert.GoRefIdeal.nD Cert.GoRefIdeal.τ).loc Cert.GoRefIdeal.main_arg0) = m ((c.tc : Thread Cert.GoIdeal.nD Cert.GoIdeal.τ).loc Cert.GoIdeal.main_arg0)
      ∧ m' ((c.tc : Thread Cert.GoRefIdeal.nD Cert.GoRefIdeal.τ).loc Cert.GoRefIdeal.main_arg1) = m ((c.tc : Thread Cert.GoIdeal.nD Cert.GoIdeal.τ).loc Cert.GoIdeal.main_arg1)
      ∧ m' ((c.tc : Thread Cert.GoRefIdeal.nD Cert.GoRefIdeal.τ).loc Cert.GoRefIdeal.main_arg2) = m ((c.tc : Thread Cert.GoIdeal.nD Cert.GoIdeal.τ).loc Cert.GoIdeal.main_arg2)
      ∧ m' ((c.tc : Thread Cert.GoRefIdeal.nD Cert.GoRefIdeal.τ).loc Cert.GoRefIdeal.main_arg3) = m ((c.tc : Thread Cert.GoIdeal.nD Cert.GoIdeal.τ).loc Cert.GoIdeal.main_arg3)
      ∧ m' ((c.tc : Thread Cert.GoRefIdeal.nD Cert.GoRefIdeal.τ).loc Cert.GoRefIdeal.main_arg4) = m ((c.tc : Thread Cert.GoIdeal.nD Cert.GoIdeal.τ).loc Cert.GoIdeal.main_arg4)) →
    ∃ (v0 : (c : Dev Cert.GoIdeal.nD) → Buf (Elt Ideal) ((c.tc : Thread Cert.GoIdeal.nD Cert.GoIdeal.τ).loc Cert.GoIdeal.main_v10_0)) (v1 : (c : Dev Cert.GoIdeal.nD) → Buf (Elt Ideal) ((c.tc : Thread Cert.GoIdeal.nD Cert.GoIdeal.τ).loc Cert.GoIdeal.main_v10_1)),
      θ_run (Cert.GoIdeal.defs (F := Ideal)) (onTc (τ := Cert.GoIdeal.τ) (Cert.GoIdeal.main (F := Ideal))) ⟨m, fun _ => 0, g⟩ (fun r => ∀ c : Dev Cert.GoIdeal.nD,
          r.2.mem ((c.tc : Thread Cert.GoIdeal.nD Cert.GoIdeal.τ).loc Cert.GoIdeal.main_v10_0) = v0 c
          ∧ r.2.mem ((c.tc : Thread Cert.GoIdeal.nD Cert.GoIdeal.τ).loc Cert.GoIdeal.main_v10_1) = v1 c
          ∧ r.2.mem ((c.tc : Thread Cert.GoIdeal.nD Cert.GoIdeal.τ).loc Cert.GoIdeal.main_arg0) = m ((c.tc : Thread Cert.GoIdeal.nD Cert.GoIdeal.τ).loc Cert.GoIdeal.main_arg0)
          ∧ r.2.mem ((c.tc : Thread Cert.GoIdeal.nD Cert.GoIdeal.τ).loc Cert.GoIdeal.main_arg1) = m ((c.tc : Thread Cert.GoIdeal.nD Cert.GoIdeal.τ).loc Cert.GoIdeal.main_arg1)
          ∧ r.2.mem ((c.tc : Thread Cert.GoIdeal.nD Cert.GoIdeal.τ).loc Cert.GoIdeal.main_arg2) = m ((c.tc : Thread Cert.GoIdeal.nD Cert.GoIdeal.τ).loc Cert.GoIdeal.main_arg2)
          ∧ r.2.mem ((c.tc : Thread Cert.GoIdeal.nD Cert.GoIdeal.τ).loc Cert.GoIdeal.main_arg3) = m ((c.tc : Thread Cert.GoIdeal.nD Cert.GoIdeal.τ).loc Cert.GoIdeal.main_arg3)
          ∧ r.2.mem ((c.tc : Thread Cert.GoIdeal.nD Cert.GoIdeal.τ).loc Cert.GoIdeal.main_arg4) = m ((c.tc : Thread Cert.GoIdeal.nD Cert.GoIdeal.τ).loc Cert.GoIdeal.main_arg4))
      ∧ θ_run (Cert.GoRefIdeal.defs (F := Ideal)) (onTc (τ := Cert.GoRefIdeal.τ) (Cert.GoRefIdeal.main (F := Ideal))) ⟨m', fun _ => 0, g'⟩ (fun r => ∀ c : Dev Cert.GoRefIdeal.nD,
          r.2.mem ((c.tc : Thread Cert.GoRefIdeal.nD Cert.GoRefIdeal.τ).loc Cert.GoRefIdeal.main_v8) = v0 c
          ∧ r.2.mem ((c.tc : Thread Cert.GoRefIdeal.nD Cert.GoRefIdeal.τ).loc Cert.GoRefIdeal.main_v9) = v1 c
          ∧ r.2.mem ((c.tc : Thread Cert.GoRefIdeal.nD Cert.GoRefIdeal.τ).loc Cert.GoRefIdeal.main_arg0) = m' ((c.tc : Thread Cert.GoRefIdeal.nD Cert.GoRefIdeal.τ).loc Cert.GoRefIdeal.main_arg0)
          ∧ r.2.mem ((c.tc : Thread Cert.GoRefIdeal.nD Cert.GoRefIdeal.τ).loc Cert.GoRefIdeal.main_arg1) = m' ((c.tc : Thread Cert.GoRefIdeal.nD Cert.GoRefIdeal.τ).loc Cert.GoRefIdeal.main_arg1)
          ∧ r.2.mem ((c.tc : Thread Cert.GoRefIdeal.nD Cert.GoRefIdeal.τ).loc Cert.GoRefIdeal.main_arg2) = m' ((c.tc : Thread Cert.GoRefIdeal.nD Cert.GoRefIdeal.τ).loc Cert.GoRefIdeal.main_arg2)
          ∧ r.2.mem ((c.tc : Thread Cert.GoRefIdeal.nD Cert.GoRefIdeal.τ).loc Cert.GoRefIdeal.main_arg3) = m' ((c.tc : Thread Cert.GoRefIdeal.nD Cert.GoRefIdeal.τ).loc Cert.GoRefIdeal.main_arg3)
          ∧ r.2.mem ((c.tc : Thread Cert.GoRefIdeal.nD Cert.GoRefIdeal.τ).loc Cert.GoRefIdeal.main_arg4) = m' ((c.tc : Thread Cert.GoRefIdeal.nD Cert.GoRefIdeal.τ).loc Cert.GoRefIdeal.main_arg4))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)) →
    ∃ (v0 : (c : Dev Cert.InpIdeal.nD) → Buf (Elt Ideal) ((c.tc : Thread Cert.InpIdeal.nD Cert.InpIdeal.τ).loc Cert.InpIdeal.main_v3_0)) (v1 : (c : Dev Cert.InpIdeal.nD) → Buf (Elt Ideal) ((c.tc : Thread Cert.InpIdeal.nD Cert.InpIdeal.τ).loc Cert.InpIdeal.main_v3_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v3_0) = v0 c
          ∧ r.2.mem ((c.tc : Thread Cert.InpIdeal.nD Cert.InpIdeal.τ).loc Cert.InpIdeal.main_v3_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v17) = v0 c
          ∧ r.2.mem ((c.tc : Thread Cert.InpRefIdeal.nD Cert.InpRefIdeal.τ).loc Cert.InpRefIdeal.main_v19) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2))

def preserves_Di_DiIdeal : Prop :=
  True

def algebraic_DiIdeal_DiRefIdeal [hDiIdeal : Cert.DiIdeal.Facts] [hDiRefIdeal : Cert.DiRefIdeal.Facts] : Prop :=
  ∀ (m : (ℓ : Loc Cert.DiIdeal.nD Cert.DiIdeal.τ Cert.DiIdeal.sig) → Buf (Elt Ideal) ℓ) (g : Dev Cert.DiIdeal.nD → PrngReg)
    (m' : (ℓ : Loc Cert.DiRefIdeal.nD Cert.DiRefIdeal.τ Cert.DiRefIdeal.sig) → Buf (Elt Ideal) ℓ) (g' : Dev Cert.DiRefIdeal.nD → PrngReg), Pre_DiIdeal m →
    (∀ c : Dev Cert.DiIdeal.nD,
      m' ((c.tc : Thread Cert.DiRefIdeal.nD Cert.DiRefIdeal.τ).loc Cert.DiRefIdeal.main_arg0) = m ((c.tc : Thread Cert.DiIdeal.nD Cert.DiIdeal.τ).loc Cert.DiIdeal.main_arg0)
      ∧ m' ((c.tc : Thread Cert.DiRefIdeal.nD Cert.DiRefIdeal.τ).loc Cert.DiRefIdeal.main_arg1) = m ((c.tc : Thread Cert.DiIdeal.nD Cert.DiIdeal.τ).loc Cert.DiIdeal.main_arg1)
      ∧ m' ((c.tc : Thread Cert.DiRefIdeal.nD Cert.DiRefIdeal.τ).loc Cert.DiRefIdeal.main_arg2) = m ((c.tc : Thread Cert.DiIdeal.nD Cert.DiIdeal.τ).loc Cert.DiIdeal.main_arg2)) →
    ∃ (v0 : (c : Dev Cert.DiIdeal.nD) → Buf (Elt Ideal) ((c.tc : Thread Cert.DiIdeal.nD Cert.DiIdeal.τ).loc Cert.DiIdeal.main_v7)),
      θ_run (Cert.DiIdeal.defs (F := Ideal)) (onTc (τ := Cert.DiIdeal.τ) (Cert.DiIdeal.main (F := Ideal))) ⟨m, fun _ => 0, g⟩ (fun r => ∀ c : Dev Cert.DiIdeal.nD,
          r.2.mem ((c.tc : Thread Cert.DiIdeal.nD Cert.DiIdeal.τ).loc Cert.DiIdeal.main_v7) = v0 c
          ∧ r.2.mem ((c.tc : Thread Cert.DiIdeal.nD Cert.DiIdeal.τ).loc Cert.DiIdeal.main_arg0) = m ((c.tc : Thread Cert.DiIdeal.nD Cert.DiIdeal.τ).loc Cert.DiIdeal.main_arg0)
          ∧ r.2.mem ((c.tc : Thread Cert.DiIdeal.nD Cert.DiIdeal.τ).loc Cert.DiIdeal.main_arg1) = m ((c.tc : Thread Cert.DiIdeal.nD Cert.DiIdeal.τ).loc Cert.DiIdeal.main_arg1)
          ∧ r.2.mem ((c.tc : Thread Cert.DiIdeal.nD Cert.DiIdeal.τ).loc Cert.DiIdeal.main_arg2) = m ((c.tc : Thread Cert.DiIdeal.nD Cert.DiIdeal.τ).loc Cert.DiIdeal.main_arg2))
      ∧ θ_run (Cert.DiRefIdeal.defs (F := Ideal)) (onTc (τ := Cert.DiRefIdeal.τ) (Cert.DiRefIdeal.main (F := Ideal))) ⟨m', fun _ => 0, g'⟩ (fun r => ∀ c : Dev Cert.DiRefIdeal.nD,
          r.2.mem ((c.tc : Thread Cert.DiRefIdeal.nD Cert.DiRefIdeal.τ).loc Cert.DiRefIdeal.main_v2) = v0 c
          ∧ r.2.mem ((c.tc : Thread Cert.DiRefIdeal.nD Cert.DiRefIdeal.τ).loc Cert.DiRefIdeal.main_arg0) = m' ((c.tc : Thread Cert.DiRefIdeal.nD Cert.DiRefIdeal.τ).loc Cert.DiRefIdeal.main_arg0)
          ∧ r.2.mem ((c.tc : Thread Cert.DiRefIdeal.nD Cert.DiRefIdeal.τ).loc Cert.DiRefIdeal.main_arg1) = m' ((c.tc : Thread Cert.DiRefIdeal.nD Cert.DiRefIdeal.τ).loc Cert.DiRefIdeal.main_arg1)
          ∧ r.2.mem ((c.tc : Thread Cert.DiRefIdeal.nD Cert.DiRefIdeal.τ).loc Cert.DiRefIdeal.main_arg2) = m' ((c.tc : Thread Cert.DiRefIdeal.nD Cert.DiRefIdeal.τ).loc Cert.DiRefIdeal.main_arg2))

def preserves_Far_FarIdeal : Prop :=
  True

def algebraic_FarIdeal_FarRefIdeal [hFarIdeal : Cert.FarIdeal.Facts] [hFarRefIdeal : Cert.FarRefIdeal.Facts] : Prop :=
  ∀ (m : (ℓ : Loc Cert.FarIdeal.nD Cert.FarIdeal.τ Cert.FarIdeal.sig) → Buf (Elt Ideal) ℓ) (g : Dev Cert.FarIdeal.nD → PrngReg)
    (m' : (ℓ : Loc Cert.FarRefIdeal.nD Cert.FarRefIdeal.τ Cert.FarRefIdeal.sig) → Buf (Elt Ideal) ℓ) (g' : Dev Cert.FarRefIdeal.nD → PrngReg), Pre_FarIdeal m →
    (∀ c : Dev Cert.FarIdeal.nD,
      m' ((c.tc : Thread Cert.FarRefIdeal.nD Cert.FarRefIdeal.τ).loc Cert.FarRefIdeal.main_arg0) = m ((c.tc : Thread Cert.FarIdeal.nD Cert.FarIdeal.τ).loc Cert.FarIdeal.main_arg0)
      ∧ m' ((c.tc : Thread Cert.FarRefIdeal.nD Cert.FarRefIdeal.τ).loc Cert.FarRefIdeal.main_arg1) = m ((c.tc : Thread Cert.FarIdeal.nD Cert.FarIdeal.τ).loc Cert.FarIdeal.main_arg1)
      ∧ m' ((c.tc : Thread Cert.FarRefIdeal.nD Cert.FarRefIdeal.τ).loc Cert.FarRefIdeal.main_arg2) = m ((c.tc : Thread Cert.FarIdeal.nD Cert.FarIdeal.τ).loc Cert.FarIdeal.main_arg2)
      ∧ m' ((c.tc : Thread Cert.FarRefIdeal.nD Cert.FarRefIdeal.τ).loc Cert.FarRefIdeal.main_arg3) = m ((c.tc : Thread Cert.FarIdeal.nD Cert.FarIdeal.τ).loc Cert.FarIdeal.main_arg3)
      ∧ m' ((c.tc : Thread Cert.FarRefIdeal.nD Cert.FarRefIdeal.τ).loc Cert.FarRefIdeal.main_arg4) = m ((c.tc : Thread Cert.FarIdeal.nD Cert.FarIdeal.τ).loc Cert.FarIdeal.main_arg4)
      ∧ m' ((c.tc : Thread Cert.FarRefIdeal.nD Cert.FarRefIdeal.τ).loc Cert.FarRefIdeal.main_arg5) = m ((c.tc : Thread Cert.FarIdeal.nD Cert.FarIdeal.τ).loc Cert.FarIdeal.main_arg5)) →
    ∃ (v0 : (c : Dev Cert.FarIdeal.nD) → Buf (Elt Ideal) ((c.tc : Thread Cert.FarIdeal.nD Cert.FarIdeal.τ).loc Cert.FarIdeal.main_v13_0)),
      θ_run (Cert.FarIdeal.defs (F := Ideal)) (onTc (τ := Cert.FarIdeal.τ) (Cert.FarIdeal.main (F := Ideal))) ⟨m, fun _ => 0, g⟩ (fun r => ∀ c : Dev Cert.FarIdeal.nD,
          r.2.mem ((c.tc : Thread Cert.FarIdeal.nD Cert.FarIdeal.τ).loc Cert.FarIdeal.main_v13_0) = v0 c
          ∧ r.2.mem ((c.tc : Thread Cert.FarIdeal.nD Cert.FarIdeal.τ).loc Cert.FarIdeal.main_arg0) = m ((c.tc : Thread Cert.FarIdeal.nD Cert.FarIdeal.τ).loc Cert.FarIdeal.main_arg0)
          ∧ r.2.mem ((c.tc : Thread Cert.FarIdeal.nD Cert.FarIdeal.τ).loc Cert.FarIdeal.main_arg1) = m ((c.tc : Thread Cert.FarIdeal.nD Cert.FarIdeal.τ).loc Cert.FarIdeal.main_arg1)
          ∧ r.2.mem ((c.tc : Thread Cert.FarIdeal.nD Cert.FarIdeal.τ).loc Cert.FarIdeal.main_arg2) = m ((c.tc : Thread Cert.FarIdeal.nD Cert.FarIdeal.τ).loc Cert.FarIdeal.main_arg2)
          ∧ r.2.mem ((c.tc : Thread Cert.FarIdeal.nD Cert.FarIdeal.τ).loc Cert.FarIdeal.main_arg3) = m ((c.tc : Thread Cert.FarIdeal.nD Cert.FarIdeal.τ).loc Cert.FarIdeal.main_arg3)
          ∧ r.2.mem ((c.tc : Thread Cert.FarIdeal.nD Cert.FarIdeal.τ).loc Cert.FarIdeal.main_arg4) = m ((c.tc : Thread Cert.FarIdeal.nD Cert.FarIdeal.τ).loc Cert.FarIdeal.main_arg4)
          ∧ r.2.mem ((c.tc : Thread Cert.FarIdeal.nD Cert.FarIdeal.τ).loc Cert.FarIdeal.main_arg5) = m ((c.tc : Thread Cert.FarIdeal.nD Cert.FarIdeal.τ).loc Cert.FarIdeal.main_arg5))
      ∧ θ_run (Cert.FarRefIdeal.defs (F := Ideal)) (onTc (τ := Cert.FarRefIdeal.τ) (Cert.FarRefIdeal.main (F := Ideal))) ⟨m', fun _ => 0, g'⟩ (fun r => ∀ c : Dev Cert.FarRefIdeal.nD,
          r.2.mem ((c.tc : Thread Cert.FarRefIdeal.nD Cert.FarRefIdeal.τ).loc Cert.FarRefIdeal.main_v13) = v0 c
          ∧ r.2.mem ((c.tc : Thread Cert.FarRefIdeal.nD Cert.FarRefIdeal.τ).loc Cert.FarRefIdeal.main_arg0) = m' ((c.tc : Thread Cert.FarRefIdeal.nD Cert.FarRefIdeal.τ).loc Cert.FarRefIdeal.main_arg0)
          ∧ r.2.mem ((c.tc : Thread Cert.FarRefIdeal.nD Cert.FarRefIdeal.τ).loc Cert.FarRefIdeal.main_arg1) = m' ((c.tc : Thread Cert.FarRefIdeal.nD Cert.FarRefIdeal.τ).loc Cert.FarRefIdeal.main_arg1)
          ∧ r.2.mem ((c.tc : Thread Cert.FarRefIdeal.nD Cert.FarRefIdeal.τ).loc Cert.FarRefIdeal.main_arg2) = m' ((c.tc : Thread Cert.FarRefIdeal.nD Cert.FarRefIdeal.τ).loc Cert.FarRefIdeal.main_arg2)
          ∧ r.2.mem ((c.tc : Thread Cert.FarRefIdeal.nD Cert.FarRefIdeal.τ).loc Cert.FarRefIdeal.main_arg3) = m' ((c.tc : Thread Cert.FarRefIdeal.nD Cert.FarRefIdeal.τ).loc Cert.FarRefIdeal.main_arg3)
          ∧ r.2.mem ((c.tc : Thread Cert.FarRefIdeal.nD Cert.FarRefIdeal.τ).loc Cert.FarRefIdeal.main_arg4) = m' ((c.tc : Thread Cert.FarRefIdeal.nD Cert.FarRefIdeal.τ).loc Cert.FarRefIdeal.main_arg4)
          ∧ r.2.mem ((c.tc : Thread Cert.FarRefIdeal.nD Cert.FarRefIdeal.τ).loc Cert.FarRefIdeal.main_arg5) = m' ((c.tc : Thread Cert.FarRefIdeal.nD Cert.FarRefIdeal.τ).loc Cert.FarRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)) (v2 : (c : Dev Cert.UpIdeal.nD) → Buf (Elt Ideal) ((c.tc : Thread Cert.UpIdeal.nD Cert.UpIdeal.τ).loc Cert.UpIdeal.main_v4_2)) (v3 : (c : Dev Cert.UpIdeal.nD) → Buf (Elt Ideal) ((c.tc : Thread Cert.UpIdeal.nD Cert.UpIdeal.τ).loc Cert.UpIdeal.main_v4_3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_v4_2) = v2 c
          ∧ r.2.mem ((c.tc : Thread Cert.UpIdeal.nD Cert.UpIdeal.τ).loc Cert.UpIdeal.main_v4_3) = v3 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v18) = v0 c
          ∧ r.2.mem ((c.tc : Thread Cert.UpRefIdeal.nD Cert.UpRefIdeal.τ).loc Cert.UpRefIdeal.main_v19) = v1 c
          ∧ r.2.mem ((c.tc : Thread Cert.UpRefIdeal.nD Cert.UpRefIdeal.τ).loc Cert.UpRefIdeal.main_v21) = v2 c
          ∧ r.2.mem ((c.tc : Thread Cert.UpRefIdeal.nD Cert.UpRefIdeal.τ).loc Cert.UpRefIdeal.main_v24) = v3 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts) (hDz : Cert.Dz.Facts) (hDzIdeal : Cert.DzIdeal.Facts) (hDzRefIdeal : Cert.DzRefIdeal.Facts) (hDn : Cert.Dn.Facts) (hDnIdeal : Cert.DnIdeal.Facts) (hDnRefIdeal : Cert.DnRefIdeal.Facts) (hGd : Cert.Gd.Facts) (hGdIdeal : Cert.GdIdeal.Facts) (hGdRefIdeal : Cert.GdRefIdeal.Facts) (hGu : Cert.Gu.Facts) (hGuIdeal : Cert.GuIdeal.Facts) (hGuRefIdeal : Cert.GuRefIdeal.Facts) (hOut : Cert.Out.Facts) (hOutIdeal : Cert.OutIdeal.Facts) (hOutRefIdeal : Cert.OutRefIdeal.Facts) (hDm : Cert.Dm.Facts) (hDmIdeal : Cert.DmIdeal.Facts) (hDmRefIdeal : Cert.DmRefIdeal.Facts) (hGo : Cert.Go.Facts) (hGoIdeal : Cert.GoIdeal.Facts) (hGoRefIdeal : Cert.GoRefIdeal.Facts) (hInp : Cert.Inp.Facts) (hInpIdeal : Cert.InpIdeal.Facts) (hInpRefIdeal : Cert.InpRefIdeal.Facts) (hDi : Cert.Di.Facts) (hDiIdeal : Cert.DiIdeal.Facts) (hDiRefIdeal : Cert.DiRefIdeal.Facts) (hFar : Cert.Far.Facts) (hFarIdeal : Cert.FarIdeal.Facts) (hFarRefIdeal : Cert.FarRefIdeal.Facts) (hUp : Cert.Up.Facts) (hUpIdeal : Cert.UpIdeal.Facts) (hUpRefIdeal : Cert.UpRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Down (hDown := hDown)
    ∧ quiescent_DownIdeal (hDownIdeal := hDownIdeal)
    ∧ quiescent_DownRefIdeal (hDownRefIdeal := hDownRefIdeal)
    ∧ quiescent_Dz (hDz := hDz)
    ∧ quiescent_DzIdeal (hDzIdeal := hDzIdeal)
    ∧ quiescent_DzRefIdeal (hDzRefIdeal := hDzRefIdeal)
    ∧ quiescent_Dn (hDn := hDn)
    ∧ quiescent_DnIdeal (hDnIdeal := hDnIdeal)
    ∧ quiescent_DnRefIdeal (hDnRefIdeal := hDnRefIdeal)
    ∧ quiescent_Gd (hGd := hGd)
    ∧ quiescent_GdIdeal (hGdIdeal := hGdIdeal)
    ∧ quiescent_GdRefIdeal (hGdRefIdeal := hGdRefIdeal)
    ∧ quiescent_Gu (hGu := hGu)
    ∧ quiescent_GuIdeal (hGuIdeal := hGuIdeal)
    ∧ quiescent_GuRefIdeal (hGuRefIdeal := hGuRefIdeal)
    ∧ quiescent_Out (hOut := hOut)
    ∧ quiescent_OutIdeal (hOutIdeal := hOutIdeal)
    ∧ quiescent_OutRefIdeal (hOutRefIdeal := hOutRefIdeal)
    ∧ quiescent_Dm (hDm := hDm)
    ∧ quiescent_DmIdeal (hDmIdeal := hDmIdeal)
    ∧ quiescent_DmRefIdeal (hDmRefIdeal := hDmRefIdeal)
    ∧ quiescent_Go (hGo := hGo)
    ∧ quiescent_GoIdeal (hGoIdeal := hGoIdeal)
    ∧ quiescent_GoRefIdeal (hGoRefIdeal := hGoRefIdeal)
    ∧ quiescent_Inp (hInp := hInp)
    ∧ quiescent_InpIdeal (hInpIdeal := hInpIdeal)
    ∧ quiescent_InpRefIdeal (hInpRefIdeal := hInpRefIdeal)
    ∧ quiescent_Di (hDi := hDi)
    ∧ quiescent_DiIdeal (hDiIdeal := hDiIdeal)
    ∧ quiescent_DiRefIdeal (hDiRefIdeal := hDiRefIdeal)
    ∧ quiescent_Far (hFar := hFar)
    ∧ quiescent_FarIdeal (hFarIdeal := hFarIdeal)
    ∧ quiescent_FarRefIdeal (hFarRefIdeal := hFarRefIdeal)
    ∧ quiescent_Up (hUp := hUp)
    ∧ quiescent_UpIdeal (hUpIdeal := hUpIdeal)
    ∧ quiescent_UpRefIdeal (hUpRefIdeal := hUpRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Down_DownIdeal
    ∧ algebraic_DownIdeal_DownRefIdeal (hDownIdeal := hDownIdeal) (hDownRefIdeal := hDownRefIdeal)
    ∧ preserves_Dz_DzIdeal
    ∧ algebraic_DzIdeal_DzRefIdeal (hDzIdeal := hDzIdeal) (hDzRefIdeal := hDzRefIdeal)
    ∧ preserves_Dn_DnIdeal
    ∧ algebraic_DnIdeal_DnRefIdeal (hDnIdeal := hDnIdeal) (hDnRefIdeal := hDnRefIdeal)
    ∧ preserves_Gd_GdIdeal
    ∧ algebraic_GdIdeal_GdRefIdeal (hGdIdeal := hGdIdeal) (hGdRefIdeal := hGdRefIdeal)
    ∧ preserves_Gu_GuIdeal
    ∧ algebraic_GuIdeal_GuRefIdeal (hGuIdeal := hGuIdeal) (hGuRefIdeal := hGuRefIdeal)
    ∧ preserves_Out_OutIdeal
    ∧ algebraic_OutIdeal_OutRefIdeal (hOutIdeal := hOutIdeal) (hOutRefIdeal := hOutRefIdeal)
    ∧ preserves_Dm_DmIdeal
    ∧ algebraic_DmIdeal_DmRefIdeal (hDmIdeal := hDmIdeal) (hDmRefIdeal := hDmRefIdeal)
    ∧ preserves_Go_GoIdeal
    ∧ algebraic_GoIdeal_GoRefIdeal (hGoIdeal := hGoIdeal) (hGoRefIdeal := hGoRefIdeal)
    ∧ preserves_Inp_InpIdeal
    ∧ algebraic_InpIdeal_InpRefIdeal (hInpIdeal := hInpIdeal) (hInpRefIdeal := hInpRefIdeal)
    ∧ preserves_Di_DiIdeal
    ∧ algebraic_DiIdeal_DiRefIdeal (hDiIdeal := hDiIdeal) (hDiRefIdeal := hDiRefIdeal)
    ∧ preserves_Far_FarIdeal
    ∧ algebraic_FarIdeal_FarRefIdeal (hFarIdeal := hFarIdeal) (hFarRefIdeal := hFarRefIdeal)
    ∧ preserves_Up_UpIdeal
    ∧ algebraic_UpIdeal_UpRefIdeal (hUpIdeal := hUpIdeal) (hUpRefIdeal := hUpRefIdeal)
-- ==== Pre_finite.lean ====
abbrev S4096x3328 : Shape := ⟨2, ![4096, 3328]⟩
abbrev S4096x1024 : Shape := ⟨2, ![4096, 1024]⟩
abbrev S4096x2048 : Shape := ⟨2, ![4096, 2048]⟩
abbrev S1x1024 : Shape := ⟨2, ![1, 1024]⟩
abbrev S1x8x128 : Shape := ⟨3, ![1, 8, 128]⟩
abbrev S1x8x128x128 : Shape := ⟨4, ![1, 8, 128, 128]⟩
abbrev S_ : Shape := ⟨0, ![]⟩

class Facts : Prop where
  bcast_S_S4096x3328 : S_.BroadcastsInDim S4096x3328 (![] : Fin 0 → Fin S4096x3328.rank)
  reducesTo_S4096x3328_S_d0_1 : S4096x3328.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S1x1024 : S_.BroadcastsInDim S1x1024 (![] : Fin 0 → Fin S1x1024.rank)
  reducesTo_S1x1024_S_d0_1 : S1x1024.ReducesTo [0, 1] S_
  bcast_S_S1x8x128 : S_.BroadcastsInDim S1x8x128 (![] : Fin 0 → Fin S1x8x128.rank)
  reducesTo_S1x8x128_S_d0_1_2 : S1x8x128.ReducesTo [0, 1, 2] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_

variable [Facts]

def fn_part2 {F : FTy → Type} [FloatOps F] (main_v29 : IVec S_ 1) (main_v32 : IVec S1x8x128 1) (main_c_12 : IVec S_ 1) : IVec S_ 1 :=
  let main_v33 : IVec S_ 1 := (fun x v => Host.reduce IntOp.andi x v reducesTo_S1x8x128_S_d0_1_2 h_S_) main_v32 main_c_12
  let main_v34 : IVec S_ 1 := andi main_v29 main_v33
  main_v34

def fn_part1 {F : FTy → Type} [FloatOps F] (main_arg5 : FVec F S1x8x128 .f32) (main_arg6 : FVec F S1x8x128x128 .f32) (main_arg7 : FVec F S1x8x128 .f32) (main_v14 : IVec S_ 1) (main_v15 : FVec F S1x8x128 .f32) (main_cst_5 : FVec F S_ .f32) : IVec S_ 1 :=
  let main_v16 : FVec F S1x8x128 .f32 := broadcastInDim S1x8x128 ![] bcast_S_S1x8x128 main_cst_5
  let main_v17 : IVec S1x8x128 1 := cmpf .olt main_v15 main_v16
  let main_c_6 : IVec S_ 1 := constantI S_ 1 1#1
  let main_v18 : IVec S_ 1 := (fun x v => Host.reduce IntOp.andi x v reducesTo_S1x8x128_S_d0_1_2 h_S_) main_v17 main_c_6
  let main_v19 : IVec S_ 1 := andi main_v14 main_v18
  let main_v20 : FVec F S1x8x128 .f32 := Host.absf main_arg5
  let main_cst_7 : FVec F S_ .f32 := constant S_ .f32 0x7F800000#32
  let main_v21 : FVec F S1x8x128 .f32 := broadcastInDim S1x8x128 ![] bcast_S_S1x8x128 main_cst_7
  let main_v22 : IVec S1x8x128 1 := cmpf .olt main_v20 main_v21
  let main_c_8 : IVec S_ 1 := constantI S_ 1 1#1
  let main_v23 : IVec S_ 1 := (fun x v => Host.reduce IntOp.andi x v reducesTo_S1x8x128_S_d0_1_2 h_S_) main_v22 main_c_8
  let main_v24 : IVec S_ 1 := andi main_v19 main_v23
  let main_v25 : FVec F S1x8x128x128 .f32 := Host.absf main_arg6
  let main_cst_9 : FVec F S_ .f32 := constant S_ .f32 0x7F800000#32
  let main_v26 : FVec F S1x8x128x128 .f32 := broadcastInDim S1x8x128x128 ![] bcast_S_S1x8x128x128 main_cst_9
  let main_v27 : IVec S1x8x128x128 1 := cmpf .olt main_v25 main_v26
  let main_c_10 : IVec S_ 1 := constantI S_ 1 1#1
  let main_v28 : IVec S_ 1 := (fun x v => Host.reduce IntOp.andi x v reducesTo_S1x8x128x128_S_d0_1_2_3 h_S_) main_v27 main_c_10
  let main_v29 : IVec S_ 1 := andi main_v24 main_v28
  let main_v30 : FVec F S1x8x128 .f32 := Host.absf main_arg7
  let main_cst_11 : FVec F S_ .f32 := constant S_ .f32 0x7F800000#32
  let main_v31 : FVec F S1x8x128 .f32 := broadcastInDim S1x8x128 ![] bcast_S_S1x8x128 main_cst_11
  let main_v32 : IVec S1x8x128 1 := cmpf .olt main_v30 main_v31
  let main_c_12 : IVec S_ 1 := constantI S_ 1 1#1
  fn_part2 (F := F) main_v29 main_v32 main_c_12

def fn {F : FTy → Type} [FloatOps F] (main_arg0 : FVec F S4096x3328 .f32) (main_arg1 : FVec F S4096x1024 .f32) (main_arg2 : FVec F S4096x2048 .f32) (main_arg3 : FVec F S1x1024 .f32) (main_arg4 : FVec F S1x8x128 .f32) (main_arg5 : FVec F S1x8x128 .f32) (main_arg6 : FVec F S1x8x128x128 .f32) (main_arg7 : FVec F S1x8x128 .f32) : IVec S_ 1 :=
  let main_v0 : FVec F S4096x3328 .f32 := Host.absf main_arg0
  let main_cst : FVec F S_ .f32 := constant S_ .f32 0x7F800000#32
  let main_v1 : FVec F S4096x3328 .f32 := broadcastInDim S4096x3328 ![] bcast_S_S4096x3328 main_cst
  let main_v2 : IVec S4096x3328 1 := cmpf .olt main_v0 main_v1
  let main_c : IVec S_ 1 := constantI S_ 1 1#1
  let main_v3 : IVec S_ 1 := (fun x v => Host.reduce IntOp.andi x v reducesTo_S4096x3328_S_d0_1 h_S_) main_v2 main_c
  let main_c_0 : IVec S_ 1 := constantI S_ 1 1#1
  let main_v4 : IVec S_ 1 := andi main_c_0 main_v3
  let main_v5 : FVec F S4096x2048 .f32 := Host.absf main_arg2
  let main_cst_1 : FVec F S_ .f32 := constant S_ .f32 0x7F800000#32
  let main_v6 : FVec F S4096x2048 .f32 := broadcastInDim S4096x2048 ![] bcast_S_S4096x2048 main_cst_1
  let main_v7 : IVec S4096x2048 1 := cmpf .olt main_v5 main_v6
  let main_c_2 : IVec S_ 1 := constantI S_ 1 1#1
  let main_v8 : IVec S_ 1 := (fun x v => Host.reduce IntOp.andi x v reducesTo_S4096x2048_S_d0_1 h_S_) main_v7 main_c_2
  let main_v9 : IVec S_ 1 := andi main_v4 main_v8
  let main_v10 : FVec F S1x1024 .f32 := Host.absf main_arg3
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1x8x128 .f32 := Host.absf main_arg4
  let main_cst_5 : FVec F S_ .f32 := constant S_ .f32 0x7F800000#32
  fn_part1 (F := F) main_arg5 main_arg6 main_arg7 main_v14 main_v15 main_cst_5
-- ==== Kernel.lean ====
abbrev S4096x3328 : Shape := ⟨2, ![4096, 3328]⟩
abbrev S4096x1024 : Shape := ⟨2, ![4096, 1024]⟩
abbrev S4096x2048 : Shape := ⟨2, ![4096, 2048]⟩
abbrev S1x1024 : Shape := ⟨2, ![1, 1024]⟩
abbrev S1x8x128 : Shape := ⟨3, ![1, 8, 128]⟩
abbrev S1x8x128x128 : Shape := ⟨4, ![1, 8, 128, 128]⟩
abbrev S8x128 : Shape := ⟨2, ![8, 128]⟩
abbrev S8x128x128 : Shape := ⟨3, ![8, 128, 128]⟩
abbrev S8x128x1 : Shape := ⟨3, ![8, 128, 1]⟩
abbrev S1x4096x8x128 : Shape := ⟨4, ![1, 4096, 8, 128]⟩
abbrev S_ : Shape := ⟨0, ![]⟩
abbrev S1x4096x8 : Shape := ⟨3, ![1, 4096, 8]⟩
abbrev S1x4096x8x1 : Shape := ⟨4, ![1, 4096, 8, 1]⟩
abbrev S1x1x8x128 : Shape := ⟨4, ![1, 1, 8, 128]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S2048x4096 : Shape := ⟨2, ![2048, 4096]⟩
abbrev S128x1024 : Shape := ⟨2, ![128, 1024]⟩
abbrev S128x2048 : Shape := ⟨2, ![128, 2048]⟩
abbrev S2048x128 : Shape := ⟨2, ![2048, 128]⟩
abbrev S128 : Shape := ⟨1, ![128]⟩
abbrev S128x1 : Shape := ⟨2, ![128, 1]⟩
abbrev S1024 : Shape := ⟨1, ![1024]⟩
abbrev S1x128 : Shape := ⟨2, ![1, 128]⟩
abbrev S1x128x1 : Shape := ⟨3, ![1, 128, 1]⟩

abbrev nBuf : Space → Nat
  | .hbm => 119
  | .vmem => 22
  | .smem => 0
  | _ => 0

abbrev bufTy : (tb : Table) → Fin (tcTables nBuf tb) → BufTy
  | .hbm, ⟨0, _⟩ => ⟨S4096x3328, .f32⟩
  | .hbm, ⟨1, _⟩ => ⟨S4096x1024, .f32⟩
  | .hbm, ⟨2, _⟩ => ⟨S4096x2048, .f32⟩
  | .hbm, ⟨3, _⟩ => ⟨S1x1024, .f32⟩
  | .hbm, ⟨4, _⟩ => ⟨S1x8x128, .f32⟩
  | .hbm, ⟨5, _⟩ => ⟨S1x8x128, .f32⟩
  | .hbm, ⟨6, _⟩ => ⟨S1x8x128x128, .f32⟩
  | .hbm, ⟨7, _⟩ => ⟨S1x8x128, .f32⟩
  | .hbm, ⟨8, _⟩ => ⟨S8x128, .f32⟩
  | .hbm, ⟨9, _⟩ => ⟨S8x128, .f32⟩
  | .hbm, ⟨10, _⟩ => ⟨S8x128x128, .f32⟩
  | .hbm, ⟨11, _⟩ => ⟨S8x128x1, .f32⟩
  | .hbm, ⟨12, _⟩ => ⟨S8x128, .f32⟩
  | .hbm, ⟨13, _⟩ => ⟨S8x128, .f32⟩
  | .hbm, ⟨14, _⟩ => ⟨S8x128x128, .f32⟩
  | .hbm, ⟨15, _⟩ => ⟨S8x128, .f32⟩
  | .hbm, ⟨16, _⟩ => ⟨S4096x1024, .f32⟩
  | .hbm, ⟨17, _⟩ => ⟨S4096x1024, .f32⟩
  | .hbm, ⟨18, _⟩ => ⟨S1x4096x8x128, .f32⟩
  | .hbm, ⟨19, _⟩ => ⟨S1x4096x8x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x4096x8x128, .f32⟩
  | .hbm, ⟨24, _⟩ => ⟨S1x4096x8x128, .f32⟩
  | .hbm, ⟨25, _⟩ => ⟨S1x4096x8x128, .f32⟩
  | .hbm, ⟨26, _⟩ => ⟨S1x4096x8x128, .f32⟩
  | .hbm, ⟨27, _⟩ => ⟨S1x4096x8x128, .f32⟩
  | .hbm, ⟨28, _⟩ => ⟨S_, .f32⟩
  | .hbm, ⟨29, _⟩ => ⟨S1x4096x8x128, .f32⟩
  | .hbm, ⟨30, _⟩ => ⟨S1x4096x8x128, .f32⟩
  | .hbm, ⟨31, _⟩ => ⟨S1x4096x8x128, .f32⟩
  | .hbm, ⟨32, _⟩ => ⟨S_, .f32⟩
  | .hbm, ⟨33, _⟩ => ⟨S1x4096x8x128, .f32⟩
  | .hbm, ⟨34, _⟩ => ⟨S1x4096x8x128, .f32⟩
  | .hbm, ⟨35, _⟩ => ⟨S_, .f32⟩
  | .hbm, ⟨36, _⟩ => ⟨S1x4096x8x128, .f32⟩
  | .hbm, ⟨37, _⟩ => ⟨S1x4096x8x128, .f32⟩
  | .hbm, ⟨38, _⟩ => ⟨S1x4096x8x128, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x4096x8x128, .f32⟩
  | .hbm, ⟨43, _⟩ => ⟨S1x4096x8x128, .f32⟩
  | .hbm, ⟨44, _⟩ => ⟨S1x4096x8x128, .f32⟩
  | .hbm, ⟨45, _⟩ => ⟨S1x4096x8x128, .f32⟩
  | .hbm, ⟨46, _⟩ => ⟨S1x4096x8x128, .f32⟩
  | .hbm, ⟨47, _⟩ => ⟨S_, .f32⟩
  | .hbm, ⟨48, _⟩ => ⟨S1x4096x8x128, .f32⟩
  | .hbm, ⟨49, _⟩ => ⟨S1x4096x8x128, .f32⟩
  | .hbm, ⟨50, _⟩ => ⟨S1x4096x8x128, .f32⟩
  | .hbm, ⟨51, _⟩ => ⟨S_, .f32⟩
  | .hbm, ⟨52, _⟩ => ⟨S1x4096x8x128, .f32⟩
  | .hbm, ⟨53, _⟩ => ⟨S1x4096x8x128, .f32⟩
  | .hbm, ⟨54, _⟩ => ⟨S_, .f32⟩
  | .hbm, ⟨55, _⟩ => ⟨S1x4096x8x128, .f32⟩
  | .hbm, ⟨56, _⟩ => ⟨S1x4096x8x128, .f32⟩
  | .hbm, ⟨57, _⟩ => ⟨S1x4096x8x128, .f32⟩
  | .hbm, ⟨58, _⟩ => ⟨S_, .f32⟩
  | .hbm, ⟨59, _⟩ => ⟨S1x4096x8, .f32⟩
  | .hbm, ⟨60, _⟩ => ⟨S1x4096x8x1, .f32⟩
  | .hbm, ⟨61, _⟩ => ⟨S_, .f32⟩
  | .hbm, ⟨62, _⟩ => ⟨S1x4096x8x1, .f32⟩
  | .hbm, ⟨63, _⟩ => ⟨S1x4096x8x1, .f32⟩
  | .hbm, ⟨64, _⟩ => ⟨S1x4096x8x128, .f32⟩
  | .hbm, ⟨65, _⟩ => ⟨S1x4096x8x128, .f32⟩
  | .hbm, ⟨66, _⟩ => ⟨S1x4096x8x128, .f32⟩
  | .hbm, ⟨67, _⟩ => ⟨S_, .f32⟩
  | .hbm, ⟨68, _⟩ => ⟨S1x4096x8, .f32⟩
  | .hbm, ⟨69, _⟩ => ⟨S1x4096x8x1, .f32⟩
  | .hbm, ⟨70, _⟩ => ⟨S_, .f32⟩
  | .hbm, ⟨71, _⟩ => ⟨S1x4096x8x1, .f32⟩
  | .hbm, ⟨72, _⟩ => ⟨S1x4096x8x1, .f32⟩
  | .hbm, ⟨73, _⟩ => ⟨S_, .f32⟩
  | .hbm, ⟨74, _⟩ => ⟨S1x4096x8x1, .f32⟩
  | .hbm, ⟨75, _⟩ => ⟨S1x4096x8x1, .f32⟩
  | .hbm, ⟨76, _⟩ => ⟨S1x4096x8x1, .f32⟩
  | .hbm, ⟨77, _⟩ => ⟨S1x4096x8x128, .f32⟩
  | .hbm, ⟨78, _⟩ => ⟨S1x4096x8x128, .f32⟩
  | .hbm, ⟨79, _⟩ => ⟨S1x1x8x128, .f32⟩
  | .hbm, ⟨80, _⟩ => ⟨S1x4096x8x128, .f32⟩
  | .hbm, ⟨81, _⟩ => ⟨S1x4096x8x128, .f32⟩
  | .hbm, ⟨82, _⟩ => ⟨S1x1x8x128, .f32⟩
  | .hbm, ⟨83, _⟩ => ⟨S1x4096x8x128, .f32⟩
  | .hbm, ⟨84, _⟩ => ⟨S1x4096x8x128, .f32⟩
  | .hbm, ⟨85, _⟩ => ⟨S1x32x128x8x128, .f32⟩
  | .hbm, ⟨86, _⟩ => ⟨S_, .i1⟩
  | .hbm, ⟨87, _⟩ => ⟨S128x128, .i1⟩
  | .hbm, ⟨88, _⟩ => ⟨S128x128, .i32⟩
  | .hbm, ⟨89, _⟩ => ⟨S_, .i32⟩
  | .hbm, ⟨90, _⟩ => ⟨S128x128, .i32⟩
  | .hbm, ⟨91, _⟩ => ⟨S128x128, .i32⟩
  | .hbm, ⟨92, _⟩ => ⟨S128x128, .i32⟩
  | .hbm, ⟨93, _⟩ => ⟨S128x128, .i1⟩
  | .hbm, ⟨94, _⟩ => ⟨S_, .i1⟩
  | .hbm, ⟨95, _⟩ => ⟨S128x128, .i1⟩
  | .hbm, ⟨96, _⟩ => ⟨S128x128, .i1⟩
  | .hbm, ⟨97, _⟩ => ⟨S1x128x128, .i1⟩
  | .hbm, ⟨98, _⟩ => ⟨S_, .f32⟩
  | .hbm, ⟨99, _⟩ => ⟨S8x128x128, .f32⟩
  | .hbm, ⟨100, _⟩ => ⟨S8x128x128, .i1⟩
  | .hbm, ⟨101, _⟩ => ⟨S8x128x128, .f32⟩
  | .hbm, ⟨102, _⟩ => ⟨S8x1x32x128x128, .f32⟩
  | .hbm, ⟨103, _⟩ => ⟨S1x32x128x8x128, .f32⟩
  | .hbm, ⟨104, _⟩ => ⟨S128x8, .f32⟩
  | .hbm, ⟨105, _⟩ => ⟨S1x1x128x8x1, .f32⟩
  | .hbm, ⟨106, _⟩ => ⟨S1x32x128x8x128, .f32⟩
  | .hbm, ⟨107, _⟩ => ⟨S1x32x128x8x128, .f32⟩
  | .hbm, ⟨108, _⟩ => ⟨S1x4096x8x128, .f32⟩
  | .hbm, ⟨109, _⟩ => ⟨S1x4096x8x128, .f32⟩
  | .hbm, ⟨110, _⟩ => ⟨S4096x1024, .f32⟩
  | .hbm, ⟨111, _⟩ => ⟨S4096x2048, .f32⟩
  | .hbm, ⟨112, _⟩ => ⟨S4096x2048, .bf16⟩
  | .hbm, ⟨113, _⟩ => ⟨S2048x4096, .bf16⟩
  | .hbm, ⟨114, _⟩ => ⟨S1x1024, .f32⟩
  | .hbm, ⟨115, _⟩ => ⟨S8x128x128, .f32⟩
  | .hbm, ⟨116, _⟩ => ⟨S8x128x1, .f32⟩
  | .hbm, ⟨117, _⟩ => ⟨S8x128, .f32⟩
  | .hbm, ⟨118, _⟩ => ⟨S8x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | .local _ .vmem, ⟨9, _⟩ => ⟨S8x128, .f32⟩
  | .local _ .vmem, ⟨10, _⟩ => ⟨S8x128, .f32⟩
  | .local _ .vmem, ⟨11, _⟩ => ⟨S8x128x128, .f32⟩
  | .local _ .vmem, ⟨12, _⟩ => ⟨S8x128x1, .f32⟩
  | .local _ .vmem, ⟨13, _⟩ => ⟨S128x2048, .bf16⟩
  | .local _ .vmem, ⟨14, _⟩ => ⟨S128x2048, .bf16⟩
  | .local _ .vmem, ⟨15, _⟩ => ⟨S2048x128, .bf16⟩
  | .local _ .vmem, ⟨16, _⟩ => ⟨S2048x128, .bf16⟩
  | .local _ .vmem, ⟨17, _⟩ => ⟨S1x1024, .f32⟩
  | .local _ .vmem, ⟨18, _⟩ => ⟨S8x128x128, .f32⟩
  | .local _ .vmem, ⟨19, _⟩ => ⟨S8x128x1, .f32⟩
  | .local _ .vmem, ⟨20, _⟩ => ⟨S8x128, .f32⟩
  | .local _ .vmem, ⟨21, _⟩ => ⟨S8x128, .f32⟩
  | _, _ => ⟨S4096x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_cst_13 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c : Ref sig .tc := ⟨.hbm, 86, rfl⟩
abbrev main_v63 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_call1_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78_0 : Ref sig .tc := ⟨.hbm, 112, rfl⟩
abbrev main_v78_1 : Ref sig .tc := ⟨.hbm, 113, rfl⟩
abbrev main_v78_2 : Ref sig .tc := ⟨.hbm, 114, rfl⟩
abbrev main_v78_3 : Ref sig .tc := ⟨.hbm, 115, rfl⟩
abbrev main_v78_4 : Ref sig .tc := ⟨.hbm, 116, rfl⟩
abbrev main_v78_5 : Ref sig .tc := ⟨.hbm, 117, rfl⟩
abbrev main_v78_6 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x3328 : Shape := ⟨2, ![4096, 3328]⟩
abbrev S4096x1024 : Shape := ⟨2, ![4096, 1024]⟩
abbrev S4096x2048 : Shape := ⟨2, ![4096, 2048]⟩
abbrev S1x1024 : Shape := ⟨2, ![1, 1024]⟩
abbrev S1x8x128 : Shape := ⟨3, ![1, 8, 128]⟩
abbrev S1x8x128x128 : Shape := ⟨4, ![1, 8, 128, 128]⟩
abbrev S8x128 : Shape := ⟨2, ![8, 128]⟩
abbrev S8x128x128 : Shape := ⟨3, ![8, 128, 128]⟩
abbrev S1024 : Shape := ⟨1, ![1024]⟩
abbrev S1x4096x8x128 : Shape := ⟨4, ![1, 4096, 8, 128]⟩
abbrev S_ : Shape := ⟨0, ![]⟩
abbrev S1x4096x8 : Shape := ⟨3, ![1, 4096, 8]⟩
abbrev S1x4096x8x1 : Shape := ⟨4, ![1, 4096, 8, 1]⟩
abbrev S1x1x8x128 : Shape := ⟨4, ![1, 1, 8, 128]⟩
abbrev S1x32x128x8x128 : Shape := ⟨5, ![1, 32, 128, 8, 128]⟩
abbrev S128x128 : Shape := ⟨2, ![128, 128]⟩
abbrev S1x128x128 : Shape := ⟨3, ![1, 128, 128]⟩
abbrev S8x1x32x128x128 : Shape := ⟨5, ![8, 1, 32, 128, 128]⟩
abbrev S128x8 : Shape := ⟨2, ![128, 8]⟩
abbrev S1x1x128x8x1 : Shape := ⟨5, ![1, 1, 128, 8, 1]⟩
abbrev S4096 : Shape := ⟨1, ![4096]⟩
abbrev S4096x1 : Shape := ⟨2, ![4096, 1]⟩
abbrev S1x128x8 : Shape := ⟨3, ![1, 128, 8]⟩
abbrev S4096x8 : Shape := ⟨2, ![4096, 8]⟩
abbrev S2048x4096 : Shape := ⟨2, ![2048, 4096]⟩
abbrev S8x128x1 : Shape := ⟨3, ![8, 128, 1]⟩

abbrev nBuf : Space → Nat
  | .hbm => 283
  | .vmem => 0
  | .smem => 0
  | _ => 0

abbrev hbmTy0_0 (i : Nat) : BufTy := match i % 128 with
  | 0 => ⟨S4096x3328, .f32⟩
  | 1 => ⟨S4096x1024, .f32⟩
  | 2 => ⟨S4096x2048, .f32⟩
  | 3 => ⟨S1x1024, .f32⟩
  | 4 => ⟨S1x8x128, .f32⟩
  | 5 => ⟨S1x8x128, .f32⟩
  | 6 => ⟨S1x8x128x128, .f32⟩
  | 7 => ⟨S1x8x128, .f32⟩
  | 8 => ⟨S4096x2048, .f32⟩
  | 9 => ⟨S8x128, .f32⟩
  | 10 => ⟨S8x128, .f32⟩
  | 11 => ⟨S8x128x128, .f32⟩
  | 12 => ⟨S8x128, .f32⟩
  | 13 => ⟨S1024, .f32⟩
  | 14 => ⟨S4096x1024, .f32⟩
  | 15 => ⟨S4096x1024, .f32⟩
  | 16 => ⟨S1x4096x8x128, .f32⟩
  | 17 => ⟨S1x4096x8x128, .f32⟩
  | 18 => ⟨S_, .f32⟩
  | 19 => ⟨S_, .f32⟩
  | 20 => ⟨S_, .f32⟩
  | 21 => ⟨S1x4096x8x128, .f32⟩
  | 22 => ⟨S1x4096x8x128, .f32⟩
  | 23 => ⟨S1x4096x8x128, .f32⟩
  | 24 => ⟨S_, .f32⟩
  | 25 => ⟨S1x4096x8x128, .f32⟩
  | 26 => ⟨S1x4096x8x128, .f32⟩
  | 27 => ⟨S1x4096x8x128, .f32⟩
  | 28 => ⟨S1x4096x8x128, .f32⟩
  | 29 => ⟨S1x4096x8x128, .f32⟩
  | 30 => ⟨S_, .f32⟩
  | 31 => ⟨S1x4096x8x128, .f32⟩
  | 32 => ⟨S1x4096x8x128, .f32⟩
  | 33 => ⟨S1x4096x8x128, .f32⟩
  | 34 => ⟨S_, .f32⟩
  | 35 => ⟨S1x4096x8x128, .f32⟩
  | 36 => ⟨S1x4096x8x128, .f32⟩
  | 37 => ⟨S_, .f32⟩
  | 38 => ⟨S1x4096x8x128, .f32⟩
  | 39 => ⟨S1x4096x8x128, .f32⟩
  | 40 => ⟨S1x4096x8x128, .f32⟩
  | 41 => ⟨S_, .f32⟩
  | 42 => ⟨S1x4096x8x128, .f32⟩
  | 43 => ⟨S1x4096x8x128, .f32⟩
  | 44 => ⟨S_, .f32⟩
  | 45 => ⟨S1x4096x8x128, .f32⟩
  | 46 => ⟨S1x4096x8x128, .f32⟩
  | 47 => ⟨S1x4096x8x128, .f32⟩
  | 48 => ⟨S_, .f32⟩
  | 49 => ⟨S_, .f32⟩
  | 50 => ⟨S_, .f32⟩
  | 51 => ⟨S1x4096x8x128, .f32⟩
  | 52 => ⟨S1x4096x8x128, .f32⟩
  | 53 => ⟨S1x4096x8x128, .f32⟩
  | 54 => ⟨S_, .f32⟩
  | 55 => ⟨S1x4096x8x128, .f32⟩
  | 56 => ⟨S1x4096x8x128, .f32⟩
  | 57 => ⟨S1x4096x8x128, .f32⟩
  | 58 => ⟨S1x4096x8x128, .f32⟩
  | 59 => ⟨S1x4096x8x128, .f32⟩
  | 60 => ⟨S_, .f32⟩
  | 61 => ⟨S1x4096x8x128, .f32⟩
  | 62 => ⟨S1x4096x8x128, .f32⟩
  | 63 => ⟨S1x4096x8x128, .f32⟩
  | 64 => ⟨S_, .f32⟩
  | 65 => ⟨S1x4096x8x128, .f32⟩
  | 66 => ⟨S1x4096x8x128, .f32⟩
  | 67 => ⟨S_, .f32⟩
  | 68 => ⟨S1x4096x8x128, .f32⟩
  | 69 => ⟨S1x4096x8x128, .f32⟩
  | 70 => ⟨S1x4096x8x128, .f32⟩
  | 71 => ⟨S_, .f32⟩
  | 72 => ⟨S1x4096x8x128, .f32⟩
  | 73 => ⟨S1x4096x8x128, .f32⟩
  | 74 => ⟨S_, .f32⟩
  | 75 => ⟨S1x4096x8x128, .f32⟩
  | 76 => ⟨S1x4096x8x128, .f32⟩
  | 77 => ⟨S1x4096x8x128, .f32⟩
  | 78 => ⟨S_, .f32⟩
  | 79 => ⟨S1x4096x8, .f32⟩
  | 80 => ⟨S1x4096x8x1, .f32⟩
  | 81 => ⟨S_, .f32⟩
  | 82 => ⟨S1x4096x8x1, .f32⟩
  | 83 => ⟨S1x4096x8x1, .f32⟩
  | 84 => ⟨S1x4096x8x128, .f32⟩
  | 85 => ⟨S1x4096x8x128, .f32⟩
  | 86 => ⟨S1x4096x8x128, .f32⟩
  | 87 => ⟨S_, .f32⟩
  | 88 => ⟨S1x4096x8, .f32⟩
  | 89 => ⟨S1x4096x8x1, .f32⟩
  | 90 => ⟨S_, .f32⟩
  | 91 => ⟨S1x4096x8x1, .f32⟩
  | 92 => ⟨S1x4096x8x1, .f32⟩
  | 93 => ⟨S_, .f32⟩
  | 94 => ⟨S1x4096x8x1, .f32⟩
  | 95 => ⟨S1x4096x8x1, .f32⟩
  | 96 => ⟨S1x4096x8x1, .f32⟩
  | 97 => ⟨S1x4096x8x1, .f32⟩
  | 98 => ⟨S_, .f32⟩
  | 99 => ⟨S1x4096x8x1, .f32⟩
  | 100 => ⟨S1x4096x8x1, .f32⟩
  | 101 => ⟨S1x4096x8x128, .f32⟩
  | 102 => ⟨S1x4096x8x128, .f32⟩
  | 103 => ⟨S1x1x8x128, .f32⟩
  | 104 => ⟨S1x4096x8x128, .f32⟩
  | 105 => ⟨S1x4096x8x128, .f32⟩
  | 106 => ⟨S1x1x8x128, .f32⟩
  | 107 => ⟨S1x4096x8x128, .f32⟩
  | 108 => ⟨S1x4096x8x128, .f32⟩
  | 109 => ⟨S1x32x128x8x128, .f32⟩
  | 110 => ⟨S_, .i1⟩
  | 111 => ⟨S128x128, .i1⟩
  | 112 => ⟨S128x128, .i32⟩
  | 113 => ⟨S_, .i32⟩
  | 114 => ⟨S128x128, .i32⟩
  | 115 => ⟨S128x128, .i32⟩
  | 116 => ⟨S128x128, .i32⟩
  | 117 => ⟨S128x128, .i1⟩
  | 118 => ⟨S_, .i1⟩
  | 119 => ⟨S128x128, .i1⟩
  | 120 => ⟨S128x128, .i1⟩
  | 121 => ⟨S1x128x128, .i1⟩
  | 122 => ⟨S_, .f32⟩
  | 123 => ⟨S8x128x128, .f32⟩
  | 124 => ⟨S8x128x128, .i1⟩
  | 125 => ⟨S8x128x128, .f32⟩
  | 126 => ⟨S_, .f32⟩
  | 127 => ⟨S8x128x128, .f32⟩
  | _ => ⟨S4096x3328, .f32⟩

abbrev hbmTy0_1 (i : Nat) : BufTy := match i % 128 with
  | 0 => ⟨S8x1x32x128x128, .f32⟩
  | 1 => ⟨S1x32x128x8x128, .f32⟩
  | 2 => ⟨S128x8, .f32⟩
  | 3 => ⟨S1x1x128x8x1, .f32⟩
  | 4 => ⟨S1x32x128x8x128, .f32⟩
  | 5 => ⟨S1x32x128x8x128, .f32⟩
  | 6 => ⟨S1x4096x8x128, .f32⟩
  | 7 => ⟨S1x4096x8x128, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S4096x1024, .f32⟩
  | 31 => ⟨S_, .f32⟩
  | 32 => ⟨S1024, .f32⟩
  | 33 => ⟨S1x1024, .f32⟩
  | 34 => ⟨S4096x1024, .f32⟩
  | 35 => ⟨S4096x1024, .f32⟩
  | 36 => ⟨S_, .f32⟩
  | 37 => ⟨S1024, .f32⟩
  | 38 => ⟨S4096x1024, .f32⟩
  | 39 => ⟨S_, .f32⟩
  | 40 => ⟨S4096, .f32⟩
  | 41 => ⟨S4096x1, .f32⟩
  | 42 => ⟨S4096x1024, .f32⟩
  | 43 => ⟨S4096x1024, .f32⟩
  | 44 => ⟨S4096x1, .f32⟩
  | 45 => ⟨S_, .f32⟩
  | 46 => ⟨S4096x1, .f32⟩
  | 47 => ⟨S4096x1, .f32⟩
  | 48 => ⟨S_, .f32⟩
  | 49 => ⟨S4096, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S1x4096x8x128, .f32⟩
  | 56 => ⟨S1x4096x8x128, .f32⟩
  | 57 => ⟨S1x4096x8x128, .f32⟩
  | 58 => ⟨S1x32x128x8x128, .f32⟩
  | 59 => ⟨S_, .f32⟩
  | 60 => ⟨S1x128x8, .f32⟩
  | 61 => ⟨S1x1x128x8x1, .f32⟩
  | 62 => ⟨S_, .f32⟩
  | 63 => ⟨S128x8, .f32⟩
  | 64 => ⟨S8x128, .f32⟩
  | 65 => ⟨S8x1x32x128x128, .f32⟩
  | 66 => ⟨S8x128x128, .f32⟩
  | 67 => ⟨S8x1x32x128x128, .f32⟩
  | 68 => ⟨S1x32x128x8x128, .f32⟩
  | 69 => ⟨S_, .f32⟩
  | 70 => ⟨S8x128x128, .f32⟩
  | 71 => ⟨S8x128x128, .f32⟩
  | 72 => ⟨S1x4096x8x128, .f32⟩
  | 73 => ⟨S_, .f32⟩
  | 74 => ⟨S1x8x128, .f32⟩
  | 75 => ⟨S1x1x8x128, .f32⟩
  | 76 => ⟨S_, .f32⟩
  | 77 => ⟨S8x128, .f32⟩
  | 78 => ⟨S1x4096x8x128, .f32⟩
  | 79 => ⟨S_, .f32⟩
  | 80 => ⟨S1x8x128, .f32⟩
  | 81 => ⟨S1x1x8x128, .f32⟩
  | 82 => ⟨S1x4096x8x128, .f32⟩
  | 83 => ⟨S1x4096x8x128, .f32⟩
  | 84 => ⟨S_, .f32⟩
  | 85 => ⟨S8x128, .f32⟩
  | 86 => ⟨S1x4096x8x128, .f32⟩
  | 87 => ⟨S_, .f32⟩
  | 88 => ⟨S1x4096x8, .f32⟩
  | 89 => ⟨S1x4096x8x1, .f32⟩
  | 90 => ⟨S1x4096x8x128, .f32⟩
  | 91 => ⟨S1x4096x8x128, .f32⟩
  | 92 => ⟨S1x4096x8x1, .f32⟩
  | 93 => ⟨S_, .f32⟩
  | 94 => ⟨S1x4096x8x1, .f32⟩
  | 95 => ⟨S1x4096x8x1, .f32⟩
  | 96 => ⟨S_, .f32⟩
  | 97 => ⟨S4096x8, .f32⟩
  | 98 => ⟨S1x4096x8, .f32⟩
  | 99 => ⟨S1x4096x8x128, .f32⟩
  | 100 => ⟨S1x4096x8x128, .f32⟩
  | 101 => ⟨S1x4096x8x128, .f32⟩
  | 102 => ⟨S1x4096x8x128, .f32⟩
  | 103 => ⟨S1x4096x8x128, .f32⟩
  | 104 => ⟨S1x4096x8x128, .f32⟩
  | 105 => ⟨S_, .f32⟩
  | 106 => ⟨S1x4096x8, .f32⟩
  | 107 => ⟨S1x4096x8x1, .f32⟩
  | 108 => ⟨S_, .f32⟩
  | 109 => ⟨S1x4096x8x1, .f32⟩
  | 110 => ⟨S1x4096x8x1, .f32⟩
  | 111 => ⟨S_, .f32⟩
  | 112 => ⟨S4096x8, .f32⟩
  | 113 => ⟨S1x4096x8, .f32⟩
  | 114 => ⟨S1x4096x8x128, .f32⟩
  | 115 => ⟨S1x4096x8x128, .f32⟩
  | 116 => ⟨S1x4096x8x128, .f32⟩
  | 117 => ⟨S1x4096x8x128, .f32⟩
  | 118 => ⟨S_, .f32⟩
  | 119 => ⟨S1x4096x8x128, .f32⟩
  | 120 => ⟨S1x4096x8x128, .f32⟩
  | 121 => ⟨S1x4096x8x128, .f32⟩
  | 122 => ⟨S_, .f32⟩
  | 123 => ⟨S1x4096x8x128, .f32⟩
  | 124 => ⟨S1x4096x8x128, .f32⟩
  | 125 => ⟨S1x4096x8x128, .f32⟩
  | 126 => ⟨S1x4096x8x128, .f32⟩
  | 127 => ⟨S1x4096x8x128, .f32⟩
  | _ => ⟨S4096x3328, .f32⟩

abbrev hbmTy0_2 (i : Nat) : BufTy := match i % 128 with
  | 0 => ⟨S1x4096x8x128, .f32⟩
  | 1 => ⟨S1x4096x8x128, .f32⟩
  | 2 => ⟨S1x4096x8x128, .f32⟩
  | 3 => ⟨S1x4096x8x128, .f32⟩
  | 4 => ⟨S_, .f32⟩
  | 5 => ⟨S1x4096x8x128, .f32⟩
  | 6 => ⟨S1x4096x8x128, .f32⟩
  | 7 => ⟨S1x4096x8x128, .f32⟩
  | 8 => ⟨S_, .f32⟩
  | 9 => ⟨S1x4096x8x128, .f32⟩
  | 10 => ⟨S1x4096x8x128, .f32⟩
  | 11 => ⟨S1x4096x8x128, .f32⟩
  | 12 => ⟨S1x4096x8x128, .f32⟩
  | 13 => ⟨S1x4096x8x128, .f32⟩
  | 14 => ⟨S1x4096x8x128, .f32⟩
  | 15 => ⟨S1x4096x8x128, .f32⟩
  | 16 => ⟨S4096x1024, .f32⟩
  | 17 => ⟨S4096x1024, .f32⟩
  | 18 => ⟨S_, .f32⟩
  | 19 => ⟨S4096x2048, .f32⟩
  | 20 => ⟨S_, .f32⟩
  | 21 => ⟨S4096x2048, .f32⟩
  | 22 => ⟨S4096x2048, .f32⟩
  | 23 => ⟨S4096x2048, .bf16⟩
  | 24 => ⟨S2048x4096, .bf16⟩
  | 25 => ⟨S1x1024, .f32⟩
  | 26 => ⟨S8x128x1, .f32⟩
  | _ => ⟨S4096x3328, .f32⟩

abbrev hbmTy (i : Nat) : BufTy := match i / 128 with
  | 0 => hbmTy0_0 i
  | 1 => hbmTy0_1 i
  | 2 => hbmTy0_2 i
  | _ => ⟨S4096x3328, .f32⟩

abbrev bufTy : (tb : Table) → Fin (tcTables nBuf tb) → BufTy
  | .hbm, ⟨i, _⟩ => hbmTy i
  | _, _ => ⟨S4096x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_11 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_17 : Ref sig .tc := ⟨.hbm, 87, rfl⟩
abbrev main_v61 : Ref sig .tc := ⟨.hbm, 88, rfl⟩
abbrev main_v62 : Ref sig .tc := ⟨.hbm, 89, rfl⟩
abbrev main_cst_18 : Ref sig .tc := ⟨.hbm, 90, rfl⟩
abbrev main_v63 : Ref sig .tc := ⟨.hbm, 91, rfl⟩
abbrev main_v64 : Ref sig .tc := ⟨.hbm, 92, rfl⟩
abbrev main_cst_19 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_20 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c : Ref sig .tc := ⟨.hbm, 110, rfl⟩
abbrev main_v80 : Ref sig .tc := ⟨.hbm, 111, rfl⟩
abbrev main_call0_v0 : Ref sig .tc := ⟨.hbm, 112, rfl⟩
abbrev main_call0_c : Ref sig .tc := ⟨.hbm, 113, rfl⟩
abbrev main_call0_v1 : Ref sig .tc := ⟨.hbm, 114, rfl⟩
abbrev main_call0_v2 : Ref sig .tc := ⟨.hbm, 115, rfl⟩
abbrev main_call0_v3 : Ref sig .tc := ⟨.hbm, 116, rfl⟩
abbrev main_call0_v4 : Ref sig .tc := ⟨.hbm, 117, rfl⟩
abbrev main_call0_c_0 : Ref sig .tc := ⟨.hbm, 118, rfl⟩
abbrev main_call0_v5 : Ref sig .tc := ⟨.hbm, 119, rfl⟩
abbrev main_v81 : Ref sig .tc := ⟨.hbm, 120, rfl⟩
abbrev main_v82 : Ref sig .tc := ⟨.hbm, 121, rfl⟩
abbrev main_cst_21 : Ref sig .tc := ⟨.hbm, 122, rfl⟩
abbrev main_v83 : Ref sig .tc := ⟨.hbm, 123, rfl⟩
abbrev main_v84_1 : Ref sig .tc := ⟨.hbm, 124, rfl⟩
abbrev main_v84_0 : Ref sig .tc := ⟨.hbm, 125, rfl⟩
abbrev main_call1_cst : Ref sig .tc := ⟨.hbm, 126, rfl⟩
abbrev main_v84_2 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_22 : Ref sig .tc := ⟨.hbm, 138, rfl⟩
abbrev main_v95 : Ref sig .tc := ⟨.hbm, 139, rfl⟩
abbrev main_v96 : Ref sig .tc := ⟨.hbm, 140, rfl⟩
abbrev main_cst_23 : Ref sig .tc := ⟨.hbm, 141, rfl⟩
abbrev main_v97 : Ref sig .tc := ⟨.hbm, 142, rfl⟩
abbrev main_v98 : Ref sig .tc := ⟨.hbm, 143, rfl⟩
abbrev main_cst_24 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_25 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_26 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_27 : Ref sig .tc := ⟨.hbm, 164, rfl⟩
abbrev main_v116 : Ref sig .tc := ⟨.hbm, 165, rfl⟩
abbrev main_v117 : Ref sig .tc := ⟨.hbm, 166, rfl⟩
abbrev main_cst_28 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_29 : Ref sig .tc := ⟨.hbm, 173, rfl⟩
abbrev main_v123 : Ref sig .tc := ⟨.hbm, 174, rfl⟩
abbrev main_v124 : Ref sig .tc := ⟨.hbm, 175, rfl⟩
abbrev main_cst_30 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_31 : Ref sig .tc := ⟨.hbm, 187, rfl⟩
abbrev main_v135 : Ref sig .tc := ⟨.hbm, 188, rfl⟩
abbrev main_v136 : Ref sig .tc := ⟨.hbm, 189, rfl⟩
abbrev main_cst_32 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_call2_cst : Ref sig .tc := ⟨.hbm, 197, rfl⟩
abbrev main_call2_v0 : Ref sig .tc := ⟨.hbm, 198, rfl⟩
abbrev main_v143 : Ref sig .tc := ⟨.hbm, 199, rfl⟩
abbrev main_v144 : Ref sig .tc := ⟨.hbm, 200, rfl⟩
abbrev main_cst_33 : Ref sig .tc := ⟨.hbm, 201, rfl⟩
abbrev main_v145 : Ref sig .tc := ⟨.hbm, 202, rfl⟩
abbrev main_v146 : Ref sig .tc := ⟨.hbm, 203, rfl⟩
abbrev main_cst_34 : Ref sig .tc := ⟨.hbm, 204, rfl⟩
abbrev main_v147 : Ref sig .tc := ⟨.hbm, 205, rfl⟩
abbrev main_v148 : Ref sig .tc := ⟨.hbm, 206, rfl⟩
abbrev main_cst_35 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_36 : Ref sig .tc := ⟨.hbm, 212, rfl⟩
abbrev main_v153 : Ref sig .tc := ⟨.hbm, 213, rfl⟩
abbrev main_v154 : Ref sig .tc := ⟨.hbm, 214, rfl⟩
abbrev main_cst_37 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_cst_38 : Ref sig .tc := ⟨.hbm, 221, rfl⟩
abbrev main_v160 : Ref sig .tc := ⟨.hbm, 222, rfl⟩
abbrev main_v161 : Ref sig .tc := ⟨.hbm, 223, rfl⟩
abbrev main_cst_39 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_cst_40 : Ref sig .tc := ⟨.hbm, 233, rfl⟩
abbrev main_v170 : Ref sig .tc := ⟨.hbm, 234, rfl⟩
abbrev main_v171 : Ref sig .tc := ⟨.hbm, 235, rfl⟩
abbrev main_cst_41 : Ref sig .tc := ⟨.hbm, 236, rfl⟩
abbrev main_v172 : Ref sig .tc := ⟨.hbm, 237, rfl⟩
abbrev main_v173 : Ref sig .tc := ⟨.hbm, 238, rfl⟩
abbrev main_cst_42 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_cst_43 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_cst_44 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_v188 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_cst_45 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_cst_46 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_cst_47 : Ref sig .tc := ⟨.hbm, 274, rfl⟩
abbrev main_v204 : Ref sig .tc := ⟨.hbm, 275, rfl⟩
abbrev main_cst_48 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩

abbrev nD : Nat := 1
abbrev τ : Topo := Topo.v7x

variable {F : FTy → Type} [FloatOps F]
-- ==== Down.lean ====
abbrev S4096x8192 : Shape := ⟨2, ![4096, 8192]⟩
abbrev S1x8192x2048 : Shape := ⟨3, ![1, 8192, 2048]⟩
abbrev S4096x2048 : Shape := ⟨2, ![4096, 2048]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S1x8192x2048, .f32⟩
  | .hbm, ⟨2, _⟩ => ⟨S4096x2048, .f32⟩
  | .hbm, ⟨3, _⟩ => ⟨S4096x8192, .bf16⟩
  | .hbm, ⟨4, _⟩ => ⟨S8192x2048, .f32⟩
  | .hbm, ⟨5, _⟩ => ⟨S8192x2048, .bf16⟩
  | .hbm, ⟨6, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S4096x8192 : Shape := ⟨2, ![4096, 8192]⟩
abbrev S1x8192x2048 : Shape := ⟨3, ![1, 8192, 2048]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1x8192x2048, .f32⟩
  | .hbm, ⟨2, _⟩ => ⟨S4096x2048, .f32⟩
  | .hbm, ⟨3, _⟩ => ⟨S8192x2048, .f32⟩
  | .hbm, ⟨4, _⟩ => ⟨S4096x2048, .f32⟩
  | .hbm, ⟨5, _⟩ => ⟨S4096x2048, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dz.lean ====
abbrev S4096x8192 : Shape := ⟨2, ![4096, 8192]⟩
abbrev S1x8192x2048 : Shape := ⟨3, ![1, 8192, 2048]⟩
abbrev S4096x2048 : Shape := ⟨2, ![4096, 2048]⟩
abbrev S_ : Shape := ⟨0, ![]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S1x8192x2048, .f32⟩
  | .hbm, ⟨2, _⟩ => ⟨S4096x2048, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x2048, .bf16⟩
  | .hbm, ⟨8, _⟩ => ⟨S8192x2048, .f32⟩
  | .hbm, ⟨9, _⟩ => ⟨S8192x2048, .bf16⟩
  | .hbm, ⟨10, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DzRefIdeal.lean ====
abbrev S4096x8192 : Shape := ⟨2, ![4096, 8192]⟩
abbrev S1x8192x2048 : Shape := ⟨3, ![1, 8192, 2048]⟩
abbrev S4096x2048 : Shape := ⟨2, ![4096, 2048]⟩
abbrev S8192x2048 : Shape := ⟨2, ![8192, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S1x8192x2048, .f32⟩
  | .hbm, ⟨2, _⟩ => ⟨S4096x2048, .f32⟩
  | .hbm, ⟨3, _⟩ => ⟨S8192x2048, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x2048, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Dn.lean ====
abbrev S4096x2048 : Shape := ⟨2, ![4096, 2048]⟩
abbrev S4096x8192 : Shape := ⟨2, ![4096, 8192]⟩
abbrev S1x2048x8192 : Shape := ⟨3, ![1, 2048, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S1024x4096 : Shape := ⟨2, ![1024, 4096]⟩
abbrev S1x1024x2048 : Shape := ⟨3, ![1, 1024, 2048]⟩
abbrev S1024x1024 : Shape := ⟨2, ![1024, 1024]⟩
abbrev S1024x2048 : Shape := ⟨2, ![1024, 2048]⟩

abbrev nBuf : Space → Nat
  | .hbm => 9
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S1x2048x8192, .f32⟩
  | .hbm, ⟨3, _⟩ => ⟨S2048x8192, .f32⟩
  | .hbm, ⟨4, _⟩ => ⟨S2048x4x2048, .f32⟩
  | .hbm, ⟨5, _⟩ => ⟨S4x2048x2048, .f32⟩
  | .hbm, ⟨6, _⟩ => ⟨S4x2048x2048, .bf16⟩
  | .hbm, ⟨7, _⟩ => ⟨S4096x8192, .bf16⟩
  | .hbm, ⟨8, _⟩ => ⟨S4096x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_9 : BitVec 32 := 0#32
  let v13 : BitVec 1 := Scalar.cmpi .ne v12 c0_i32_9
  v13

def k0_cond2 (i : grid0.Coords) : BitVec 1 :=
  let arg2 : BitVec 32 := BitVec.ofNat 32 (i 2).val
  let c0_i32_10 : BitVec 32 := 0#32
  let v14 : BitVec 1 := Scalar.cmpi .sgt arg2 c0_i32_10
  let v15 : BitVec 32 := Scalar.extui v14
  let c0_i32_11 : BitVec 32 := 0#32
  let v16 : BitVec 1 := Scalar.cmpi .ne v15 c0_i32_11
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let c0_i32_0 : BitVec 32 := 0#32
  ![v0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c0_i32 : BitVec 32 := 0#32
  let c0_i32_0 : BitVec 32 := 0#32
  ![v1.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DnRefIdeal.lean ====
abbrev S4096x2048 : Shape := ⟨2, ![4096, 2048]⟩
abbrev S4096x8192 : Shape := ⟨2, ![4096, 8192]⟩
abbrev S1x2048x8192 : Shape := ⟨3, ![1, 2048, 8192]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8192, .f32⟩
  | .hbm, ⟨2, _⟩ => ⟨S1x2048x8192, .f32⟩
  | .hbm, ⟨3, _⟩ => ⟨S2048x8192, .f32⟩
  | .hbm, ⟨4, _⟩ => ⟨S4096x8192, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Gd.lean ====
abbrev S4096x8192 : Shape := ⟨2, ![4096, 8192]⟩
abbrev S1x8192x2048 : Shape := ⟨3, ![1, 8192, 2048]⟩
abbrev S4096x2048 : Shape := ⟨2, ![4096, 2048]⟩
abbrev S_ : Shape := ⟨0, ![]⟩
abbrev S8192x4096 : Shape := ⟨2, ![8192, 4096]⟩
abbrev S4x2x1024x4096 : Shape := ⟨4, ![4, 2, 1024, 4096]⟩
abbrev S4x1x1024x4096 : Shape := ⟨4, ![4, 1, 1024, 4096]⟩
abbrev S4x1024x4096 : Shape := ⟨3, ![4, 1024, 4096]⟩
abbrev S4x1024x2048 : Shape := ⟨3, ![4, 1024, 2048]⟩
abbrev S1x1x1024x1024 : Shape := ⟨4, ![1, 1, 1024, 1024]⟩
abbrev S1x1024x1024 : Shape := ⟨3, ![1, 1024, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 25
  | .vmem => 12
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x8192x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .bf16⟩
  | .hbm, ⟨13, _⟩ => ⟨S8192x4096, .bf16⟩
  | .hbm, ⟨14, _⟩ => ⟨S4x2x1024x4096, .bf16⟩
  | .hbm, ⟨15, _⟩ => ⟨S4096x8192, .f32⟩
  | .hbm, ⟨16, _⟩ => ⟨S4096x8192, .bf16⟩
  | .hbm, ⟨17, _⟩ => ⟨S8192x4096, .bf16⟩
  | .hbm, ⟨18, _⟩ => ⟨S4x2x1024x4096, .bf16⟩
  | .hbm, ⟨19, _⟩ => ⟨S4x1x1024x4096, .bf16⟩
  | .hbm, ⟨20, _⟩ => ⟨S4x1024x4096, .bf16⟩
  | .hbm, ⟨21, _⟩ => ⟨S4096x2048, .bf16⟩
  | .hbm, ⟨22, _⟩ => ⟨S4096x2048, .bf16⟩
  | .hbm, ⟨23, _⟩ => ⟨S4x1024x2048, .f32⟩
  | .hbm, ⟨24, _⟩ => ⟨S4x1024x2048, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1x1024x2048, .f32⟩
  | .local _ .vmem, ⟨9, _⟩ => ⟨S1x1024x2048, .f32⟩
  | .local _ .vmem, ⟨10, _⟩ => ⟨S1x1024x2048, .bf16⟩
  | .local _ .vmem, ⟨11, _⟩ => ⟨S1x1024x2048, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_call1_cst : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_11 : BitVec 32 := 0#32
  let v13 : BitVec 1 := Scalar.cmpi .ne v12 c0_i32_11
  v13

def k0_cond2 (i : grid0.Coords) : BitVec 1 :=
  let arg2 : BitVec 32 := BitVec.ofNat 32 (i 2).val
  let c0_i32_12 : BitVec 32 := 0#32
  let v14 : BitVec 1 := Scalar.cmpi .sgt arg2 c0_i32_12
  let v15 : BitVec 32 := Scalar.extui v14
  let c0_i32_13 : BitVec 32 := 0#32
  let v16 : BitVec 1 := Scalar.cmpi .ne v15 c0_i32_13
  v16

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_14 : BitVec 32 := 0#32
  let v19 : BitVec 1 := Scalar.cmpi .ne v18 c0_i32_14
  v19

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GdRefIdeal.lean ====
abbrev S4096x8192 : Shape := ⟨2, ![4096, 8192]⟩
abbrev S1x8192x2048 : Shape := ⟨3, ![1, 8192, 2048]⟩
abbrev S4096x2048 : Shape := ⟨2, ![4096, 2048]⟩
abbrev S8192x8192 : Shape := ⟨2, ![8192, 8192]⟩
abbrev S8192x2048 : Shape := ⟨2, ![8192, 2048]⟩
abbrev S_ : Shape := ⟨0, ![]⟩
abbrev S2048x8192 : Shape := ⟨2, ![2048, 8192]⟩
abbrev S4x2x1024x2048 : Shape := ⟨4, ![4, 2, 1024, 2048]⟩
abbrev S4x1x1024x2048 : Shape := ⟨4, ![4, 1, 1024, 2048]⟩
abbrev S4x1024x2048 : Shape := ⟨3, ![4, 1024, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S1x8192x2048, .f32⟩
  | .hbm, ⟨3, _⟩ => ⟨S4096x2048, .f32⟩
  | .hbm, ⟨4, _⟩ => ⟨S4096x2048, .f32⟩
  | .hbm, ⟨5, _⟩ => ⟨S8192x8192, .f32⟩
  | .hbm, ⟨6, _⟩ => ⟨S8192x2048, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S2048x8192, .f32⟩
  | .hbm, ⟨14, _⟩ => ⟨S8192x2048, .f32⟩
  | .hbm, ⟨15, _⟩ => ⟨S4x2x1024x2048, .f32⟩
  | .hbm, ⟨16, _⟩ => ⟨S4x1x1024x2048, .f32⟩
  | .hbm, ⟨17, _⟩ => ⟨S4x1024x2048, .f32⟩
  | .hbm, ⟨18, _⟩ => ⟨S4x1024x2048, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Gu.lean ====
abbrev S4096x2048 : Shape := ⟨2, ![4096, 2048]⟩
abbrev S1x2048x8192 : Shape := ⟨3, ![1, 2048, 8192]⟩
abbrev S4096x8192 : Shape := ⟨2, ![4096, 8192]⟩
abbrev S2048x4096 : Shape := ⟨2, ![2048, 4096]⟩
abbrev S1x2x1024x4096 : Shape := ⟨4, ![1, 2, 1024, 4096]⟩
abbrev S1x1x1024x4096 : Shape := ⟨4, ![1, 1, 1024, 4096]⟩
abbrev S1x1024x4096 : Shape := ⟨3, ![1, 1024, 4096]⟩
abbrev S4x1024x2048 : Shape := ⟨3, ![4, 1024, 2048]⟩
abbrev S1x1x1024x1024 : Shape := ⟨4, ![1, 1, 1024, 1024]⟩
abbrev S1x1024x1024 : Shape := ⟨3, ![1, 1024, 1024]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 17
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x8192, .f32⟩
  | .hbm, ⟨3, _⟩ => ⟨S4096x8192, .f32⟩
  | .hbm, ⟨4, _⟩ => ⟨S4096x8192, .f32⟩
  | .hbm, ⟨5, _⟩ => ⟨S4096x2048, .bf16⟩
  | .hbm, ⟨6, _⟩ => ⟨S2048x4096, .bf16⟩
  | .hbm, ⟨7, _⟩ => ⟨S1x2x1024x4096, .bf16⟩
  | .hbm, ⟨8, _⟩ => ⟨S4096x2048, .bf16⟩
  | .hbm, ⟨9, _⟩ => ⟨S2048x4096, .bf16⟩
  | .hbm, ⟨10, _⟩ => ⟨S1x2x1024x4096, .bf16⟩
  | .hbm, ⟨11, _⟩ => ⟨S1x1x1024x4096, .bf16⟩
  | .hbm, ⟨12, _⟩ => ⟨S1x1024x4096, .bf16⟩
  | .hbm, ⟨13, _⟩ => ⟨S4096x8192, .bf16⟩
  | .hbm, ⟨14, _⟩ => ⟨S4096x8192, .bf16⟩
  | .hbm, ⟨15, _⟩ => ⟨S4x1024x2048, .f32⟩
  | .hbm, ⟨16, _⟩ => ⟨S4x1024x2048, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1x1024x2048, .f32⟩
  | .local _ .vmem, ⟨9, _⟩ => ⟨S1x1024x2048, .f32⟩
  | .local _ .vmem, ⟨10, _⟩ => ⟨S1x1024x2048, .bf16⟩
  | .local _ .vmem, ⟨11, _⟩ => ⟨S1x1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_11 : BitVec 32 := 0#32
  let v13 : BitVec 1 := Scalar.cmpi .ne v12 c0_i32_11
  v13

def k0_cond2 (i : grid0.Coords) : BitVec 1 :=
  let arg2 : BitVec 32 := BitVec.ofNat 32 (i 2).val
  let c0_i32_12 : BitVec 32 := 0#32
  let v14 : BitVec 1 := Scalar.cmpi .sgt arg2 c0_i32_12
  let v15 : BitVec 32 := Scalar.extui v14
  let c0_i32_13 : BitVec 32 := 0#32
  let v16 : BitVec 1 := Scalar.cmpi .ne v15 c0_i32_13
  v16

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_14 : BitVec 32 := 0#32
  let v19 : BitVec 1 := Scalar.cmpi .ne v18 c0_i32_14
  v19

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GuRefIdeal.lean ====
abbrev S4096x2048 : Shape := ⟨2, ![4096, 2048]⟩
abbrev S1x2048x8192 : Shape := ⟨3, ![1, 2048, 8192]⟩
abbrev S4096x8192 : Shape := ⟨2, ![4096, 8192]⟩
abbrev S8192x2048 : Shape := ⟨2, ![8192, 2048]⟩
abbrev S2048x8192 : Shape := ⟨2, ![2048, 8192]⟩
abbrev S8192x8192 : Shape := ⟨2, ![8192, 8192]⟩
abbrev S1024x8192 : Shape := ⟨2, ![1024, 8192]⟩
abbrev S1024x4x2048 : Shape := ⟨3, ![1024, 4, 2048]⟩
abbrev S4x1024x2048 : Shape := ⟨3, ![4, 1024, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x8192, .f32⟩
  | .hbm, ⟨3, _⟩ => ⟨S4096x8192, .f32⟩
  | .hbm, ⟨4, _⟩ => ⟨S4096x8192, .f32⟩
  | .hbm, ⟨5, _⟩ => ⟨S8192x2048, .f32⟩
  | .hbm, ⟨6, _⟩ => ⟨S2048x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S1024x8192, .f32⟩
  | .hbm, ⟨12, _⟩ => ⟨S1024x4x2048, .f32⟩
  | .hbm, ⟨13, _⟩ => ⟨S4x1024x2048, .f32⟩
  | .hbm, ⟨14, _⟩ => ⟨S4x1024x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Out.lean ====
abbrev S4096x2048 : Shape := ⟨2, ![4096, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .f32⟩
  | .hbm, ⟨2, _⟩ => ⟨S4096x2048, .f32⟩
  | .hbm, ⟨3, _⟩ => ⟨S4096x2048, .bf16⟩
  | .hbm, ⟨4, _⟩ => ⟨S2048x2048, .f32⟩
  | .hbm, ⟨5, _⟩ => ⟨S2048x2048, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .f32⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dm.lean ====
abbrev S4096x2048 : Shape := ⟨2, ![4096, 2048]⟩
abbrev S1x2048x2048 : Shape := ⟨3, ![1, 2048, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .f32⟩
  | .hbm, ⟨2, _⟩ => ⟨S4096x2048, .f32⟩
  | .hbm, ⟨3, _⟩ => ⟨S4096x2048, .bf16⟩
  | .hbm, ⟨4, _⟩ => ⟨S2048x2048, .f32⟩
  | .hbm, ⟨5, _⟩ => ⟨S2048x2048, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DmRefIdeal.lean ====
abbrev S4096x2048 : Shape := ⟨2, ![4096, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048x2048, .f32⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Go.lean ====
abbrev S4096x2048 : Shape := ⟨2, ![4096, 2048]⟩
abbrev S1x2048x2048 : Shape := ⟨3, ![1, 2048, 2048]⟩
abbrev S2048x4096 : Shape := ⟨2, ![2048, 4096]⟩
abbrev S4x2x256x4096 : Shape := ⟨4, ![4, 2, 256, 4096]⟩
abbrev S4x1x256x4096 : Shape := ⟨4, ![4, 1, 256, 4096]⟩
abbrev S4x256x4096 : Shape := ⟨3, ![4, 256, 4096]⟩
abbrev S4x256x2048 : Shape := ⟨3, ![4, 256, 2048]⟩
abbrev S4x1x256x1024 : Shape := ⟨4, ![4, 1, 256, 1024]⟩
abbrev S4x256x1024 : Shape := ⟨3, ![4, 256, 1024]⟩
abbrev S1024x2048 : Shape := ⟨2, ![1024, 2048]⟩
abbrev S1024x1024 : Shape := ⟨2, ![1024, 1024]⟩

abbrev nBuf : Space → Nat
  | .hbm => 17
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S2048x4096, .bf16⟩
  | .hbm, ⟨7, _⟩ => ⟨S4x2x256x4096, .bf16⟩
  | .hbm, ⟨8, _⟩ => ⟨S4096x2048, .bf16⟩
  | .hbm, ⟨9, _⟩ => ⟨S2048x4096, .bf16⟩
  | .hbm, ⟨10, _⟩ => ⟨S4x2x256x4096, .bf16⟩
  | .hbm, ⟨11, _⟩ => ⟨S4x1x256x4096, .bf16⟩
  | .hbm, ⟨12, _⟩ => ⟨S4x256x4096, .bf16⟩
  | .hbm, ⟨13, _⟩ => ⟨S4096x2048, .bf16⟩
  | .hbm, ⟨14, _⟩ => ⟨S4096x2048, .bf16⟩
  | .hbm, ⟨15, _⟩ => ⟨S4x256x2048, .f32⟩
  | .hbm, ⟨16, _⟩ => ⟨S4x256x2048, .bf16⟩
  | .local _ .vmem, ⟨0, _⟩ => ⟨S4x1x256x1024, .bf16⟩
  | .local _ .vmem, ⟨1, _⟩ => ⟨S4x1x256x1024, .bf16⟩
  | .local _ .vmem, ⟨2, _⟩ => ⟨S4x256x1024, .bf16⟩
  | .local _ .vmem, ⟨3, _⟩ => ⟨S4x256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S4x256x2048, .f32⟩
  | .local _ .vmem, ⟨9, _⟩ => ⟨S4x256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v14 : BitVec 1 := Scalar.cmpi .eq arg0 c0_i32
  let v15 : BitVec 32 := Scalar.extui v14
  let c0_i32_11 : BitVec 32 := 0#32
  let v16 : BitVec 1 := Scalar.cmpi .ne v15 c0_i32_11
  v16

def k0_cond2 (i : grid0.Coords) : BitVec 1 :=
  let arg0 : BitVec 32 := BitVec.ofNat 32 (i 0).val
  let c0_i32_12 : BitVec 32 := 0#32
  let v17 : BitVec 1 := Scalar.cmpi .sgt arg0 c0_i32_12
  let v18 : BitVec 32 := Scalar.extui v17
  let c0_i32_13 : BitVec 32 := 0#32
  let v19 : BitVec 1 := Scalar.cmpi .ne v18 c0_i32_13
  v19

def k0_cond3 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_14 : BitVec 32 := 0#32
  let v22 : BitVec 1 := Scalar.cmpi .ne v21 c0_i32_14
  v22

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GoRefIdeal.lean ====
abbrev S4096x2048 : Shape := ⟨2, ![4096, 2048]⟩
abbrev S1x2048x2048 : Shape := ⟨3, ![1, 2048, 2048]⟩
abbrev S8192x2048 : Shape := ⟨2, ![8192, 2048]⟩
abbrev S2048x2048 : Shape := ⟨2, ![2048, 2048]⟩
abbrev S4x2x256x2048 : Shape := ⟨4, ![4, 2, 256, 2048]⟩
abbrev S4x1x256x2048 : Shape := ⟨4, ![4, 1, 256, 2048]⟩
abbrev S4x256x2048 : Shape := ⟨3, ![4, 256, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x2048, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S2048x2048, .f32⟩
  | .hbm, ⟨10, _⟩ => ⟨S2048x2048, .f32⟩
  | .hbm, ⟨11, _⟩ => ⟨S4x2x256x2048, .f32⟩
  | .hbm, ⟨12, _⟩ => ⟨S4x1x256x2048, .f32⟩
  | .hbm, ⟨13, _⟩ => ⟨S4x256x2048, .f32⟩
  | .hbm, ⟨14, _⟩ => ⟨S4x256x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Inp.lean ====
abbrev S4096x2048 : Shape := ⟨2, ![4096, 2048]⟩
abbrev S1x2048 : Shape := ⟨2, ![1, 2048]⟩
abbrev S1x2048x3328 : Shape := ⟨3, ![1, 2048, 3328]⟩
abbrev S2048x3328 : Shape := ⟨2, ![2048, 3328]⟩
abbrev S3328x2048 : Shape := ⟨2, ![3328, 2048]⟩
abbrev S2x4096x2048 : Shape := ⟨3, ![2, 4096, 2048]⟩
abbrev S4096x3328 : Shape := ⟨2, ![4096, 3328]⟩
abbrev S512x2048 : Shape := ⟨2, ![512, 2048]⟩
abbrev S1664x2048 : Shape := ⟨2, ![1664, 2048]⟩
abbrev S1x512x2048 : Shape := ⟨3, ![1, 512, 2048]⟩
abbrev S512x1664 : Shape := ⟨2, ![512, 1664]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048x3328, .f32⟩
  | .hbm, ⟨3, _⟩ => ⟨S2048x3328, .f32⟩
  | .hbm, ⟨4, _⟩ => ⟨S3328x2048, .f32⟩
  | .hbm, ⟨5, _⟩ => ⟨S3328x2048, .bf16⟩
  | .hbm, ⟨6, _⟩ => ⟨S2x4096x2048, .bf16⟩
  | .hbm, ⟨7, _⟩ => ⟨S4096x3328, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1664x2048, .bf16⟩
  | .local _ .vmem, ⟨4, _⟩ => ⟨S1664x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S512x1664, .f32⟩
  | .local _ .vmem, ⟨8, _⟩ => ⟨S512x1664, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1664x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InpRefIdeal.lean ====
abbrev S4096x2048 : Shape := ⟨2, ![4096, 2048]⟩
abbrev S1x2048 : Shape := ⟨2, ![1, 2048]⟩
abbrev S1x2048x3328 : Shape := ⟨3, ![1, 2048, 3328]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x4096x2048 : Shape := ⟨3, ![1, 4096, 2048]⟩
abbrev S2x4096x2048 : Shape := ⟨3, ![2, 4096, 2048]⟩
abbrev S2048x3328 : Shape := ⟨2, ![2048, 3328]⟩
abbrev S4096x3328 : Shape := ⟨2, ![4096, 3328]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048x3328, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S1x4096x2048, .f32⟩
  | .hbm, ⟨21, _⟩ => ⟨S1x4096x2048, .f32⟩
  | .hbm, ⟨22, _⟩ => ⟨S2x4096x2048, .f32⟩
  | .hbm, ⟨23, _⟩ => ⟨S2x4096x2048, .bf16⟩
  | .hbm, ⟨24, _⟩ => ⟨S2048x3328, .f32⟩
  | .hbm, ⟨25, _⟩ => ⟨S4096x3328, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Di.lean ====
abbrev S4096x2048 : Shape := ⟨2, ![4096, 2048]⟩
abbrev S4096x3328 : Shape := ⟨2, ![4096, 3328]⟩
abbrev S1x2048x3328 : Shape := ⟨3, ![1, 2048, 3328]⟩
abbrev S4096x1024 : Shape := ⟨2, ![4096, 1024]⟩
abbrev S4096x256 : Shape := ⟨2, ![4096, 256]⟩
abbrev S2048x3328 : Shape := ⟨2, ![2048, 3328]⟩
abbrev S3328x2048 : Shape := ⟨2, ![3328, 2048]⟩
abbrev S1024x2048 : Shape := ⟨2, ![1024, 2048]⟩
abbrev S1024x1024 : Shape := ⟨2, ![1024, 1024]⟩
abbrev S1024x256 : Shape := ⟨2, ![1024, 256]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S4096x3328, .f32⟩
  | .hbm, ⟨2, _⟩ => ⟨S1x2048x3328, .f32⟩
  | .hbm, ⟨3, _⟩ => ⟨S4096x3328, .bf16⟩
  | .hbm, ⟨4, _⟩ => ⟨S4096x2048, .bf16⟩
  | .hbm, ⟨5, _⟩ => ⟨S4096x1024, .bf16⟩
  | .hbm, ⟨6, _⟩ => ⟨S4096x256, .bf16⟩
  | .hbm, ⟨7, _⟩ => ⟨S2048x3328, .f32⟩
  | .hbm, ⟨8, _⟩ => ⟨S3328x2048, .f32⟩
  | .hbm, ⟨9, _⟩ => ⟨S3328x2048, .bf16⟩
  | .hbm, ⟨10, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S1024x256, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S1024x1024, .f32⟩
  | .local _ .vmem, ⟨13, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let c0_i32 : BitVec 32 := 0#32
  ![c12_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DiRefIdeal.lean ====
abbrev S4096x2048 : Shape := ⟨2, ![4096, 2048]⟩
abbrev S4096x3328 : Shape := ⟨2, ![4096, 3328]⟩
abbrev S1x2048x3328 : Shape := ⟨3, ![1, 2048, 3328]⟩
abbrev S2048x3328 : Shape := ⟨2, ![2048, 3328]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x3328, .f32⟩
  | .hbm, ⟨2, _⟩ => ⟨S1x2048x3328, .f32⟩
  | .hbm, ⟨3, _⟩ => ⟨S2048x3328, .f32⟩
  | .hbm, ⟨4, _⟩ => ⟨S4096x3328, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Far.lean ====
abbrev S4096x2048 : Shape := ⟨2, ![4096, 2048]⟩
abbrev S1x2048x3328 : Shape := ⟨3, ![1, 2048, 3328]⟩
abbrev S4096x3328 : Shape := ⟨2, ![4096, 3328]⟩
abbrev S4x416x2048 : Shape := ⟨3, ![4, 416, 2048]⟩
abbrev S3328x4096 : Shape := ⟨2, ![3328, 4096]⟩
abbrev S4x2x416x4096 : Shape := ⟨4, ![4, 2, 416, 4096]⟩
abbrev S4x1x416x4096 : Shape := ⟨4, ![4, 1, 416, 4096]⟩
abbrev S4x416x4096 : Shape := ⟨3, ![4, 416, 4096]⟩
abbrev S1x4096x2048 : Shape := ⟨3, ![1, 4096, 2048]⟩
abbrev S2x4096x2048 : Shape := ⟨3, ![2, 4096, 2048]⟩
abbrev S1x1x416x1024 : Shape := ⟨4, ![1, 1, 416, 1024]⟩
abbrev S1x416x1024 : Shape := ⟨3, ![1, 416, 1024]⟩
abbrev S1x1024x2048 : Shape := ⟨3, ![1, 1024, 2048]⟩
abbrev S1024x2048 : Shape := ⟨2, ![1024, 2048]⟩
abbrev S1x416x2048 : Shape := ⟨3, ![1, 416, 2048]⟩
abbrev S416x1024 : Shape := ⟨2, ![416, 1024]⟩
abbrev S416x2048 : Shape := ⟨2, ![416, 2048]⟩

abbrev nBuf : Space → Nat
  | .hbm => 21
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x3328, .f32⟩
  | .hbm, ⟨3, _⟩ => ⟨S4096x3328, .f32⟩
  | .hbm, ⟨4, _⟩ => ⟨S4096x3328, .f32⟩
  | .hbm, ⟨5, _⟩ => ⟨S4x416x2048, .f32⟩
  | .hbm, ⟨6, _⟩ => ⟨S4096x3328, .bf16⟩
  | .hbm, ⟨7, _⟩ => ⟨S3328x4096, .bf16⟩
  | .hbm, ⟨8, _⟩ => ⟨S4x2x416x4096, .bf16⟩
  | .hbm, ⟨9, _⟩ => ⟨S4096x3328, .bf16⟩
  | .hbm, ⟨10, _⟩ => ⟨S3328x4096, .bf16⟩
  | .hbm, ⟨11, _⟩ => ⟨S4x2x416x4096, .bf16⟩
  | .hbm, ⟨12, _⟩ => ⟨S4x1x416x4096, .bf16⟩
  | .hbm, ⟨13, _⟩ => ⟨S4x416x4096, .bf16⟩
  | .hbm, ⟨14, _⟩ => ⟨S1x4096x2048, .f32⟩
  | .hbm, ⟨15, _⟩ => ⟨S1x4096x2048, .f32⟩
  | .hbm, ⟨16, _⟩ => ⟨S2x4096x2048, .f32⟩
  | .hbm, ⟨17, _⟩ => ⟨S2x4096x2048, .bf16⟩
  | .hbm, ⟨18, _⟩ => ⟨S4096x2048, .bf16⟩
  | .hbm, ⟨19, _⟩ => ⟨S4x416x2048, .f32⟩
  | .hbm, ⟨20, _⟩ => ⟨S4x416x2048, .bf16⟩
  | .local _ .vmem, ⟨0, _⟩ => ⟨S1x1x416x1024, .bf16⟩
  | .local _ .vmem, ⟨1, _⟩ => ⟨S1x1x416x1024, .bf16⟩
  | .local _ .vmem, ⟨2, _⟩ => ⟨S1x416x1024, .bf16⟩
  | .local _ .vmem, ⟨3, _⟩ => ⟨S1x416x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1x416x2048, .f32⟩
  | .local _ .vmem, ⟨9, _⟩ => ⟨S1x416x2048, .f32⟩
  | .local _ .vmem, ⟨10, _⟩ => ⟨S1x416x2048, .bf16⟩
  | .local _ .vmem, ⟨11, _⟩ => ⟨S1x416x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v11 : BitVec 1 := Scalar.cmpi .eq arg2 c0_i32
  let v12 : BitVec 32 := Scalar.extui v11
  let c0_i32_12 : BitVec 32 := 0#32
  let v13 : BitVec 1 := Scalar.cmpi .ne v12 c0_i32_12
  v13

def k0_cond2 (i : grid0.Coords) : BitVec 1 :=
  let arg2 : BitVec 32 := BitVec.ofNat 32 (i 2).val
  let c0_i32_13 : BitVec 32 := 0#32
  let v14 : BitVec 1 := Scalar.cmpi .sgt arg2 c0_i32_13
  let v15 : BitVec 32 := Scalar.extui v14
  let c0_i32_14 : BitVec 32 := 0#32
  let v16 : BitVec 1 := Scalar.cmpi .ne v15 c0_i32_14
  v16

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_15 : BitVec 32 := 0#32
  let v19 : BitVec 1 := Scalar.cmpi .ne v18 c0_i32_15
  v19

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let c0_i32_0 : BitVec 32 := 0#32
  let v1 : BitVec 32 := Scalar.select v0 c3_i32 c0_i32_0
  let c0_i32_1 : BitVec 32 := 0#32
  let c0_i32_2 : BitVec 32 := 0#32
  ![v1.toNat, c0_i32_1.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let c0_i32_0 : BitVec 32 := 0#32
  let v1 : BitVec 32 := Scalar.select v0 c3_i32 c0_i32_0
  let c0_i32_1 : BitVec 32 := 0#32
  ![v1.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let c0_i32_0 : BitVec 32 := 0#32
  let v1 : BitVec 32 := Scalar.select v0 c3_i32 c0_i32_0
  let c0_i32_1 : BitVec 32 := 0#32
  let c0_i32_2 : BitVec 32 := 0#32
  ![v1.toNat, arg1.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c3_i32 : BitVec 32 := 3#32
  let c0_i32_0 : BitVec 32 := 0#32
  let v1 : BitVec 32 := Scalar.select v0 c3_i32 c0_i32_0
  let c0_i32_1 : BitVec 32 := 0#32
  let c0_i32_2 : BitVec 32 := 0#32
  ![v1.toNat, arg1.toNat, c0_i32_1.toNat]

abbrev stage0_0 : Fin 2 → Memref sig .tc .vmem S1x1x416x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x416x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x416x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x416x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FarRefIdeal.lean ====
abbrev S4096x2048 : Shape := ⟨2, ![4096, 2048]⟩
abbrev S1x2048x3328 : Shape := ⟨3, ![1, 2048, 3328]⟩
abbrev S4096x3328 : Shape := ⟨2, ![4096, 3328]⟩
abbrev S4x416x2048 : Shape := ⟨3, ![4, 416, 2048]⟩
abbrev S8192x2048 : Shape := ⟨2, ![8192, 2048]⟩
abbrev S2048x3328 : Shape := ⟨2, ![2048, 3328]⟩
abbrev S8192x3328 : Shape := ⟨2, ![8192, 3328]⟩
abbrev S3328x2048 : Shape := ⟨2, ![3328, 2048]⟩
abbrev S4x2x416x2048 : Shape := ⟨4, ![4, 2, 416, 2048]⟩
abbrev S4x1x416x2048 : Shape := ⟨4, ![4, 1, 416, 2048]⟩
abbrev S1x416x2048 : Shape := ⟨3, ![1, 416, 2048]⟩
abbrev S2x416x2048 : Shape := ⟨3, ![2, 416, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048x3328, .f32⟩
  | .hbm, ⟨3, _⟩ => ⟨S4096x3328, .f32⟩
  | .hbm, ⟨4, _⟩ => ⟨S4096x3328, .f32⟩
  | .hbm, ⟨5, _⟩ => ⟨S4x416x2048, .f32⟩
  | .hbm, ⟨6, _⟩ => ⟨S8192x2048, .f32⟩
  | .hbm, ⟨7, _⟩ => ⟨S2048x3328, .f32⟩
  | .hbm, ⟨8, _⟩ => ⟨S8192x3328, .f32⟩
  | .hbm, ⟨9, _⟩ => ⟨S8192x3328, .f32⟩
  | .hbm, ⟨10, _⟩ => ⟨S3328x2048, .f32⟩
  | .hbm, ⟨11, _⟩ => ⟨S2048x3328, .f32⟩
  | .hbm, ⟨12, _⟩ => ⟨S3328x2048, .f32⟩
  | .hbm, ⟨13, _⟩ => ⟨S4x2x416x2048, .f32⟩
  | .hbm, ⟨14, _⟩ => ⟨S4x1x416x2048, .f32⟩
  | .hbm, ⟨15, _⟩ => ⟨S4x416x2048, .f32⟩
  | .hbm, ⟨16, _⟩ => ⟨S1x416x2048, .f32⟩
  | .hbm, ⟨17, _⟩ => ⟨S2x416x2048, .f32⟩
  | .hbm, ⟨18, _⟩ => ⟨S1x416x2048, .f32⟩
  | .hbm, ⟨19, _⟩ => ⟨S4x416x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Up.lean ====
abbrev S4096x2048 : Shape := ⟨2, ![4096, 2048]⟩
abbrev S1x2048 : Shape := ⟨2, ![1, 2048]⟩
abbrev S1x2048x8192 : Shape := ⟨3, ![1, 2048, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S2048x4096 : Shape := ⟨2, ![2048, 4096]⟩
abbrev S4096x8192 : Shape := ⟨2, ![4096, 8192]⟩
abbrev S8192x4096 : Shape := ⟨2, ![8192, 4096]⟩
abbrev S1024x2048 : Shape := ⟨2, ![1024, 2048]⟩
abbrev S1x2048x1024 : Shape := ⟨3, ![1, 2048, 1024]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048x8192, .f32⟩
  | .hbm, ⟨3, _⟩ => ⟨S2048x8192, .f32⟩
  | .hbm, ⟨4, _⟩ => ⟨S2048x4x2048, .f32⟩
  | .hbm, ⟨5, _⟩ => ⟨S4x2048x2048, .f32⟩
  | .hbm, ⟨6, _⟩ => ⟨S4x2048x2048, .bf16⟩
  | .hbm, ⟨7, _⟩ => ⟨S2048x4096, .bf16⟩
  | .hbm, ⟨8, _⟩ => ⟨S4096x8192, .bf16⟩
  | .hbm, ⟨9, _⟩ => ⟨S4096x8192, .bf16⟩
  | .hbm, ⟨10, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== UpRefIdeal.lean ====
abbrev S4096x2048 : Shape := ⟨2, ![4096, 2048]⟩
abbrev S1x2048 : Shape := ⟨2, ![1, 2048]⟩
abbrev S1x2048x8192 : Shape := ⟨3, ![1, 2048, 8192]⟩
abbrev S2048 : Shape := ⟨1, ![2048]⟩
abbrev S_ : Shape := ⟨0, ![]⟩
abbrev S4096 : Shape := ⟨1, ![4096]⟩
abbrev S4096x1 : Shape := ⟨2, ![4096, 1]⟩
abbrev S2048x8192 : Shape := ⟨2, ![2048, 8192]⟩
abbrev S4096x8192 : Shape := ⟨2, ![4096, 8192]⟩
abbrev S2048x4096 : Shape := ⟨2, ![2048, 4096]⟩
abbrev S8192x4096 : Shape := ⟨2, ![8192, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048x8192, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | .hbm, ⟨20, _⟩ => ⟨S2048x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S4096x2048, .bf16⟩
  | .hbm, ⟨26, _⟩ => ⟨S2048x4096, .bf16⟩
  | .hbm, ⟨27, _⟩ => ⟨S4096x8192, .bf16⟩
  | .hbm, ⟨28, _⟩ => ⟨S4096x8192, .f32⟩
  | .hbm, ⟨29, _⟩ => ⟨S4096x8192, .bf16⟩
  | .hbm, ⟨30, _⟩ => ⟨S4096x8192, .f32⟩
  | .hbm, ⟨31, _⟩ => ⟨S4096x8192, .bf16⟩
  | .hbm, ⟨32, _⟩ => ⟨S8192x4096, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.Consts.lean ====
/- The words of the literals that both programs use, read as real numbers, and the arithmetic of extended reals
   on finite values: a sum, a quotient, a reciprocal square root of coerced reals is the coercion of the real one. -/
module

public import Idealize.ShloMosaic.PureOps.Ideal
public import Idealize.ShloMosaic.PureOps.IdealRules

@[expose] public section

noncomputable section

namespace Gmlp

open Idealize.ShloMosaic

/-- The word of 0.5. -/
theorem w_half : Ideal.ofBits .f32 0x3F000000#32 = ((1 / 2 : ℝ) : EReal) := by
  simp [Ideal.ofBits, Ideal.ieee, -EReal.coe_mul]; norm_num
/-- The word of −0.5. -/
theorem w_neghalf : Ideal.ofBits .f32 0xBF000000#32 = ((-(1 / 2) : ℝ) : EReal) := by
  simp [Ideal.ofBits, Ideal.ieee, -EReal.coe_mul]; norm_num
/-- The word of 3. -/
theorem w_three : Ideal.ofBits .f32 0x40400000#32 = ((3 : ℝ) : EReal) := by
  simp [Ideal.ofBits, Ideal.ieee, -EReal.coe_mul]; norm_num
/-- The word nearest to √(2/π). -/
theorem w_c : Ideal.ofBits .f32 0x3F4C422A#32 = ((6693141 / 8388608 : ℝ) : EReal) := by
  simp [Ideal.ofBits, Ideal.ieee, -EReal.coe_mul]; norm_num
/-- The word nearest to 1e-5. -/
theorem w_eps : Ideal.ofBits .f32 0x3727C5AC#32 = ((2748779 / 274877906944 : ℝ) : EReal) := by
  simp [Ideal.ofBits, Ideal.ieee, -EReal.coe_mul]; norm_num
/-- The word of 128. -/
theorem w_128 : Ideal.ofBits .f32 0x43000000#32 = ((128 : ℝ) : EReal) := by
  simp [Ideal.ofBits, Ideal.ieee, -EReal.coe_mul]; norm_num
/-- The word of 1024. -/
theorem w_1024 : Ideal.ofBits .f32 0x44800000#32 = ((1024 : ℝ) : EReal) := by
  simp [Ideal.ofBits, Ideal.ieee, -EReal.coe_mul]; norm_num
/-- The word of 1. -/
theorem w_one : Ideal.ofBits .f32 0x3F800000#32 = ((1 : ℝ) : EReal) := by
  simp [Ideal.ofBits, Ideal.ieee, -EReal.coe_mul]; norm_num
/-- The word of 44715. -/
theorem w_44715 : Ideal.ofBits .f32 0x472EAB00#32 = ((44715 : ℝ) : EReal) := by
  simp [Ideal.ofBits, Ideal.ieee, -EReal.coe_mul]; norm_num
/-- The word of a million. -/
theorem w_million : Ideal.ofBits .f32 0x49742400#32 = ((1000000 : ℝ) : EReal) := by
  simp [Ideal.ofBits, Ideal.ieee, -EReal.coe_mul]; norm_num
/-- The word of 0. -/
theorem w_zero : Ideal.ofBits .f32 0x00000000#32 = ((0 : ℝ) : EReal) := by
  simp [Ideal.ofBits, Ideal.ieee]
/-- The word of +∞. -/
theorem w_top : Ideal.ofBits .f32 0x7F800000#32 = (⊤ : EReal) := by
  simp [Ideal.ofBits, Ideal.ieee]

/-- One, as a coerced real. -/
theorem one_coe : (1 : EReal) = ((1 : ℝ) : EReal) := rfl
/-- Zero, as a coerced real. -/
theorem zero_coe : (0 : EReal) = ((0 : ℝ) : EReal) := rfl

/-- A finite sum of coerced reals is the coerced sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division by a nonzero real. -/
theorem div_coe' (x y : ℝ) (h : y ≠ 0) : Ideal.div (x : EReal) (y : EReal) = ((x / y : ℝ) : EReal) := by
  rw [Ideal.div_coe h, ← EReal.coe_mul, mul_one_div]

/-- Division by 128. -/
theorem div_128 (x : ℝ) : Ideal.div (x : EReal) ((128 : ℝ) : EReal) = ((x / 128 : ℝ) : EReal) := div_coe' x 128 (by norm_num)
/-- Division by 1024. -/
theorem div_1024 (x : ℝ) : Ideal.div (x : EReal) ((1024 : ℝ) : EReal) = ((x / 1024 : ℝ) : EReal) := div_coe' x 1024 (by norm_num)

/-- The reciprocal square root of a positive real. -/
theorem rsqrt_pos (x : ℝ) (h : 0 < x) : Ideal.rsqrt (x : EReal) = (((√x)⁻¹ : ℝ) : EReal) := by
  rw [Ideal.rsqrt_coe, if_neg (not_lt.2 h.le), if_neg h.ne']

/-- A choice between two reals is made before or after coercing. -/
theorem ite_coe (p : Prop) [Decidable p] (x y : ℝ) : (if p then ((x : ℝ) : EReal) else ((y : ℝ) : EReal)) = ((if p then x else y : ℝ) : EReal) := by
  split_ifs <;> rfl

/-- An extended real whose absolute value is below +∞ is a real. -/
theorem real_of_abs_lt (x : EReal) (h : max x (-x) < ⊤) : ∃ r : ℝ, x = (r : EReal) := by
  induction x using EReal.rec with
  | bot => simp at h
  | top => simp at h
  | coe r => exact ⟨r, rfl⟩

end Gmlp

end
-- ==== Proof.Reals.lean ====
/- The real mathematics of the gradient of the spatial gating and of its RMS normalisation, over one device's rows cut
   into 32 chunks of 128 rows and 8 groups of 128 lanes: the forward values, and the gradients in the shape in which the
   kernel computes them. -/
module

public import Idealize.ShloMosaic.PureOps.Ideal

@[expose] public section

noncomputable section

namespace Gmlp

/-- The float word nearest to √(2/π), as a real. -/
def cc : ℝ := 6693141 / 8388608
/-- The coefficient of the cube. -/
def ca : ℝ := 8943 / 200000
/-- Three times that coefficient. -/
def c3a : ℝ := 26829 / 200000
/-- The small number under the square roots. -/
def eps : ℝ := 2748779 / 274877906944

/-- The tanh of the tanh form of GELU. -/
def th (x : ℝ) : ℝ := Real.tanh (cc * (x + ca * (x * x * x)))
/-- GELU, tanh form. -/
def gelu (x : ℝ) : ℝ := 1 / 2 * x * (1 + th x)
/-- The derivative of GELU, tanh form. -/
def geluD (x : ℝ) : ℝ :=
  1 / 2 * (1 + th x) + 1 / 2 * x * (1 - th x * th x) * (cc * (1 + c3a * (x * x)))

/-- A function on the lanes of one row, less its mean. -/
def dev (f : Fin 128 → ℝ) (e : Fin 128) : ℝ := f e - (∑ k, f k) / 128
/-- The mean square of the deviations plus the small number. -/
def vari (f : Fin 128 → ℝ) : ℝ := (∑ k, dev f k * dev f k) / 128 + eps
/-- The reciprocal standard deviation. -/
def rstd (f : Fin 128 → ℝ) : ℝ := (√(vari f))⁻¹
/-- The normalised row. -/
def xhat (f : Fin 128 → ℝ) (e : Fin 128) : ℝ := dev f e * rstd f
/-- The gradient of the normalisation: from the gradient `dx` of the normalised row to that of the row. -/
def lnB (f dx : Fin 128 → ℝ) (e : Fin 128) : ℝ :=
  rstd f * (dx e - (∑ k, dx k) / 128 - xhat f e * ((∑ k, dx k * xhat f k) / 128))

/-- The mean square of 1024 values plus the small number. -/
def msq (a : Fin 1024 → ℝ) : ℝ := (∑ j, a j * a j) / 1024 + eps
/-- Its reciprocal root. -/
def rrms (a : Fin 1024 → ℝ) : ℝ := (√(msq a))⁻¹
/-- The gradient of the RMS normalisation. -/
def rmsB (a w : Fin 1024 → ℝ) (j : Fin 1024) : ℝ :=
  rrms a * w j - a j * (rrms a * rrms a * rrms a * ((∑ k, w k * a k) / 1024))

/-- Column `128 g + e` of 1024. -/
def col (g : Fin 8) (e : Fin 128) : Fin 1024 := ⟨128 * g.val + e.val, by omega⟩
/-- The group of a column. -/
def cg (j : Fin 1024) : Fin 8 := ⟨j.val / 128, by omega⟩
/-- The lane of a column. -/
def ce (j : Fin 1024) : Fin 128 := ⟨j.val % 128, by omega⟩
/-- Row `128 n + p` of 4096. -/
def row (n : Fin 32) (p : Fin 128) : Fin 4096 := ⟨128 * n.val + p.val, by omega⟩
/-- The chunk of a row. -/
def rn (r : Fin 4096) : Fin 32 := ⟨r.val / 128, by omega⟩
/-- The place of a row in its chunk. -/
def rp (r : Fin 4096) : Fin 128 := ⟨r.val % 128, by omega⟩

@[simp] theorem cg_col (g : Fin 8) (e : Fin 128) : cg (col g e) = g := by ext; simp only [cg, col]; omega
@[simp] theorem ce_col (g : Fin 8) (e : Fin 128) : ce (col g e) = e := by ext; simp only [ce, col]; omega
@[simp] theorem col_cg (j : Fin 1024) : col (cg j) (ce j) = j := by ext; simp only [cg, ce, col]; omega
@[simp] theorem rn_row (n : Fin 32) (p : Fin 128) : rn (row n p) = n := by ext; simp only [rn, row]; omega
@[simp] theorem rp_row (n : Fin 32) (p : Fin 128) : rp (row n p) = p := by ext; simp only [rp, row]; omega
@[simp] theorem row_rn (r : Fin 4096) : row (rn r) (rp r) = r := by ext; simp only [rn, rp, row]; omega

/-- The real arrays the kernel reads: the two gate halves of the projection, the gradient of the normalised
    gating, the gains and biases, the mixing matrices. -/
structure Dat where
  u : Fin 4096 → Fin 1024 → ℝ
  v : Fin 4096 → Fin 1024 → ℝ
  d : Fin 4096 → Fin 1024 → ℝ
  ga : Fin 1024 → ℝ
  lg : Fin 8 → Fin 128 → ℝ
  lb : Fin 8 → Fin 128 → ℝ
  w : Fin 8 → Fin 128 → Fin 128 → ℝ
  bs : Fin 8 → Fin 128 → ℝ

namespace Dat

variable (D : Dat)

/-- The gated value rows of a group. -/
def vg (r : Fin 4096) (g : Fin 8) (e : Fin 128) : ℝ := gelu (D.v r (col g e))
/-- The layer-normalised rows of a group with gain and bias. -/
def vl (r : Fin 4096) (g : Fin 8) (e : Fin 128) : ℝ := xhat (D.vg r g) e * D.lg g e + D.lb g e
/-- The causal mixing matrix. -/
def wc (g : Fin 8) (p s : Fin 128) : ℝ := if s ≤ p then D.w g p s else 0
/-- The mixed rows. -/
def mx (r : Fin 4096) (g : Fin 8) (e : Fin 128) : ℝ := ∑ s, D.wc g (rp r) s * D.vl (row (rn r) s) g e + D.bs g (rp r)
/-- The gating's output. -/
def a (r : Fin 4096) (j : Fin 1024) : ℝ := gelu (D.u r j) * D.mx r (cg j) (ce j)
/-- The gradient of the gating's output. -/
def da (r : Fin 4096) (j : Fin 1024) : ℝ := rmsB (D.a r) (fun k => D.d r k * D.ga k) j
/-- The gradient of the gate. -/
def dug (r : Fin 4096) (j : Fin 1024) : ℝ := D.da r j * D.mx r (cg j) (ce j)
/-- The gradient of the mixed rows. -/
def dm (r : Fin 4096) (g : Fin 8) (e : Fin 128) : ℝ := D.da r (col g e) * gelu (D.u r (col g e))
/-- The gradient of the layer-normalised rows. -/
def dvl (r : Fin 4096) (g : Fin 8) (e : Fin 128) : ℝ := ∑ p, D.wc g p (rp r) * D.dm (row (rn r) p) g e
/-- The gradient of the gated value rows. -/
def dvg (r : Fin 4096) (g : Fin 8) (e : Fin 128) : ℝ := lnB (D.vg r g) (fun k => D.dvl r g k * D.lg g k) e
/-- The gradient of the gate half of the projection. -/
def du (r : Fin 4096) (j : Fin 1024) : ℝ := D.dug r j * geluD (D.u r j)
/-- The gradient of the value half of the projection. -/
def dv (r : Fin 4096) (j : Fin 1024) : ℝ := D.dvg r (cg j) (ce j) * geluD (D.v r j)
/-- One chunk's part of the gradient of the RMS gain. -/
def dgaC (n : Fin 32) (j : Fin 1024) : ℝ := ∑ p, D.d (row n p) j * (D.a (row n p) j * rrms (D.a (row n p)))
/-- One chunk's part of the gradient of the mixing matrix. -/
def dwC (n : Fin 32) (g : Fin 8) (p s : Fin 128) : ℝ :=
  if s ≤ p then ∑ e, D.dm (row n p) g e * D.vl (row n s) g e else 0
/-- One chunk's part of the gradient of the mixing bias. -/
def dbsC (n : Fin 32) (g : Fin 8) (p : Fin 128) : ℝ := ∑ e, D.dm (row n p) g e
/-- One chunk's part of the gradient of the layer-norm gain. -/
def dlgC (n : Fin 32) (g : Fin 8) (e : Fin 128) : ℝ := ∑ p, D.dvl (row n p) g e * xhat (D.vg (row n p) g) e
/-- One chunk's part of the gradient of the layer-norm bias. -/
def dlbC (n : Fin 32) (g : Fin 8) (e : Fin 128) : ℝ := ∑ p, D.dvl (row n p) g e

end Dat

theorem eps_pos : 0 < eps := by unfold eps; norm_num

theorem vari_pos (f : Fin 128 → ℝ) : 0 < vari f :=
  add_pos_of_nonneg_of_pos (div_nonneg (Finset.sum_nonneg fun k _ => mul_self_nonneg _) (by norm_num)) eps_pos

theorem msq_pos (a : Fin 1024 → ℝ) : 0 < msq a :=
  add_pos_of_nonneg_of_pos (div_nonneg (Finset.sum_nonneg fun k _ => mul_self_nonneg _) (by norm_num)) eps_pos

/-- The deviations of a row sum to zero. -/
theorem sum_dev (f : Fin 128 → ℝ) : ∑ k, dev f k = 0 := by
  simp only [dev, Finset.sum_sub_distrib, Finset.sum_const, Finset.card_univ, Fintype.card_fin, nsmul_eq_mul]
  push_cast; ring

/-- A reciprocal root squared, times its radicand. -/
theorem inv_sqrt_sq (m : ℝ) (h : 0 < m) : (√m)⁻¹ * (√m)⁻¹ = 1 / m := by
  rw [← mul_inv, Real.mul_self_sqrt h.le, one_div]

/-- GELU with the factors in the reference's order. -/
theorem gelu_ref (x : ℝ) : x * (1 / 2 * (1 + th x)) = gelu x := by unfold gelu; ring

/-- The chain rule through GELU as a derivative program writes it. -/
theorem geluD_ref (x d : ℝ) :
    d * (1 / 2 * (1 + th x)) + cc * (1 / 2 * (x * d) * ((1 + th x) * (1 - th x)))
      + ca * (cc * (1 / 2 * (x * d) * ((1 + th x) * (1 - th x)))) * (3 * (x * x)) = d * geluD x := by
  have h3 : c3a = 3 * ca := by unfold c3a ca; norm_num
  unfold geluD; rw [h3]; ring

/-- The layer norm's gradient as a derivative program writes it, before the mean is taken off. -/
def lnR (f dx : Fin 128 → ℝ) (e : Fin 128) : ℝ :=
  dx e * rstd f + dev f e * ((∑ k, dev f k * dx k) * (-(1 / 2) * (rstd f / vari f)) / 128)
    + (∑ k, dev f k * dx k) * (-(1 / 2) * (rstd f / vari f)) / 128 * dev f e

theorem lnR_eq (f dx : Fin 128 → ℝ) (e : Fin 128) :
    lnR f dx e = rstd f * (dx e - xhat f e * ((∑ k, dx k * xhat f k) / 128)) := by
  have h : rstd f * rstd f = 1 / vari f := inv_sqrt_sq _ (vari_pos f)
  have hs : ∑ k, dx k * xhat f k = (∑ k, dev f k * dx k) * rstd f := by
    rw [Finset.sum_mul]; exact Finset.sum_congr rfl fun k _ => by unfold xhat; ring
  rw [hs]; unfold lnR xhat
  have : rstd f / vari f = rstd f * (rstd f * rstd f) := by rw [h]; ring
  rw [this]; ring

/-- The derivative program's layer-norm gradient is the kernel's. -/
theorem lnB_ref (f dx : Fin 128 → ℝ) (e : Fin 128) :
    lnR f dx e + (∑ k, -(lnR f dx k)) / 128 = lnB f dx e := by
  have hs : ∑ k, -(lnR f dx k) = -(rstd f * ∑ k, dx k) := by
    rw [Finset.sum_neg_distrib]; congr 1
    simp only [lnR_eq, mul_sub, Finset.sum_sub_distrib, ← Finset.mul_sum]
    have : ∑ k, xhat f k * ((∑ j, dx j * xhat f j) / 128) = 0 := by
      rw [← Finset.sum_mul]
      have : ∑ k, xhat f k = 0 := by simp only [xhat, ← Finset.sum_mul, sum_dev, zero_mul]
      rw [this, zero_mul]
    rw [this]; ring
  rw [hs, lnR_eq]; unfold lnB; ring

/-- The RMS norm's gradient as a derivative program writes it is the kernel's. -/
theorem rmsB_ref (a w : Fin 1024 → ℝ) (j : Fin 1024) :
    w j * rrms a + a j * ((∑ k, a k * w k) * (-(1 / 2) * (rrms a / msq a)) / 1024)
      + (∑ k, a k * w k) * (-(1 / 2) * (rrms a / msq a)) / 1024 * a j = rmsB a w j := by
  have h : rrms a * rrms a = 1 / msq a := inv_sqrt_sq _ (msq_pos a)
  have hs : ∑ k, a k * w k = ∑ k, w k * a k := Finset.sum_congr rfl fun k _ => mul_comm _ _
  have : rrms a / msq a = rrms a * (rrms a * rrms a) := by rw [h]; ring
  rw [hs, this]; unfold rmsB; ring

/-- A sum over the rows is a sum over the chunks of sums over their rows. -/
theorem sum_rows (f : Fin 4096 → ℝ) : ∑ r, f r = ∑ n : Fin 32, ∑ p : Fin 128, f (row n p) := by
  rw [← Finset.sum_product']
  refine (Fintype.sum_bijective (fun q : Fin 32 × Fin 128 => row q.1 q.2) ⟨?_, ?_⟩ _ _ fun q => rfl).symm
  · rintro ⟨n, p⟩ ⟨n', p'⟩ h
    have h1 := congrArg rn h
    have h2 := congrArg rp h
    simp only [rn_row, rp_row] at h1 h2
    rw [h1, h2]
  · exact fun r => ⟨(rn r, rp r), row_rn r⟩

end Gmlp

end
-- ==== Proof.Words.lean ====
/- The vector expressions of the gradient kernel's body, one group of 128 lanes at a time, and what each is on arrays of
   real numbers. The eight groups' payloads are these expressions over their own loads (`Groups`). -/
module

public import proofs.«01_k».proof.Proof.Gen.KernelIdeal.Skeleton
public import proofs.«01_k».proof.Proof.Consts
public import proofs.«01_k».proof.Proof.Reals
public import Idealize.ShloMosaic.Lib.Pointwise
public import Idealize.ShloMosaic.Lib.WordCmp

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

/-- A 128×128 block of vector registers. -/
abbrev T : Type := FVec Ideal S128x128 .f32
/-- The same in the narrow format. -/
abbrev Tb : Type := FVec Ideal S128x128 .bf16

/-- The block of a real matrix. -/
def M (f : Fin 128 → Fin 128 → ℝ) : T := fun i => ((f (i 0) (i 1) : ℝ) : EReal)
/-- The block of a real matrix, in the narrow format. -/
def Mb (f : Fin 128 → Fin 128 → ℝ) : Tb := fun i => ((f (i 0) (i 1) : ℝ) : EReal)
/-- The block of a real row. -/
def R1 (f : Fin 128 → ℝ) : FVec Ideal S1x128 .f32 := fun i => ((f (i 1) : ℝ) : EReal)
/-- The block of a real column. -/
def C1 (f : Fin 128 → ℝ) : FVec Ideal S128x1 .f32 := fun i => ((f (i 0) : ℝ) : EReal)
/-- A block of 1024 columns. -/
def M10 (f : Fin 128 → Fin 1024 → ℝ) : FVec Ideal S128x1024 .f32 := fun i => ((f (i 0) (i 1) : ℝ) : EReal)

/-- A row of 1024 columns. -/
def R10 (f : Fin 1024 → ℝ) : FVec Ideal S1x1024 .f32 := fun i => ((f (i 1) : ℝ) : EReal)

/-- GELU of a block. -/
def wGelu (x : T) : T := k0_pay15 x
/-- GELU's derivative on a block. -/
def wGeluD (x : T) : T := k0_pay34 x
/-- A block less the mean of each row. -/
def wDev (y : T) : T :=
  subf y (broadcastTo S128x128 (divf (shapeCast S128x1 (multiReduction .add [1] S128 y 0x00000000#32 reduces_S128x128_S128 (.inl rfl) rfl) shapeCasts_S128_S128x1) (broadcast S128x1 (Scalar.ofBits .f32 0x43000000#32 : Ideal .f32))) broadcasts_S128x1_S128x128)
/-- The reciprocal standard deviation of each row. -/
def wRstd (y : T) : FVec Ideal S128x1 .f32 :=
  rsqrt (addf (divf (shapeCast S128x1 (multiReduction .add [1] S128 (mulf (wDev y) (wDev y)) 0x00000000#32 reduces_S128x128_S128 (.inl rfl) rfl) shapeCasts_S128_S128x1) (broadcast S128x1 (Scalar.ofBits .f32 0x43000000#32 : Ideal .f32))) (broadcast S128x1 (Scalar.ofBits .f32 0x3727C5AC#32 : Ideal .f32)))
/-- The normalised rows. -/
def wXhat (y : T) : T := mulf (wDev y) (broadcastTo S128x128 (wRstd y) broadcasts_S128x1_S128x128)
/-- The normalised rows with gain and bias, in the narrow format. -/
def wVl (lg lb : FVec Ideal S1x128 .f32) (y : T) : Tb :=
  truncf .bf16 (addf (mulf (wXhat y) (broadcastTo S128x128 lg broadcasts_S1x128_S128x128)) (broadcastTo S128x128 lb broadcasts_S1x128_S128x128)) bitsLt_bf16_f32
/-- The causal part of a mixing matrix, in the narrow format. -/
def wWc (w : FVec Ideal S1x128x128 .f32) : Tb := k0_pay11 k0_pay6 w
/-- The mixed rows. -/
def wMx (wc vl : Tb) (bs : FVec Ideal S128x1 .f32) : T :=
  addf (matmul dot_S128x128_S128x128_S128x128_1_0_0_1_n_n none wc vl (constant S128x128 .f32 0x00000000#32)) (broadcastTo S128x128 bs broadcasts_S128x1_S128x128)
/-- A product with the transposed mixing matrix. -/
def wDvl (wc : Tb) (dm : Tb) : T :=
  matmul dot_S128x128_S128x128_S128x128_0_0_1_1_n_n none wc dm (constant S128x128 .f32 0x00000000#32)
/-- The causal part of the products of the rows of two blocks. -/
def wDw (dm vl : Tb) : T :=
  select k0_pay6 (matmul dot_S128x128_S128x128_S128x128_1_1_0_0_n_n none dm vl (constant S128x128 .f32 0x00000000#32)) (broadcast S128x128 (Scalar.ofBits .f32 0x00000000#32 : Ideal .f32))
/-- The sum of each row. -/
def wRowSum (x : T) : FVec Ideal S128x1 .f32 :=
  shapeCast S128x1 (multiReduction .add [1] S128 x 0x00000000#32 reduces_S128x128_S128 (.inl rfl) rfl) shapeCasts_S128_S128x1
/-- The sum of each column. -/
def wColSum (x : T) : FVec Ideal S1x128 .f32 :=
  shapeCast S1x128 (multiReduction .add [0] S128 x 0x00000000#32 reduces_S128x128_S128_2 (.inl rfl) rfl) shapeCasts_S128_S1x128
/-- The layer norm's gradient, from that of the normalised rows with gain and bias. -/
def wLnB (lg : FVec Ideal S1x128 .f32) (y dvl : T) : T := k0_pay33 (wRstd y)
  (subf
    (subf (mulf dvl (broadcastTo S128x128 lg broadcasts_S1x128_S128x128)) (broadcastTo S128x128 (divf (wRowSum (mulf dvl (broadcastTo S128x128 lg broadcasts_S1x128_S128x128))) (broadcast S128x1 (Scalar.ofBits .f32 0x43000000#32 : Ideal .f32))) broadcasts_S128x1_S128x128))
    (mulf (wXhat y) (broadcastTo S128x128 (divf (wRowSum (mulf (mulf dvl (broadcastTo S128x128 lg broadcasts_S1x128_S128x128)) (wXhat y))) (broadcast S128x1 (Scalar.ofBits .f32 0x43000000#32 : Ideal .f32))) broadcasts_S128x1_S128x128)))
/-- The narrow copy of a block. -/
def wB (x : T) : Tb := truncf .bf16 x bitsLt_bf16_f32

/-- The coefficient of the cube, named. -/
theorem n_a : Named.named (F := Ideal) κ "gelu_a" (φ := .f32) 0x3D372713#32 = ((ca : ℝ) : EReal) :=
  IdealRules.named_const.ideal_named_scalar _ _ _ _ rfl
/-- Three times that coefficient, named. -/
theorem n_3a : Named.named (F := Ideal) κ "gelu_3a" (φ := .f32) 0x3E095D4F#32 = ((c3a : ℝ) : EReal) :=
  IdealRules.named_const.ideal_named_scalar _ _ _ _ rfl

section
variable (x y : Fin 128 → Fin 128 → ℝ) (lg lb : Fin 128 → ℝ)

theorem gelu_M : wGelu (M x) = M fun p e => gelu (x p e) := by
  funext i; idx_vars i
  pointwise [wGelu, k0_pay15, M]
  simp only [n_a, w_half, w_c, one_coe, ← EReal.coe_mul, ← EReal.coe_add, Ideal.tanh_coe]
  rfl

theorem geluD_M : wGeluD (M x) = M fun p e => geluD (x p e) := by
  funext i; idx_vars i
  pointwise [wGeluD, k0_pay34, M]
  simp only [n_a, n_3a, w_half, w_c, one_coe, ← EReal.coe_mul, ← EReal.coe_add, ← EReal.coe_sub, Ideal.tanh_coe]
  rfl

theorem dev_M : wDev (M x) = M fun p e => dev (x p) e := by
  funext i; idx_vars i
  pointwise [wDev, M]
  simp only [w_128, sum_coe, div_128, ← EReal.coe_sub]
  rfl

theorem rstd_M : wRstd (M x) = C1 fun p => rstd (x p) := by
  funext i; idx_vars i
  pointwise [wRstd, dev_M, C1]
  pointwise [M]
  simp only [w_128, w_eps, sum_coe, div_128, ← EReal.coe_mul, ← EReal.coe_add]
  exact rsqrt_pos (vari (x i0)) (vari_pos _)

theorem xhat_M : wXhat (M x) = M fun p e => xhat (x p) e := by
  funext i; idx_vars i
  pointwise [wXhat, dev_M, rstd_M]
  pointwise [M, C1]
  simp only [← EReal.coe_mul]
  rfl

theorem vl_M : wVl (R1 lg) (R1 lb) (M x) = Mb fun p e => xhat (x p) e * lg e + lb e := by
  funext i; idx_vars i
  pointwise [wVl, xhat_M]
  pointwise [M, R1, Mb]
  simp only [← EReal.coe_mul, ← EReal.coe_add]

theorem mx_M (b : Fin 128 → ℝ) : wMx (Mb x) (Mb y) (C1 b) = M fun p e => ∑ s, x p s * y s e + b p := by
  funext i; idx_vars i
  pointwise [wMx, M, Mb, C1]
  simp only [zero_coe, ← EReal.coe_mul, sum_coe, ← EReal.coe_add, zero_add]

theorem dvl_M : wDvl (Mb x) (Mb y) = M fun p e => ∑ s, x s p * y s e := by
  funext i; idx_vars i
  pointwise [wDvl, M, Mb]
  simp only [zero_coe, ← EReal.coe_mul, sum_coe, ← EReal.coe_add, zero_add]

theorem rowSum_M : wRowSum (M x) = C1 fun p => ∑ e, x p e := by
  funext i; idx_vars i
  pointwise [wRowSum, M, C1]
  simp only [sum_coe]

theorem colSum_M : wColSum (M x) = R1 fun e => ∑ p, x p e := by
  funext i; idx_vars i
  pointwise [wColSum, M, R1]
  simp only [sum_coe]

theorem lnB_M : wLnB (R1 lg) (M x) (M y) = M fun p e => lnB (x p) (fun k => y p k * lg k) e := by
  funext i; idx_vars i
  pointwise [wLnB, k0_pay33, wRowSum, rstd_M, xhat_M]
  pointwise [M, R1, C1]
  simp only [w_128, ← EReal.coe_mul, sum_coe, div_128, ← EReal.coe_add, ← EReal.coe_sub]
  rfl

theorem B_M : wB (M x) = Mb x := by
  funext i; idx_vars i
  pointwise [wB, M, Mb]

theorem mul_M : (mulf (M x) (M y) : T) = M fun p e => x p e * y p e := by
  funext i; idx_vars i
  pointwise [M]
  simp only [← EReal.coe_mul]

/-- The mask's comparison of two lane numbers. -/
theorem mask_at (p s : Fin 128) : (k0_pay6 (ix2 p s : S128x128.Idx) : BitVec 1) = if s ≤ p then 1#1 else 0#1 := by
  pointwise [k0_pay6]
  have hp := p.isLt
  have hs := s.isLt
  simp (disch := omega) only [hlo_ix, Fin.le_def]
  by_cases h : (s : ℕ) ≤ p <;> simp [h]

theorem wc_M (w : FVec Ideal S1x128x128 .f32) (hw : ∀ p s : Fin 128, w (ix3 0 p s) = ((x p s : ℝ) : EReal)) :
    wWc w = Mb fun p s => if s ≤ p then x p s else 0 := by
  funext i; idx_vars i
  pointwise [wWc, k0_pay11, Mb, hw]
  rw [mask_at]
  by_cases h : i1 ≤ i0
  · simp only [h, if_true]; rfl
  · simp only [h, if_false]; rfl

theorem dw_M : wDw (Mb x) (Mb y) = M fun p s => if s ≤ p then ∑ e, x p e * y s e else 0 := by
  funext i; idx_vars i
  pointwise [wDw, M, Mb]
  rw [mask_at]
  simp only [← EReal.coe_mul, sum_coe]
  by_cases h : i1 ≤ i0
  · simp only [h, if_true]; rfl
  · simp only [h, if_false]; rfl

theorem rrms_M (a : Fin 128 → Fin 1024 → ℝ) : k0_pay8 (M10 a) = C1 fun p => rrms (a p) := by
  funext i; idx_vars i
  pointwise [k0_pay8, k0_pay7, M10, C1]
  simp only [w_1024, w_eps, sum_coe, div_1024, ← EReal.coe_mul, ← EReal.coe_add]
  exact rsqrt_pos (msq (a i0)) (msq_pos _)

theorem rmsB_M (a d : Fin 128 → Fin 1024 → ℝ) (ga : Fin 1024 → ℝ) :
    k0_pay9 (M10 a) (M10 d) (R10 ga) = M10 fun p j => rmsB (a p) (fun k => d p k * ga k) j := by
  funext i; idx_vars i
  pointwise [k0_pay9, k0_pay7, rrms_M]
  pointwise [M10, C1, R10]
  simp only [w_1024, sum_coe, div_1024, ← EReal.coe_mul, ← EReal.coe_add, ← EReal.coe_sub]
  rfl

theorem dga_M (a d : Fin 128 → Fin 1024 → ℝ) (acc : FVec Ideal S1x1024 .f32) (j : Fin 1024) :
    k0_pay10 (M10 a) (M10 d) acc (ix2 0 j) = acc (ix2 0 j) + ((∑ p, d p j * (a p j * rrms (a p)) : ℝ) : EReal) := by
  pointwise [k0_pay10, k0_pay7, rrms_M]
  pointwise [M10, C1]
  simp only [sum_coe, ← EReal.coe_mul]

end

end Cert.KernelIdeal.Words

end
-- ==== Proof.Groups.lean ====
/- The kernel's payloads of the eight groups of lanes: each group's stored values are the same expressions of the loads
   of that group, and on arrays of real numbers they are the gradients of `Gmlp.Dat`. -/
module

public import proofs.«01_k».proof.Proof.Words

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

/-- The gradient of the mixed rows. -/
def gDm (dag lu : T) : T := mulf dag (wGelu lu)
/-- The layer-normalised value rows. -/
def gVl (lv : T) (llg llb : FVec Ideal S1x128 .f32) : Tb := wVl (k0_pay12 llg) (k0_pay13 llb) (wGelu lv)
/-- The gradient of the gate half. -/
def gDu (dag lu lv : T) (lw : FVec Ideal S1x128x128 .f32) (llg llb : FVec Ideal S1x128 .f32) (lbs : FVec Ideal S1x128x1 .f32) : Tb :=
  wB (mulf (mulf dag (wMx (wWc lw) (gVl lv llg llb) (k0_pay14 lbs))) (wGeluD lu))
/-- The gradient of the layer-normalised rows. -/
def gDvl (dag lu : T) (lw : FVec Ideal S1x128x128 .f32) : T := wDvl (wWc lw) (wB (gDm dag lu))
/-- The gradient of the value half. -/
def gDv (dag lu lv : T) (lw : FVec Ideal S1x128x128 .f32) (llg : FVec Ideal S1x128 .f32) : Tb :=
  wB (mulf (wLnB (k0_pay12 llg) (wGelu lv) (gDvl dag lu lw)) (wGeluD lv))
/-- The mixing matrix's gradient, accumulated. -/
def gDw (dag lu lv : T) (llg llb : FVec Ideal S1x128 .f32) (acc : FVec Ideal S1x128x128 .f32) : FVec Ideal S1x128x128 .f32 :=
  shapeCast S1x128x128 (addf (shapeCast S128x128 acc shapeCasts_S1x128x128_S128x128) (wDw (wB (gDm dag lu)) (gVl lv llg llb)) : T) shapeCasts_S128x128_S1x128x128
/-- The mixing bias's gradient, accumulated. -/
def gDbs (dag lu : T) (acc : FVec Ideal S1x128x1 .f32) : FVec Ideal S1x128x1 .f32 :=
  shapeCast S1x128x1 (addf (k0_pay14 acc) (wRowSum (gDm dag lu))) shapeCasts_S128x1_S1x128x1
/-- The layer norm's gain's gradient, accumulated. -/
def gDlg (dag lu lv : T) (lw : FVec Ideal S1x128x128 .f32) (acc : FVec Ideal S1x128 .f32) : FVec Ideal S1x128 .f32 :=
  addf (k0_pay12 acc) (wColSum (mulf (gDvl dag lu lw) (wXhat (wGelu lv))))
/-- The layer norm's bias's gradient, accumulated. -/
def gDlb (dag lu : T) (lw : FVec Ideal S1x128x128 .f32) (acc : FVec Ideal S1x128 .f32) : FVec Ideal S1x128 .f32 :=
  addf (k0_pay12 acc) (wColSum (gDvl dag lu lw))

theorem pay12_id (x : FVec Ideal S1x128 .f32) : k0_pay12 x = x := by
  funext i; idx_vars i
  pointwise [k0_pay12]
theorem pay13_id (x : FVec Ideal S1x128 .f32) : k0_pay13 x = x := by
  funext i; idx_vars i
  pointwise [k0_pay13]
theorem pay14_at (x : FVec Ideal S1x128x1 .f32) (p : Fin 128) (z : Fin 1) : k0_pay14 x (ix2 p z) = x (ix3 0 p 0) := by
  pointwise [k0_pay14]

section
variable (D : Dat) (n : Fin 32) (g : Fin 8)

/-- The chunk's rows of the gating's gradient, one group of lanes. -/
abbrev rDa : Fin 128 → Fin 128 → ℝ := fun p e => D.da (row n p) (col g e)
/-- The chunk's rows of the gate, one group of lanes. -/
abbrev rU : Fin 128 → Fin 128 → ℝ := fun p e => D.u (row n p) (col g e)
/-- The chunk's rows of the values, one group of lanes. -/
abbrev rV : Fin 128 → Fin 128 → ℝ := fun p e => D.v (row n p) (col g e)

theorem gDm_at : gDm (M (rDa D n g)) (M (rU D n g)) = M fun p e => D.dm (row n p) g e := by
  rw [gDm, gelu_M, mul_M]; rfl

theorem gVl_at : gVl (M (rV D n g)) (R1 (D.lg g)) (R1 (D.lb g)) = Mb fun p e => D.vl (row n p) g e := by
  rw [gVl, pay12_id, pay13_id, gelu_M, vl_M]; rfl

theorem wc_at (lw : FVec Ideal S1x128x128 .f32) (hw : ∀ p s : Fin 128, lw (ix3 0 p s) = ((D.w g p s : ℝ) : EReal)) :
    wWc lw = Mb (D.wc g) := by
  rw [wc_M _ _ hw]; rfl

theorem gDu_at (lw : FVec Ideal S1x128x128 .f32) (hw : ∀ p s : Fin 128, lw (ix3 0 p s) = ((D.w g p s : ℝ) : EReal))
    (lbs : FVec Ideal S1x128x1 .f32) (hb : ∀ p : Fin 128, lbs (ix3 0 p 0) = ((D.bs g p : ℝ) : EReal)) :
    gDu (M (rDa D n g)) (M (rU D n g)) (M (rV D n g)) lw (R1 (D.lg g)) (R1 (D.lb g)) lbs =
      Mb fun p e => D.du (row n p) (col g e) := by
  have hB : k0_pay14 lbs = C1 (D.bs g) := by
    funext i; idx_vars i
    rw [pay14_at, hb]; rfl
  rw [gDu, wc_at D g lw hw, gVl_at, hB, mx_M, mul_M, geluD_M, mul_M, B_M]
  refine congrArg Mb ?_
  funext p e
  simp only [rDa, rU, Dat.du, Dat.dug, Dat.mx, cg_col, ce_col, rn_row, rp_row]

theorem gDvl_at (lw : FVec Ideal S1x128x128 .f32) (hw : ∀ p s : Fin 128, lw (ix3 0 p s) = ((D.w g p s : ℝ) : EReal)) :
    gDvl (M (rDa D n g)) (M (rU D n g)) lw = M fun p e => D.dvl (row n p) g e := by
  rw [gDvl, wc_at D g lw hw, gDm_at, B_M, dvl_M]
  refine congrArg M ?_
  funext p e
  simp only [Dat.dvl, rn_row, rp_row]

theorem gDv_at (lw : FVec Ideal S1x128x128 .f32) (hw : ∀ p s : Fin 128, lw (ix3 0 p s) = ((D.w g p s : ℝ) : EReal)) :
    gDv (M (rDa D n g)) (M (rU D n g)) (M (rV D n g)) lw (R1 (D.lg g)) = Mb fun p e => D.dv (row n p) (col g e) := by
  rw [gDv, pay12_id, gDvl_at D n g lw hw, gelu_M, geluD_M, lnB_M, mul_M, B_M]
  refine congrArg Mb ?_
  funext p e
  simp only [rV, Dat.dv, Dat.dvg, cg_col, ce_col]
  rfl

theorem gDw_at (acc : FVec Ideal S1x128x128 .f32) (z : Fin 1) (p s : Fin 128) :
    gDw (M (rDa D n g)) (M (rU D n g)) (M (rV D n g)) (R1 (D.lg g)) (R1 (D.lb g)) acc (ix3 z p s) =
      acc (ix3 0 p s) + ((D.dwC n g p s : ℝ) : EReal) := by
  rw [gDw, gDm_at, gVl_at, B_M, dw_M]
  pointwise [M]
  rfl

theorem gDbs_at (acc : FVec Ideal S1x128x1 .f32) (z : Fin 1) (p : Fin 128) (z' : Fin 1) :
    gDbs (M (rDa D n g)) (M (rU D n g)) acc (ix3 z p z') = acc (ix3 0 p 0) + ((D.dbsC n g p : ℝ) : EReal) := by
  rw [gDbs, gDm_at, rowSum_M]
  pointwise [pay14_at, C1]
  rfl

theorem gDlg_at (lw : FVec Ideal S1x128x128 .f32) (hw : ∀ p s : Fin 128, lw (ix3 0 p s) = ((D.w g p s : ℝ) : EReal))
    (acc : FVec Ideal S1x128 .f32) (z : Fin 1) (e : Fin 128) :
    gDlg (M (rDa D n g)) (M (rU D n g)) (M (rV D n g)) lw acc (ix2 z e) = acc (ix2 0 e) + ((D.dlgC n g e : ℝ) : EReal) := by
  rw [gDlg, pay12_id, gDvl_at D n g lw hw, gelu_M, xhat_M, mul_M, colSum_M]
  obtain rfl : z = 0 := Subsingleton.elim _ _
  pointwise [R1]
  rfl

theorem gDlb_at (lw : FVec Ideal S1x128x128 .f32) (hw : ∀ p s : Fin 128, lw (ix3 0 p s) = ((D.w g p s : ℝ) : EReal))
    (acc : FVec Ideal S1x128 .f32) (z : Fin 1) (e : Fin 128) :
    gDlb (M (rDa D n g)) (M (rU D n g)) lw acc (ix2 z e) = acc (ix2 0 e) + ((D.dlbC n g e : ℝ) : EReal) := by
  rw [gDlb, pay12_id, gDvl_at D n g lw hw, colSum_M]
  obtain rfl : z = 0 := Subsingleton.elim _ _
  pointwise [R1]
  rfl

end

/-- Lanes 0 to 127 of a block. -/
def gDa0 (A : FVec Ideal S128x1024 .f32) : T := extractStridedSlice S128x128 ![0, 0] A slices_S128x1024_o0_0_S128x128
/-- Lanes 128 to 255 of a block. -/
def gDa1 (A : FVec Ideal S128x1024 .f32) : T := extractStridedSlice S128x128 ![0, 128] A slices_S128x1024_o0_128_S128x128
/-- Lanes 256 to 383 of a block. -/
def gDa2 (A : FVec Ideal S128x1024 .f32) : T := extractStridedSlice S128x128 ![0, 256] A slices_S128x1024_o0_256_S128x128
/-- Lanes 384 to 511 of a block. -/
def gDa3 (A : FVec Ideal S128x1024 .f32) : T := extractStridedSlice S128x128 ![0, 384] A slices_S128x1024_o0_384_S128x128
/-- Lanes 512 to 639 of a block. -/
def gDa4 (A : FVec Ideal S128x1024 .f32) : T := extractStridedSlice S128x128 ![0, 512] A slices_S128x1024_o0_512_S128x128
/-- Lanes 640 to 767 of a block. -/
def gDa5 (A : FVec Ideal S128x1024 .f32) : T := extractStridedSlice S128x128 ![0, 640] A slices_S128x1024_o0_640_S128x128
/-- Lanes 768 to 895 of a block. -/
def gDa6 (A : FVec Ideal S128x1024 .f32) : T := extractStridedSlice S128x128 ![0, 768] A slices_S128x1024_o0_768_S128x128
/-- Lanes 896 to 1023 of a block. -/
def gDa7 (A : FVec Ideal S128x1024 .f32) : T := extractStridedSlice S128x128 ![0, 896] A slices_S128x1024_o0_896_S128x128

theorem gDa0_M (f : Fin 128 → Fin 1024 → ℝ) : gDa0 (M10 f) = M fun p e => f p (col 0 e) := by
  funext i; idx_vars i
  pointwise [gDa0, M10, M]
  exact congrArg (fun j => ((f i0 j : ℝ) : EReal)) (Fin.ext (by simp [col]))
theorem gDa1_M (f : Fin 128 → Fin 1024 → ℝ) : gDa1 (M10 f) = M fun p e => f p (col 1 e) := by
  funext i; idx_vars i
  pointwise [gDa1, M10, M]
  rfl
theorem gDa2_M (f : Fin 128 → Fin 1024 → ℝ) : gDa2 (M10 f) = M fun p e => f p (col 2 e) := by
  funext i; idx_vars i
  pointwise [gDa2, M10, M]
  rfl
theorem gDa3_M (f : Fin 128 → Fin 1024 → ℝ) : gDa3 (M10 f) = M fun p e => f p (col 3 e) := by
  funext i; idx_vars i
  pointwise [gDa3, M10, M]
  rfl
theorem gDa4_M (f : Fin 128 → Fin 1024 → ℝ) : gDa4 (M10 f) = M fun p e => f p (col 4 e) := by
  funext i; idx_vars i
  pointwise [gDa4, M10, M]
  rfl
theorem gDa5_M (f : Fin 128 → Fin 1024 → ℝ) : gDa5 (M10 f) = M fun p e => f p (col 5 e) := by
  funext i; idx_vars i
  pointwise [gDa5, M10, M]
  rfl
theorem gDa6_M (f : Fin 128 → Fin 1024 → ℝ) : gDa6 (M10 f) = M fun p e => f p (col 6 e) := by
  funext i; idx_vars i
  pointwise [gDa6, M10, M]
  rfl
theorem gDa7_M (f : Fin 128 → Fin 1024 → ℝ) : gDa7 (M10 f) = M fun p e => f p (col 7 e) := by
  funext i; idx_vars i
  pointwise [gDa7, M10, M]
  rfl

/-- Group 0: the gradient of the gate's input. -/
theorem du_0 (A : FVec Ideal S128x1024 .f32) (lu : T) (lv : T) (lw : FVec Ideal S1x128x128 .f32) (llg : FVec Ideal S1x128 .f32) (llb : FVec Ideal S1x128 .f32) (lbs : FVec Ideal S1x128x1 .f32) :
    k0_pay40 (k0_pay23 A (k0_pay11 k0_pay6 lw) (k0_pay12 llg) (k0_pay13 llb) (k0_pay14 lbs) (k0_pay16 lv) (k0_pay17 lv)) (k0_pay34 lu) =
      gDu (gDa0 A) lu lv lw llg llb lbs := rfl

/-- Group 1: the gradient of the gate's input. -/
theorem du_1 (A : FVec Ideal S128x1024 .f32) (lu : T) (lv : T) (lw : FVec Ideal S1x128x128 .f32) (llg : FVec Ideal S1x128 .f32) (llb : FVec Ideal S1x128 .f32) (lbs : FVec Ideal S1x128x1 .f32) :
    k0_pay65 (k0_pay53 A (k0_pay42 k0_pay6 lw) (k0_pay43 llg) lv (k0_pay44 llb) (k0_pay45 lbs)) (k0_pay62 lu) =
      gDu (gDa1 A) lu lv lw llg llb lbs := rfl

/-- Group 2: the gradient of the gate's input. -/
theorem du_2 (A : FVec Ideal S128x1024 .f32) (lu : T) (lv : T) (lw : FVec Ideal S1x128x128 .f32) (llg : FVec Ideal S1x128 .f32) (llb : FVec Ideal S1x128 .f32) (lbs : FVec Ideal S1x128x1 .f32) :
    k0_pay91 lu (k0_pay78 A (k0_pay67 k0_pay6 lw) (k0_pay68 llg) (k0_pay69 llb) (k0_pay70 lbs) (k0_pay72 lv) (k0_pay73 lv) (Scalar.ofBits (F := Ideal) .f32 1124073472#32)) (k0_pay87 lu) (k0_pay88 lu) (k0_pay89 lu) =
      gDu (gDa2 A) lu lv lw llg llb lbs := rfl

/-- Group 3: the gradient of the gate's input. -/
theorem du_3 (A : FVec Ideal S128x1024 .f32) (lu : T) (lv : T) (lw : FVec Ideal S1x128x128 .f32) (llg : FVec Ideal S1x128 .f32) (llb : FVec Ideal S1x128 .f32) (lbs : FVec Ideal S1x128x1 .f32) :
    k0_pay123 (k0_pay105 A (k0_pay93 k0_pay6 lw) (k0_pay94 llg) (k0_pay95 llb) (k0_pay96 lbs) (k0_pay98 lv) (k0_pay99 lv)) (k0_pay117 lu) =
      gDu (gDa3 A) lu lv lw llg llb lbs := rfl

/-- Group 4: the gradient of the gate's input. -/
theorem du_4 (A : FVec Ideal S128x1024 .f32) (lu : T) (lv : T) (lw : FVec Ideal S1x128x128 .f32) (llg : FVec Ideal S1x128 .f32) (llb : FVec Ideal S1x128 .f32) (lbs : FVec Ideal S1x128x1 .f32) :
    k0_pay151 (k0_pay138 (k0_pay136 (k0_pay125 k0_pay6 lw) (k0_pay126 llg) lv (k0_pay127 llb) (k0_pay128 lbs)) (k0_pay137 A)) (k0_pay149 lu) (k0_pay150 lu) =
      gDu (gDa4 A) lu lv lw llg llb lbs := rfl

/-- Group 5: the gradient of the gate's input. -/
theorem du_5 (A : FVec Ideal S128x1024 .f32) (lu : T) (lv : T) (lw : FVec Ideal S1x128x128 .f32) (llg : FVec Ideal S1x128 .f32) (llb : FVec Ideal S1x128 .f32) (lbs : FVec Ideal S1x128x1 .f32) :
    k0_pay177 lu (k0_pay164 A (k0_pay153 k0_pay6 lw) (k0_pay154 llg) (k0_pay155 llb) (k0_pay156 lbs) (k0_pay158 lv) (k0_pay159 lv)) (k0_pay173 lu) (k0_pay174 lu) (k0_pay175 lu) =
      gDu (gDa5 A) lu lv lw llg llb lbs := rfl

/-- Group 6: the gradient of the gate's input. -/
theorem du_6 (A : FVec Ideal S128x1024 .f32) (lu : T) (lv : T) (lw : FVec Ideal S1x128x128 .f32) (llg : FVec Ideal S1x128 .f32) (llb : FVec Ideal S1x128 .f32) (lbs : FVec Ideal S1x128x1 .f32) :
    k0_pay207 (k0_pay191 A (k0_pay179 k0_pay6 lw) (k0_pay180 llg) lv (k0_pay181 llb) (k0_pay182 lbs) (k0_pay184 lv) (k0_pay185 lv) (Named.named (F := Ideal) κ "gelu_a" (φ := .f32) 0x3D372713#32)) (k0_pay203 lu) =
      gDu (gDa6 A) lu lv lw llg llb lbs := rfl

/-- Group 7: the gradient of the gate's input. -/
theorem du_7 (A : FVec Ideal S128x1024 .f32) (lu : T) (lv : T) (lw : FVec Ideal S1x128x128 .f32) (llg : FVec Ideal S1x128 .f32) (llb : FVec Ideal S1x128 .f32) (lbs : FVec Ideal S1x128x1 .f32) :
    k0_pay236 (k0_pay221 A (k0_pay212 lbs) (k0_pay219 (k0_pay209 k0_pay6 lw) (k0_pay210 llg) lv (k0_pay211 llb))) (k0_pay233 lu) (k0_pay234 lu) (k0_pay235 lu) (Scalar.ofBits (F := Ideal) .f32 1061962282#32) =
      gDu (gDa7 A) lu lv lw llg llb lbs := rfl

/-- Group 0: the gradient of the value's input. -/
theorem dv_0 (A : FVec Ideal S128x1024 .f32) (lu : T) (lv : T) (lw : FVec Ideal S1x128x128 .f32) (llg : FVec Ideal S1x128 .f32) :
    k0_pay41 (k0_pay33 (k0_pay19 (k0_pay16 lv) (k0_pay17 lv)) (k0_pay32 (k0_pay11 k0_pay6 lw) (k0_pay12 llg) (k0_pay20 (k0_pay16 lv) (k0_pay17 lv)) (k0_pay25 A (k0_pay15 lu)))) (k0_pay35 lv) (k0_pay37 lv) (k0_pay38 lv) (k0_pay39 lv) =
      gDv (gDa0 A) lu lv lw llg := rfl

/-- Group 1: the gradient of the value's input. -/
theorem dv_1 (A : FVec Ideal S128x1024 .f32) (lu : T) (lv : T) (lw : FVec Ideal S1x128x128 .f32) (llg : FVec Ideal S1x128 .f32) :
    k0_pay66 lv (k0_pay61 (k0_pay43 llg) (k0_pay49 lv) (k0_pay50 lv) (k0_pay58 (k0_pay42 k0_pay6 lw) (k0_pay55 A lu (k0_pay46 lu) (k0_pay47 lu)))) (k0_pay63 lv) (k0_pay64 lv) =
      gDv (gDa1 A) lu lv lw llg := rfl

/-- Group 2: the gradient of the value's input. -/
theorem dv_2 (A : FVec Ideal S128x1024 .f32) (lu : T) (lv : T) (lw : FVec Ideal S1x128x128 .f32) (llg : FVec Ideal S1x128 .f32) :
    k0_pay92 (k0_pay86 (k0_pay68 llg) (k0_pay74 (k0_pay73 lv) (Scalar.ofBits (F := Ideal) .f32 1124073472#32)) (k0_pay75 (k0_pay72 lv) (k0_pay73 lv) (Scalar.ofBits (F := Ideal) .f32 1124073472#32)) (k0_pay83 A (k0_pay67 k0_pay6 lw) (k0_pay71 lu))) (k0_pay90 lv) =
      gDv (gDa2 A) lu lv lw llg := rfl

/-- Group 3: the gradient of the value's input. -/
theorem dv_3 (A : FVec Ideal S128x1024 .f32) (lu : T) (lv : T) (lw : FVec Ideal S1x128x128 .f32) (llg : FVec Ideal S1x128 .f32) :
    k0_pay124 (k0_pay116 (k0_pay101 (k0_pay98 lv) (k0_pay99 lv)) (k0_pay102 (k0_pay98 lv) (k0_pay99 lv)) (k0_pay114 (k0_pay93 k0_pay6 lw) (k0_pay94 llg) (k0_pay107 A (k0_pay97 lu))) (k0_pay115 (k0_pay93 k0_pay6 lw) (k0_pay94 llg) (k0_pay102 (k0_pay98 lv) (k0_pay99 lv)) (k0_pay107 A (k0_pay97 lu)))) (k0_pay118 lv) (k0_pay120 lv) (k0_pay121 lv) (k0_pay122 lv) =
      gDv (gDa3 A) lu lv lw llg := rfl

/-- Group 4: the gradient of the value's input. -/
theorem dv_4 (A : FVec Ideal S128x1024 .f32) (lu : T) (lv : T) (lw : FVec Ideal S1x128x128 .f32) (llg : FVec Ideal S1x128 .f32) :
    k0_pay152 lv (k0_pay146 (k0_pay126 llg) (k0_pay133 lv) (k0_pay134 lv) (k0_pay143 (k0_pay125 k0_pay6 lw) (k0_pay131 lu (k0_pay129 lu) (k0_pay130 lu)) (k0_pay137 A))) =
      gDv (gDa4 A) lu lv lw llg := rfl

/-- Group 5: the gradient of the value's input. -/
theorem dv_5 (A : FVec Ideal S128x1024 .f32) (lu : T) (lv : T) (lw : FVec Ideal S1x128x128 .f32) (llg : FVec Ideal S1x128 .f32) :
    k0_pay178 (k0_pay172 (k0_pay154 llg) (k0_pay160 (k0_pay159 lv)) (k0_pay161 (k0_pay158 lv) (k0_pay159 lv)) (k0_pay169 A (k0_pay153 k0_pay6 lw) (k0_pay157 lu))) (k0_pay176 lv) =
      gDv (gDa5 A) lu lv lw llg := rfl

/-- Group 6: the gradient of the value's input. -/
theorem dv_6 (A : FVec Ideal S128x1024 .f32) (lu : T) (lv : T) (lw : FVec Ideal S1x128x128 .f32) (llg : FVec Ideal S1x128 .f32) :
    k0_pay208 lv (k0_pay202 (k0_pay187 lv (k0_pay184 lv) (k0_pay185 lv) (Named.named (F := Ideal) κ "gelu_a" (φ := .f32) 0x3D372713#32)) (k0_pay188 lv (k0_pay184 lv) (k0_pay185 lv) (Named.named (F := Ideal) κ "gelu_a" (φ := .f32) 0x3D372713#32)) (k0_pay200 (k0_pay179 k0_pay6 lw) (k0_pay180 llg) (k0_pay193 A (k0_pay183 lu))) (k0_pay201 (k0_pay179 k0_pay6 lw) (k0_pay180 llg) (k0_pay188 lv (k0_pay184 lv) (k0_pay185 lv) (Named.named (F := Ideal) κ "gelu_a" (φ := .f32) 0x3D372713#32)) (k0_pay193 A (k0_pay183 lu)))) (k0_pay204 lv) (k0_pay205 lv) (k0_pay206 lv) (Scalar.ofBits (F := Ideal) .f32 1056964608#32) =
      gDv (gDa6 A) lu lv lw llg := rfl

/-- Group 7: the gradient of the value's input. -/
theorem dv_7 (A : FVec Ideal S128x1024 .f32) (lu : T) (lv : T) (lw : FVec Ideal S1x128x128 .f32) (llg : FVec Ideal S1x128 .f32) :
    k0_pay237 lv (k0_pay230 (k0_pay210 llg) (k0_pay216 lv) (k0_pay217 lv) (k0_pay226 A (k0_pay209 k0_pay6 lw) (k0_pay214 lu k0_pay213))) =
      gDv (gDa7 A) lu lv lw llg := rfl

/-- Group 0: the mixing matrix's gradient. -/
theorem dw_0 (A : FVec Ideal S128x1024 .f32) (lu : T) (lv : T) (llg : FVec Ideal S1x128 .f32) (llb : FVec Ideal S1x128 .f32) (acc : FVec Ideal S1x128x128 .f32) :
    k0_pay28 k0_pay6 (k0_pay21 (k0_pay12 llg) (k0_pay13 llb) (k0_pay16 lv) (k0_pay17 lv)) (k0_pay25 A (k0_pay15 lu)) (k0_pay27 acc) =
      gDw (gDa0 A) lu lv llg llb acc := rfl

/-- Group 1: the mixing matrix's gradient. -/
theorem dw_1 (A : FVec Ideal S128x1024 .f32) (lu : T) (lv : T) (llg : FVec Ideal S1x128 .f32) (llb : FVec Ideal S1x128 .f32) (acc : FVec Ideal S1x128x128 .f32) :
    k0_pay57 k0_pay6 (k0_pay51 (k0_pay43 llg) lv (k0_pay44 llb)) (k0_pay55 A lu (k0_pay46 lu) (k0_pay47 lu)) acc =
      gDw (gDa1 A) lu lv llg llb acc := rfl

/-- Group 2: the mixing matrix's gradient. -/
theorem dw_2 (A : FVec Ideal S128x1024 .f32) (lu : T) (lv : T) (llg : FVec Ideal S1x128 .f32) (llb : FVec Ideal S1x128 .f32) (acc : FVec Ideal S1x128x128 .f32) :
    k0_pay82 k0_pay6 A (k0_pay68 llg) (k0_pay69 llb) (k0_pay71 lu) (k0_pay72 lv) (k0_pay73 lv) (Scalar.ofBits (F := Ideal) .f32 1124073472#32) acc =
      gDw (gDa2 A) lu lv llg llb acc := rfl

/-- Group 3: the mixing matrix's gradient. -/
theorem dw_3 (A : FVec Ideal S128x1024 .f32) (lu : T) (lv : T) (llg : FVec Ideal S1x128 .f32) (llb : FVec Ideal S1x128 .f32) (acc : FVec Ideal S1x128x128 .f32) :
    k0_pay109 k0_pay6 (k0_pay103 (k0_pay94 llg) (k0_pay95 llb) (k0_pay98 lv) (k0_pay99 lv)) (k0_pay107 A (k0_pay97 lu)) acc =
      gDw (gDa3 A) lu lv llg llb acc := rfl

/-- Group 4: the mixing matrix's gradient. -/
theorem dw_4 (A : FVec Ideal S128x1024 .f32) (lu : T) (lv : T) (llg : FVec Ideal S1x128 .f32) (llb : FVec Ideal S1x128 .f32) (acc : FVec Ideal S1x128x128 .f32) :
    k0_pay142 k0_pay6 (k0_pay131 lu (k0_pay129 lu) (k0_pay130 lu)) (k0_pay135 (k0_pay126 llg) lv (k0_pay127 llb)) (k0_pay137 A) acc =
      gDw (gDa4 A) lu lv llg llb acc := rfl

/-- Group 5: the mixing matrix's gradient. -/
theorem dw_5 (A : FVec Ideal S128x1024 .f32) (lu : T) (lv : T) (llg : FVec Ideal S1x128 .f32) (llb : FVec Ideal S1x128 .f32) (acc : FVec Ideal S1x128x128 .f32) :
    k0_pay168 k0_pay6 A (k0_pay154 llg) (k0_pay155 llb) (k0_pay157 lu) (k0_pay158 lv) (k0_pay159 lv) acc =
      gDw (gDa5 A) lu lv llg llb acc := rfl

/-- Group 6: the mixing matrix's gradient. -/
theorem dw_6 (A : FVec Ideal S128x1024 .f32) (lu : T) (lv : T) (llg : FVec Ideal S1x128 .f32) (llb : FVec Ideal S1x128 .f32) (acc : FVec Ideal S1x128x128 .f32) :
    k0_pay195 k0_pay6 (k0_pay189 (k0_pay180 llg) lv (k0_pay181 llb) (k0_pay184 lv) (k0_pay185 lv) (Named.named (F := Ideal) κ "gelu_a" (φ := .f32) 0x3D372713#32)) (k0_pay193 A (k0_pay183 lu)) acc =
      gDw (gDa6 A) lu lv llg llb acc := rfl

/-- Group 7: the mixing matrix's gradient. -/
theorem dw_7 (A : FVec Ideal S128x1024 .f32) (lu : T) (lv : T) (llg : FVec Ideal S1x128 .f32) (llb : FVec Ideal S1x128 .f32) (acc : FVec Ideal S1x128x128 .f32) :
    k0_pay225 k0_pay6 A (k0_pay214 lu k0_pay213) (k0_pay218 (k0_pay210 llg) lv (k0_pay211 llb)) acc =
      gDw (gDa7 A) lu lv llg llb acc := rfl

/-- Group 0: the mixing bias's gradient. -/
theorem dbs_0 (A : FVec Ideal S128x1024 .f32) (lu : T) (acc : FVec Ideal S1x128x1 .f32) :
    k0_pay26 A (k0_pay15 lu) acc =
      gDbs (gDa0 A) lu acc := rfl

/-- Group 1: the mixing bias's gradient. -/
theorem dbs_1 (A : FVec Ideal S128x1024 .f32) (lu : T) (acc : FVec Ideal S1x128x1 .f32) :
    k0_pay56 (k0_pay54 A lu (k0_pay46 lu) (k0_pay47 lu)) acc =
      gDbs (gDa1 A) lu acc := rfl

/-- Group 2: the mixing bias's gradient. -/
theorem dbs_2 (A : FVec Ideal S128x1024 .f32) (lu : T) (acc : FVec Ideal S1x128x1 .f32) :
    k0_pay81 A (k0_pay71 lu) acc =
      gDbs (gDa2 A) lu acc := rfl

/-- Group 3: the mixing bias's gradient. -/
theorem dbs_3 (A : FVec Ideal S128x1024 .f32) (lu : T) (acc : FVec Ideal S1x128x1 .f32) :
    k0_pay108 A (k0_pay97 lu) acc =
      gDbs (gDa3 A) lu acc := rfl

/-- Group 4: the mixing bias's gradient. -/
theorem dbs_4 (A : FVec Ideal S128x1024 .f32) (lu : T) (acc : FVec Ideal S1x128x1 .f32) :
    k0_pay141 (k0_pay131 lu (k0_pay129 lu) (k0_pay130 lu)) (k0_pay137 A) acc =
      gDbs (gDa4 A) lu acc := rfl

/-- Group 5: the mixing bias's gradient. -/
theorem dbs_5 (A : FVec Ideal S128x1024 .f32) (lu : T) (acc : FVec Ideal S1x128x1 .f32) :
    k0_pay167 A (k0_pay157 lu) acc =
      gDbs (gDa5 A) lu acc := rfl

/-- Group 6: the mixing bias's gradient. -/
theorem dbs_6 (A : FVec Ideal S128x1024 .f32) (lu : T) (acc : FVec Ideal S1x128x1 .f32) :
    k0_pay194 A (k0_pay183 lu) acc =
      gDbs (gDa6 A) lu acc := rfl

/-- Group 7: the mixing bias's gradient. -/
theorem dbs_7 (A : FVec Ideal S128x1024 .f32) (lu : T) (acc : FVec Ideal S1x128x1 .f32) :
    k0_pay224 A (k0_pay214 lu k0_pay213) acc =
      gDbs (gDa7 A) lu acc := rfl

/-- Group 0: the layer norm's gain's gradient. -/
theorem dlg_0 (A : FVec Ideal S128x1024 .f32) (lu : T) (lv : T) (lw : FVec Ideal S1x128x128 .f32) (acc : FVec Ideal S1x128 .f32) :
    k0_pay30 (k0_pay11 k0_pay6 lw) (k0_pay20 (k0_pay16 lv) (k0_pay17 lv)) (k0_pay25 A (k0_pay15 lu)) acc =
      gDlg (gDa0 A) lu lv lw acc := rfl

/-- Group 1: the layer norm's gain's gradient. -/
theorem dlg_1 (A : FVec Ideal S128x1024 .f32) (lu : T) (lv : T) (lw : FVec Ideal S1x128x128 .f32) (acc : FVec Ideal S1x128 .f32) :
    k0_pay59 (k0_pay42 k0_pay6 lw) (k0_pay50 lv) (k0_pay55 A lu (k0_pay46 lu) (k0_pay47 lu)) acc =
      gDlg (gDa1 A) lu lv lw acc := rfl

/-- Group 2: the layer norm's gain's gradient. -/
theorem dlg_2 (A : FVec Ideal S128x1024 .f32) (lu : T) (lv : T) (lw : FVec Ideal S1x128x128 .f32) (acc : FVec Ideal S1x128 .f32) :
    k0_pay84 (k0_pay75 (k0_pay72 lv) (k0_pay73 lv) (Scalar.ofBits (F := Ideal) .f32 1124073472#32)) (k0_pay83 A (k0_pay67 k0_pay6 lw) (k0_pay71 lu)) acc =
      gDlg (gDa2 A) lu lv lw acc := rfl

/-- Group 3: the layer norm's gain's gradient. -/
theorem dlg_3 (A : FVec Ideal S128x1024 .f32) (lu : T) (lv : T) (lw : FVec Ideal S1x128x128 .f32) (acc : FVec Ideal S1x128 .f32) :
    k0_pay111 (k0_pay93 k0_pay6 lw) (k0_pay102 (k0_pay98 lv) (k0_pay99 lv)) (k0_pay107 A (k0_pay97 lu)) acc =
      gDlg (gDa3 A) lu lv lw acc := rfl

/-- Group 4: the layer norm's gain's gradient. -/
theorem dlg_4 (A : FVec Ideal S128x1024 .f32) (lu : T) (lv : T) (lw : FVec Ideal S1x128x128 .f32) (acc : FVec Ideal S1x128 .f32) :
    k0_pay144 (k0_pay125 k0_pay6 lw) (k0_pay131 lu (k0_pay129 lu) (k0_pay130 lu)) (k0_pay134 lv) (k0_pay137 A) acc =
      gDlg (gDa4 A) lu lv lw acc := rfl

/-- Group 5: the layer norm's gain's gradient. -/
theorem dlg_5 (A : FVec Ideal S128x1024 .f32) (lu : T) (lv : T) (lw : FVec Ideal S1x128x128 .f32) (acc : FVec Ideal S1x128 .f32) :
    k0_pay170 (k0_pay161 (k0_pay158 lv) (k0_pay159 lv)) (k0_pay169 A (k0_pay153 k0_pay6 lw) (k0_pay157 lu)) acc =
      gDlg (gDa5 A) lu lv lw acc := rfl

/-- Group 6: the layer norm's gain's gradient. -/
theorem dlg_6 (A : FVec Ideal S128x1024 .f32) (lu : T) (lv : T) (lw : FVec Ideal S1x128x128 .f32) (acc : FVec Ideal S1x128 .f32) :
    k0_pay197 (k0_pay179 k0_pay6 lw) (k0_pay188 lv (k0_pay184 lv) (k0_pay185 lv) (Named.named (F := Ideal) κ "gelu_a" (φ := .f32) 0x3D372713#32)) (k0_pay193 A (k0_pay183 lu)) acc =
      gDlg (gDa6 A) lu lv lw acc := rfl

/-- Group 7: the layer norm's gain's gradient. -/
theorem dlg_7 (A : FVec Ideal S128x1024 .f32) (lu : T) (lv : T) (lw : FVec Ideal S1x128x128 .f32) (acc : FVec Ideal S1x128 .f32) :
    k0_pay227 A (k0_pay209 k0_pay6 lw) (k0_pay214 lu k0_pay213) (k0_pay217 lv) acc =
      gDlg (gDa7 A) lu lv lw acc := rfl

/-- Group 0: the layer norm's bias's gradient. -/
theorem dlb_0 (A : FVec Ideal S128x1024 .f32) (lu : T) (lw : FVec Ideal S1x128x128 .f32) (acc : FVec Ideal S1x128 .f32) :
    k0_pay31 (k0_pay11 k0_pay6 lw) (k0_pay25 A (k0_pay15 lu)) acc =
      gDlb (gDa0 A) lu lw acc := rfl

/-- Group 1: the layer norm's bias's gradient. -/
theorem dlb_1 (A : FVec Ideal S128x1024 .f32) (lu : T) (lw : FVec Ideal S1x128x128 .f32) (acc : FVec Ideal S1x128 .f32) :
    k0_pay60 (k0_pay42 k0_pay6 lw) (k0_pay55 A lu (k0_pay46 lu) (k0_pay47 lu)) acc =
      gDlb (gDa1 A) lu lw acc := rfl

/-- Group 2: the layer norm's bias's gradient. -/
theorem dlb_2 (A : FVec Ideal S128x1024 .f32) (lu : T) (lw : FVec Ideal S1x128x128 .f32) (acc : FVec Ideal S1x128 .f32) :
    k0_pay85 (k0_pay83 A (k0_pay67 k0_pay6 lw) (k0_pay71 lu)) acc =
      gDlb (gDa2 A) lu lw acc := rfl

/-- Group 3: the layer norm's bias's gradient. -/
theorem dlb_3 (A : FVec Ideal S128x1024 .f32) (lu : T) (lw : FVec Ideal S1x128x128 .f32) (acc : FVec Ideal S1x128 .f32) :
    k0_pay112 (k0_pay93 k0_pay6 lw) (k0_pay107 A (k0_pay97 lu)) acc =
      gDlb (gDa3 A) lu lw acc := rfl

/-- Group 4: the layer norm's bias's gradient. -/
theorem dlb_4 (A : FVec Ideal S128x1024 .f32) (lu : T) (lw : FVec Ideal S1x128x128 .f32) (acc : FVec Ideal S1x128 .f32) :
    k0_pay145 (k0_pay125 k0_pay6 lw) (k0_pay131 lu (k0_pay129 lu) (k0_pay130 lu)) (k0_pay137 A) acc =
      gDlb (gDa4 A) lu lw acc := rfl

/-- Group 5: the layer norm's bias's gradient. -/
theorem dlb_5 (A : FVec Ideal S128x1024 .f32) (lu : T) (lw : FVec Ideal S1x128x128 .f32) (acc : FVec Ideal S1x128 .f32) :
    k0_pay171 (k0_pay169 A (k0_pay153 k0_pay6 lw) (k0_pay157 lu)) acc =
      gDlb (gDa5 A) lu lw acc := rfl

/-- Group 6: the layer norm's bias's gradient. -/
theorem dlb_6 (A : FVec Ideal S128x1024 .f32) (lu : T) (lw : FVec Ideal S1x128x128 .f32) (acc : FVec Ideal S1x128 .f32) :
    k0_pay198 (k0_pay179 k0_pay6 lw) (k0_pay193 A (k0_pay183 lu)) acc =
      gDlb (gDa6 A) lu lw acc := rfl

/-- Group 7: the layer norm's bias's gradient. -/
theorem dlb_7 (A : FVec Ideal S128x1024 .f32) (lu : T) (lw : FVec Ideal S1x128x128 .f32) (acc : FVec Ideal S1x128 .f32) :
    k0_pay229 (k0_pay226 A (k0_pay209 k0_pay6 lw) (k0_pay214 lu k0_pay213)) (k0_pay228 acc) =
      gDlb (gDa7 A) lu lw acc := rfl

end Cert.KernelIdeal.Words

end
-- ==== Proof.Blocks.lean ====
/- What the kernel's input windows hold at each grid point, when the arrays they read are those of `Gmlp.Dat`. -/
module

public import proofs.«01_k».proof.Proof.Groups
public import proofs.«01_k».proof.Proof.Gen.KernelIdeal.Value
public import Idealize.ShloMosaic.Lib.Pipeline.ValueKit

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

variable (m : (ℓ : Loc nD τ sig) → Buf (Elt Ideal) ℓ)

/-- The arrays the kernel's windows read are the real arrays of `D`. -/
structure Reads (c : Dev nD) (D : Dat) : Prop where
  hu : ∀ (r : Fin 4096) (j : Fin 1024), (V m c main_arg0 : FVec Ideal S4096x3328 .f32) (ix2 r ⟨j.val, by omega⟩) = ((D.u r j : ℝ) : EReal)
  hv : ∀ (r : Fin 4096) (j : Fin 1024), (V m c main_arg0 : FVec Ideal S4096x3328 .f32) (ix2 r ⟨1024 + j.val, by omega⟩) = ((D.v r j : ℝ) : EReal)
  ha : ∀ (r : Fin 4096) (j : Fin 1024), (V m c main_v77 : FVec Ideal S4096x2048 .f32) (ix2 r ⟨j.val, by omega⟩) = ((D.a r j : ℝ) : EReal)
  hd : ∀ (r : Fin 4096) (j : Fin 1024), (V m c main_arg2 : FVec Ideal S4096x2048 .f32) (ix2 r ⟨j.val, by omega⟩) = ((D.d r j : ℝ) : EReal)
  hga : ∀ j : Fin 1024, (V m c main_arg3 : FVec Ideal S1x1024 .f32) (ix2 0 j) = ((D.ga j : ℝ) : EReal)
  hlg : ∀ (g : Fin 8) (e : Fin 128), (V m c main_v0 : FVec Ideal S8x128 .f32) (ix2 g e) = ((D.lg g e : ℝ) : EReal)
  hlb : ∀ (g : Fin 8) (e : Fin 128), (V m c main_v1 : FVec Ideal S8x128 .f32) (ix2 g e) = ((D.lb g e : ℝ) : EReal)
  hw : ∀ (g : Fin 8) (p s : Fin 128), (V m c main_v2 : FVec Ideal S8x128x128 .f32) (ix3 g p s) = ((D.w g p s : ℝ) : EReal)
  hbs : ∀ (g : Fin 8) (p : Fin 128), (V m c main_v3 : FVec Ideal S8x128x1 .f32) (ix3 g p 0) = ((D.bs g p : ℝ) : EReal)

theorem idxs : ∀ t : Fin cfg0.N, win0_0.index t = ![t.val, 0] ∧ win0_1.index t = ![t.val, 1] ∧ win0_2.index t = ![t.val, 0] ∧
    win0_3.index t = ![t.val, 0] ∧ win0_4.index t = ![0, 0] ∧ win0_5.index t = ![0, 0] ∧ win0_6.index t = ![0, 0] ∧
    win0_7.index t = ![0, 0, 0] ∧ win0_8.index t = ![0, 0, 0] :=
  (by decide +kernel : ∀ t : Fin grid0.N, _)

/-- The chunk of a grid point. -/
def ch (t : Fin cfg0.N) : Fin 32 := ⟨t.val, lt_of_lt_of_eq t.isLt N_0⟩

section
variable {c : Dev nD} {D : Dat} (H : Reads m c D) (t : Fin cfg0.N)
include H

theorem blk_u : X0_0 m c t = M10 fun p j => D.u (row (ch t) p) j := by
  funext i; idx_vars i
  refine Eq.trans ?_ (H.hu (row (ch t) i0) i1)
  unfold X0_0 Pipeline.Window.fill
  rw [dif_pos (moved0_0 t _)]
  blk_ext [iblk, idxs t, row, ch]

theorem blk_v : X0_1 m c t = M10 fun p j => D.v (row (ch t) p) j := by
  funext i; idx_vars i
  refine Eq.trans ?_ (H.hv (row (ch t) i0) i1)
  unfold X0_1 Pipeline.Window.fill
  rw [dif_pos (moved0_1 t _)]
  blk_ext [iblk, idxs t, row, ch]

theorem blk_a : iblk m c 2 t = M10 fun p j => D.a (row (ch t) p) j := by
  funext i; idx_vars i
  refine Eq.trans ?_ (H.ha (row (ch t) i0) i1)
  blk_ext [iblk, idxs t, row, ch]

theorem blk_d : iblk m c 3 t = M10 fun p j => D.d (row (ch t) p) j := by
  funext i; idx_vars i
  refine Eq.trans ?_ (H.hd (row (ch t) i0) i1)
  blk_ext [iblk, idxs t, row, ch]

theorem blk_ga : iblk m c 4 t = R10 D.ga := by
  funext i; idx_vars i
  obtain rfl : i0 = 0 := Subsingleton.elim _ _
  refine Eq.trans ?_ (H.hga i1)
  blk_ext [iblk, idxs t]

theorem blk_lg (g : Fin 8) (e : Fin 128) : iblk m c 5 t (ix2 g e : S8x128.Idx) = ((D.lg g e : ℝ) : EReal) := by
  refine Eq.trans ?_ (H.hlg g e)
  blk_ext [iblk, idxs t]

theorem blk_lb (g : Fin 8) (e : Fin 128) : iblk m c 6 t (ix2 g e : S8x128.Idx) = ((D.lb g e : ℝ) : EReal) := by
  refine Eq.trans ?_ (H.hlb g e)
  blk_ext [iblk, idxs t]

theorem blk_w (g : Fin 8) (p s : Fin 128) : iblk m c 7 t (ix3 g p s : S8x128x128.Idx) = ((D.w g p s : ℝ) : EReal) := by
  refine Eq.trans ?_ (H.hw g p s)
  blk_ext [iblk, idxs t]

theorem blk_bs (g : Fin 8) (p : Fin 128) : iblk m c 8 t (ix3 g p 0 : S8x128x1.Idx) = ((D.bs g p : ℝ) : EReal) := by
  refine Eq.trans ?_ (H.hbs g p)
  blk_ext [iblk, idxs t]

/-- The gradient of the gating's output at a grid point. -/
theorem blk_da : k0_pay9 (iblk m c 2 t) (iblk m c 3 t) (iblk m c 4 t) = M10 fun p j => D.da (row (ch t) p) j := by
  rw [blk_a m H, blk_d m H, blk_ga m H, rmsB_M]
  rfl

end

end Cert.KernelIdeal.Words

end
-- ==== Proof.Stored.lean ====
/- One stored group of lanes at a time: the payload at an index is the array of `Gmlp.Dat` there, from what its loads read. -/
module

public import proofs.«01_k».proof.Proof.Blocks
public import Idealize.ShloMosaic.Lib.Pipeline.ReadBack

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

/-- One chunk of the projection's gradient: the gate's half, then the values'. -/
def out9 (D : Dat) (n : Fin 32) : FVec Ideal S128x2048 .bf16 := fun i =>
  if h : (i 1).val < 1024 then ((D.du (row n (i 0)) ⟨(i 1).val, h⟩ : ℝ) : EReal)
  else ((D.dv (row n (i 0)) ⟨(i 1).val - 1024, by have h1 : (i 1).val < 2048 := (i 1).isLt; omega⟩ : ℝ) : EReal)

/-- Writes that cover an index hide the writes before them. -/
theorem canon_over {S : Shape} {e : EltTy} {Val : EltTy → Type} [∀ e, Nonempty (Val e)] (L' : List (View.Piece Val S e)) :
    ∀ (L : List (View.Piece Val S e)) (y : S.Idx), (∃ p ∈ L, y ∈ p.1.set) → View.canon (L ++ L') y = View.canon L y
  | [], _, hc => by obtain ⟨p, hp, _⟩ := hc; exact absurd hp List.not_mem_nil
  | p :: L, y, hc => by
    by_cases hm : y ∈ p.1.set
    · obtain ⟨r, w⟩ := p
      obtain ⟨x, rfl⟩ := r.exists_idx_of_mem hm
      rw [show r.idx x = r.emb x from rfl, List.cons_append, View.canon_cons_emb, View.canon_cons_emb]
    · rw [List.cons_append, View.canon_cons_of_not_mem _ _ hm, View.canon_cons_of_not_mem _ _ hm]
      refine canon_over L' L y ?_
      obtain ⟨q, hq, hyq⟩ := hc
      rcases List.mem_cons.mp hq with rfl | hq'
      · exact absurd hyq hm
      · exact ⟨q, hq', hyq⟩

section
variable (D : Dat) (n : Fin 32) (g : Fin 8) {dag lu lv : T} {lw : FVec Ideal S1x128x128 .f32} {llg llb : FVec Ideal S1x128 .f32}
  {lbs : FVec Ideal S1x128x1 .f32}

/-- A group of lanes of a block of 1024. -/
theorem M_of {l : T} {f : Fin 128 → Fin 1024 → ℝ}
    (h : ∀ (p e : Fin 128) (j : Fin 1024), j.val = 128 * g.val + e.val → l (ix2 p e) = M10 f (ix2 p j)) : l = M fun p e => f p (col g e) := by
  funext i; idx_vars i
  exact h i0 i1 (col g i1) rfl

theorem R_of {l : FVec Ideal S1x128 .f32} {f : Fin 128 → ℝ} (h : ∀ e : Fin 128, l (ix2 0 e) = ((f e : ℝ) : EReal)) : l = R1 f := by
  funext i; idx_vars i
  obtain rfl : i0 = 0 := Subsingleton.elim _ _
  exact h i1

theorem du_fin (hdag : dag = M (rDa D n g))
    (hu : ∀ (p e : Fin 128) (j : Fin 1024), j.val = 128 * g.val + e.val → lu (ix2 p e) = M10 (fun p j => D.u (row n p) j) (ix2 p j))
    (hv : ∀ (p e : Fin 128) (j : Fin 1024), j.val = 128 * g.val + e.val → lv (ix2 p e) = M10 (fun p j => D.v (row n p) j) (ix2 p j))
    (hw : ∀ p s : Fin 128, lw (ix3 0 p s) = ((D.w g p s : ℝ) : EReal))
    (hlg : ∀ e : Fin 128, llg (ix2 0 e) = ((D.lg g e : ℝ) : EReal))
    (hlb : ∀ e : Fin 128, llb (ix2 0 e) = ((D.lb g e : ℝ) : EReal))
    (hb : ∀ p : Fin 128, lbs (ix3 0 p 0) = ((D.bs g p : ℝ) : EReal))
    (x : S128x128.Idx) (y : S128x2048.Idx) (hy0 : (y 0).val = x 0) (hy1 : (y 1).val = 128 * g.val + x 1) :
    gDu dag lu lv lw llg llb lbs x = out9 D n y := by
  rw [hdag, M_of g hu, M_of g hv, R_of hlg, R_of hlb, gDu_at D n g lw hw lbs hb]
  have hx : (x 1).val < 128 := (x 1).isLt
  have hlt : (y 1).val < 1024 := by omega
  unfold out9
  rw [dif_pos hlt]
  show ((D.du (row n (x 0)) (col g (x 1)) : ℝ) : EReal) = _
  rw [show y 0 = x 0 from Fin.ext hy0, show (⟨(y 1).val, hlt⟩ : Fin 1024) = col g (x 1) from Fin.ext hy1]

theorem dv_fin (hdag : dag = M (rDa D n g))
    (hu : ∀ (p e : Fin 128) (j : Fin 1024), j.val = 128 * g.val + e.val → lu (ix2 p e) = M10 (fun p j => D.u (row n p) j) (ix2 p j))
    (hv : ∀ (p e : Fin 128) (j : Fin 1024), j.val = 128 * g.val + e.val → lv (ix2 p e) = M10 (fun p j => D.v (row n p) j) (ix2 p j))
    (hw : ∀ p s : Fin 128, lw (ix3 0 p s) = ((D.w g p s : ℝ) : EReal))
    (hlg : ∀ e : Fin 128, llg (ix2 0 e) = ((D.lg g e : ℝ) : EReal))
    (x : S128x128.Idx) (y : S128x2048.Idx) (hy0 : (y 0).val = x 0) (hy1 : (y 1).val = 1024 + 128 * g.val + x 1) :
    gDv dag lu lv lw llg x = out9 D n y := by
  rw [hdag, M_of g hu, M_of g hv, R_of hlg, gDv_at D n g lw hw]
  have hlt : ¬ (y 1).val < 1024 := by omega
  unfold out9
  rw [dif_neg hlt]
  show ((D.dv (row n (x 0)) (col g (x 1)) : ℝ) : EReal) = _
  have e1 : ∀ h, (⟨(y 1).val - 1024, h⟩ : Fin 1024) = col g (x 1) := fun h => Fin.ext (by simp only [col]; omega)
  rw [show y 0 = x 0 from Fin.ext hy0, e1]

theorem dw_fin (hdag : dag = M (rDa D n g))
    (hu : ∀ (p e : Fin 128) (j : Fin 1024), j.val = 128 * g.val + e.val → lu (ix2 p e) = M10 (fun p j => D.u (row n p) j) (ix2 p j))
    (hv : ∀ (p e : Fin 128) (j : Fin 1024), j.val = 128 * g.val + e.val → lv (ix2 p e) = M10 (fun p j => D.v (row n p) j) (ix2 p j))
    (hlg : ∀ e : Fin 128, llg (ix2 0 e) = ((D.lg g e : ℝ) : EReal))
    (hlb : ∀ e : Fin 128, llb (ix2 0 e) = ((D.lb g e : ℝ) : EReal))
    {acc : FVec Ideal S1x128x128 .f32} (prev : FVec Ideal S8x128x128 .f32) (hp : ∀ p s : Fin 128, acc (ix3 0 p s) = prev (ix3 g p s))
    (x : S1x128x128.Idx) (y : S8x128x128.Idx) (hy0 : (y 0).val = g.val) (hy1 : (y 1).val = x 1) (hy2 : (y 2).val = x 2) :
    gDw dag lu lv llg llb acc x = prev y + ((D.dwC n (y 0) (y 1) (y 2) : ℝ) : EReal) := by
  rw [hdag, M_of g hu, M_of g hv, R_of hlg, R_of hlb]
  idx_vars x
  obtain rfl : y = ix3 g x1 x2 := by
    funext a; match a with | 0 => exact Fin.ext hy0 | 1 => exact Fin.ext hy1 | 2 => exact Fin.ext hy2
  rw [gDw_at, hp]
  rfl

theorem dbs_fin (hdag : dag = M (rDa D n g))
    (hu : ∀ (p e : Fin 128) (j : Fin 1024), j.val = 128 * g.val + e.val → lu (ix2 p e) = M10 (fun p j => D.u (row n p) j) (ix2 p j))
    {acc : FVec Ideal S1x128x1 .f32} (prev : FVec Ideal S8x128x1 .f32) (hp : ∀ p : Fin 128, acc (ix3 0 p 0) = prev (ix3 g p 0))
    (x : S1x128x1.Idx) (y : S8x128x1.Idx) (hy0 : (y 0).val = g.val) (hy1 : (y 1).val = x 1) :
    gDbs dag lu acc x = prev y + ((D.dbsC n (y 0) (y 1) : ℝ) : EReal) := by
  rw [hdag, M_of g hu]
  idx_vars x
  obtain rfl : y = ix3 g x1 0 := by
    funext a; match a with | 0 => exact Fin.ext hy0 | 1 => exact Fin.ext hy1 | 2 => exact Subsingleton.elim (α := Fin 1) _ _
  rw [gDbs_at, hp]
  rfl

theorem dlg_fin (hdag : dag = M (rDa D n g))
    (hu : ∀ (p e : Fin 128) (j : Fin 1024), j.val = 128 * g.val + e.val → lu (ix2 p e) = M10 (fun p j => D.u (row n p) j) (ix2 p j))
    (hv : ∀ (p e : Fin 128) (j : Fin 1024), j.val = 128 * g.val + e.val → lv (ix2 p e) = M10 (fun p j => D.v (row n p) j) (ix2 p j))
    (hw : ∀ p s : Fin 128, lw (ix3 0 p s) = ((D.w g p s : ℝ) : EReal))
    {acc : FVec Ideal S1x128 .f32} (prev : FVec Ideal S8x128 .f32) (hp : ∀ e : Fin 128, acc (ix2 0 e) = prev (ix2 g e))
    (x : S1x128.Idx) (y : S8x128.Idx) (hy0 : (y 0).val = g.val) (hy1 : (y 1).val = x 1) :
    gDlg dag lu lv lw acc x = prev y + ((D.dlgC n (y 0) (y 1) : ℝ) : EReal) := by
  rw [hdag, M_of g hu, M_of g hv]
  idx_vars x
  obtain rfl : y = ix2 g x1 := by
    funext a; match a with | 0 => exact Fin.ext hy0 | 1 => exact Fin.ext hy1
  rw [gDlg_at D n g lw hw, hp]
  rfl

theorem dlb_fin (hdag : dag = M (rDa D n g))
    (hu : ∀ (p e : Fin 128) (j : Fin 1024), j.val = 128 * g.val + e.val → lu (ix2 p e) = M10 (fun p j => D.u (row n p) j) (ix2 p j))
    (hw : ∀ p s : Fin 128, lw (ix3 0 p s) = ((D.w g p s : ℝ) : EReal))
    {acc : FVec Ideal S1x128 .f32} (prev : FVec Ideal S8x128 .f32) (hp : ∀ e : Fin 128, acc (ix2 0 e) = prev (ix2 g e))
    (x : S1x128.Idx) (y : S8x128.Idx) (hy0 : (y 0).val = g.val) (hy1 : (y 1).val = x 1) :
    gDlb dag lu lw acc x = prev y + ((D.dlbC n (y 0) (y 1) : ℝ) : EReal) := by
  rw [hdag, M_of g hu]
  idx_vars x
  obtain rfl : y = ix2 g x1 := by
    funext a; match a with | 0 => exact Fin.ext hy0 | 1 => exact Fin.ext hy1
  rw [gDlb_at D n g lw hw, hp]
  rfl

end

end Cert.KernelIdeal.Words

end
-- ==== Proof.Win9.lean ====
/- The first two output windows (the gradients of both halves of the projection, and the same transposed): what each grid point
   writes. -/
module

public import proofs.«01_k».proof.Proof.Stored

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

variable (m : (ℓ : Loc nD τ sig) → Buf (Elt Ideal) ℓ)

set_option maxHeartbeats 4000000 in
theorem point9_A {c : Dev nD} {D : Dat} (H : Reads m c D) (t : Fin cfg0.N) (h0 : t.val % 32 = 0) (y : S128x2048.Idx) :
    (outsAt0 m c t.val t.isLt).1 y = out9 D (ch t) y := by
  rw [outsAt0_A m c t h0]; frame_out
  canon_tiles x h
  case' piece0 => refine (congrFun (dv_7 _ _ _ _ _) x).trans (dv_fin D (ch t) 7 ?_ ?_ ?_ ?_ ?_ x y ?_ ?_)
  case' piece1 => refine (congrFun (du_7 _ _ _ _ _ _ _) x).trans (du_fin D (ch t) 7 ?_ ?_ ?_ ?_ ?_ ?_ ?_ x y ?_ ?_)
  case' piece2 => refine (congrFun (dv_6 _ _ _ _ _) x).trans (dv_fin D (ch t) 6 ?_ ?_ ?_ ?_ ?_ x y ?_ ?_)
  case' piece3 => refine (congrFun (du_6 _ _ _ _ _ _ _) x).trans (du_fin D (ch t) 6 ?_ ?_ ?_ ?_ ?_ ?_ ?_ x y ?_ ?_)
  case' piece4 => refine (congrFun (dv_5 _ _ _ _ _) x).trans (dv_fin D (ch t) 5 ?_ ?_ ?_ ?_ ?_ x y ?_ ?_)
  case' piece5 => refine (congrFun (du_5 _ _ _ _ _ _ _) x).trans (du_fin D (ch t) 5 ?_ ?_ ?_ ?_ ?_ ?_ ?_ x y ?_ ?_)
  case' piece6 => refine (congrFun (dv_4 _ _ _ _ _) x).trans (dv_fin D (ch t) 4 ?_ ?_ ?_ ?_ ?_ x y ?_ ?_)
  case' piece7 => refine (congrFun (du_4 _ _ _ _ _ _ _) x).trans (du_fin D (ch t) 4 ?_ ?_ ?_ ?_ ?_ ?_ ?_ x y ?_ ?_)
  case' piece8 => refine (congrFun (dv_3 _ _ _ _ _) x).trans (dv_fin D (ch t) 3 ?_ ?_ ?_ ?_ ?_ x y ?_ ?_)
  case' piece9 => refine (congrFun (du_3 _ _ _ _ _ _ _) x).trans (du_fin D (ch t) 3 ?_ ?_ ?_ ?_ ?_ ?_ ?_ x y ?_ ?_)
  case' piece10 => refine (congrFun (dv_2 _ _ _ _ _) x).trans (dv_fin D (ch t) 2 ?_ ?_ ?_ ?_ ?_ x y ?_ ?_)
  case' piece11 => refine (congrFun (du_2 _ _ _ _ _ _ _) x).trans (du_fin D (ch t) 2 ?_ ?_ ?_ ?_ ?_ ?_ ?_ x y ?_ ?_)
  case' piece12 => refine (congrFun (dv_1 _ _ _ _ _) x).trans (dv_fin D (ch t) 1 ?_ ?_ ?_ ?_ ?_ x y ?_ ?_)
  case' piece13 => refine (congrFun (du_1 _ _ _ _ _ _ _) x).trans (du_fin D (ch t) 1 ?_ ?_ ?_ ?_ ?_ ?_ ?_ x y ?_ ?_)
  case' piece14 => refine (congrFun (dv_0 _ _ _ _ _) x).trans (dv_fin D (ch t) 0 ?_ ?_ ?_ ?_ ?_ x y ?_ ?_)
  case' piece15 => refine (congrFun (du_0 _ _ _ _ _ _ _) x).trans (du_fin D (ch t) 0 ?_ ?_ ?_ ?_ ?_ ?_ ?_ x y ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p e j hj; rw [blk_v m H]; pointwise; exact congrArg (fun j => M10 _ (ix2 p j)) (Fin.ext (by simp at hj ⊢; omega)))
    | (intro p s; pointwise; with_reducible exact blk_w m H t _ p s)
    | (intro e; pointwise; with_reducible exact blk_lg m H t _ e)
    | (intro e; pointwise; with_reducible exact blk_lb m H t _ e)
    | (intro p; pointwise; with_reducible exact blk_bs m H t _ p)

set_option maxHeartbeats 4000000 in
theorem point10_A {c : Dev nD} {D : Dat} (H : Reads m c D) (t : Fin cfg0.N) (h0 : t.val % 32 = 0) (a : Fin 2048) (b : Fin 128) :
    (outsAt0 m c t.val t.isLt).2.1 (ix2 a b : S2048x128.Idx) = out9 D (ch t) (ix2 b a) := by
  rw [← point9_A m H t h0 (ix2 b a), outsAt0_A m c t h0]; frame_out
  pointwise [k0_pay238]
  rw [View.readCov_eq_canon']
  refine congrArg _ ?_
  funext k
  match k with
  | 0 => exact Fin.ext (by show 0 + 1 * b.val = b.val; omega)
  | 1 => exact Fin.ext (by show 0 + 1 * a.val = a.val; omega)

set_option maxHeartbeats 4000000 in
theorem point9_B {c : Dev nD} {D : Dat} (H : Reads m c D) (t : Fin cfg0.N) (h0 : ¬ t.val % 32 = 0) (y : S128x2048.Idx) :
    (outsAt0 m c t.val t.isLt).1 y = out9 D (ch t) y := by
  rw [outsAt0_B m c t h0]; frame_out
  canon_tiles x h
  case' piece0 => refine (congrFun (dv_7 _ _ _ _ _) x).trans (dv_fin D (ch t) 7 ?_ ?_ ?_ ?_ ?_ x y ?_ ?_)
  case' piece1 => refine (congrFun (du_7 _ _ _ _ _ _ _) x).trans (du_fin D (ch t) 7 ?_ ?_ ?_ ?_ ?_ ?_ ?_ x y ?_ ?_)
  case' piece2 => refine (congrFun (dv_6 _ _ _ _ _) x).trans (dv_fin D (ch t) 6 ?_ ?_ ?_ ?_ ?_ x y ?_ ?_)
  case' piece3 => refine (congrFun (du_6 _ _ _ _ _ _ _) x).trans (du_fin D (ch t) 6 ?_ ?_ ?_ ?_ ?_ ?_ ?_ x y ?_ ?_)
  case' piece4 => refine (congrFun (dv_5 _ _ _ _ _) x).trans (dv_fin D (ch t) 5 ?_ ?_ ?_ ?_ ?_ x y ?_ ?_)
  case' piece5 => refine (congrFun (du_5 _ _ _ _ _ _ _) x).trans (du_fin D (ch t) 5 ?_ ?_ ?_ ?_ ?_ ?_ ?_ x y ?_ ?_)
  case' piece6 => refine (congrFun (dv_4 _ _ _ _ _) x).trans (dv_fin D (ch t) 4 ?_ ?_ ?_ ?_ ?_ x y ?_ ?_)
  case' piece7 => refine (congrFun (du_4 _ _ _ _ _ _ _) x).trans (du_fin D (ch t) 4 ?_ ?_ ?_ ?_ ?_ ?_ ?_ x y ?_ ?_)
  case' piece8 => refine (congrFun (dv_3 _ _ _ _ _) x).trans (dv_fin D (ch t) 3 ?_ ?_ ?_ ?_ ?_ x y ?_ ?_)
  case' piece9 => refine (congrFun (du_3 _ _ _ _ _ _ _) x).trans (du_fin D (ch t) 3 ?_ ?_ ?_ ?_ ?_ ?_ ?_ x y ?_ ?_)
  case' piece10 => refine (congrFun (dv_2 _ _ _ _ _) x).trans (dv_fin D (ch t) 2 ?_ ?_ ?_ ?_ ?_ x y ?_ ?_)
  case' piece11 => refine (congrFun (du_2 _ _ _ _ _ _ _) x).trans (du_fin D (ch t) 2 ?_ ?_ ?_ ?_ ?_ ?_ ?_ x y ?_ ?_)
  case' piece12 => refine (congrFun (dv_1 _ _ _ _ _) x).trans (dv_fin D (ch t) 1 ?_ ?_ ?_ ?_ ?_ x y ?_ ?_)
  case' piece13 => refine (congrFun (du_1 _ _ _ _ _ _ _) x).trans (du_fin D (ch t) 1 ?_ ?_ ?_ ?_ ?_ ?_ ?_ x y ?_ ?_)
  case' piece14 => refine (congrFun (dv_0 _ _ _ _ _) x).trans (dv_fin D (ch t) 0 ?_ ?_ ?_ ?_ ?_ x y ?_ ?_)
  case' piece15 => refine (congrFun (du_0 _ _ _ _ _ _ _) x).trans (du_fin D (ch t) 0 ?_ ?_ ?_ ?_ ?_ ?_ ?_ x y ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p e j hj; rw [blk_v m H]; pointwise; exact congrArg (fun j => M10 _ (ix2 p j)) (Fin.ext (by simp at hj ⊢; omega)))
    | (intro p s; pointwise; with_reducible exact blk_w m H t _ p s)
    | (intro e; pointwise; with_reducible exact blk_lg m H t _ e)
    | (intro e; pointwise; with_reducible exact blk_lb m H t _ e)
    | (intro p; pointwise; with_reducible exact blk_bs m H t _ p)

set_option maxHeartbeats 4000000 in
theorem point10_B {c : Dev nD} {D : Dat} (H : Reads m c D) (t : Fin cfg0.N) (h0 : ¬ t.val % 32 = 0) (a : Fin 2048) (b : Fin 128) :
    (outsAt0 m c t.val t.isLt).2.1 (ix2 a b : S2048x128.Idx) = out9 D (ch t) (ix2 b a) := by
  rw [← point9_B m H t h0 (ix2 b a), outsAt0_B m c t h0]; frame_out
  pointwise [k0_pay238]
  rw [View.readCov_eq_canon']
  refine congrArg _ ?_
  funext k
  match k with
  | 0 => exact Fin.ext (by show 0 + 1 * b.val = b.val; omega)
  | 1 => exact Fin.ext (by show 0 + 1 * a.val = a.val; omega)

end Cert.KernelIdeal.Words

end
-- ==== Proof.Win12.lean ====
/- The mixing matrices' gradient: the contents at each grid point, from those at the point before. -/
module

public import proofs.«01_k».proof.Proof.Stored

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

variable (m : (ℓ : Loc nD τ sig) → Buf (Elt Ideal) ℓ)

set_option maxHeartbeats 4000000 in
/-- At the first point. -/
theorem point12_A {c : Dev nD} {D : Dat} (H : Reads m c D) (t : Fin cfg0.N) (h0 : t.val % 32 = 0) (y : S8x128x128.Idx) :
    (outsAt0 m c t.val t.isLt).2.2.2.1 y = (0 : EReal) + ((D.dwC (ch t) (y 0) (y 1) (y 2) : ℝ) : EReal) := by
  rw [outsAt0_A m c t h0]; frame_open
  simp (disch := decide) only [↓View.readCov_skip, ↓View.readCov_fill]
  frame_out
  refine (canon_over [_] [_, _, _, _, _, _, _, _] y (View.cover_of_tiled_head _ _ _ (by rfl) y)).trans ?_
  canon_tiles x h
  case' piece0 => refine (congrFun (dw_7 _ _ _ _ _ _) x).trans (dw_fin D (ch t) 7 ?_ ?_ ?_ ?_ ?_ (fun _ => 0) ?_ x y ?_ ?_ ?_)
  case' piece1 => refine (congrFun (dw_6 _ _ _ _ _ _) x).trans (dw_fin D (ch t) 6 ?_ ?_ ?_ ?_ ?_ (fun _ => 0) ?_ x y ?_ ?_ ?_)
  case' piece2 => refine (congrFun (dw_5 _ _ _ _ _ _) x).trans (dw_fin D (ch t) 5 ?_ ?_ ?_ ?_ ?_ (fun _ => 0) ?_ x y ?_ ?_ ?_)
  case' piece3 => refine (congrFun (dw_4 _ _ _ _ _ _) x).trans (dw_fin D (ch t) 4 ?_ ?_ ?_ ?_ ?_ (fun _ => 0) ?_ x y ?_ ?_ ?_)
  case' piece4 => refine (congrFun (dw_3 _ _ _ _ _ _) x).trans (dw_fin D (ch t) 3 ?_ ?_ ?_ ?_ ?_ (fun _ => 0) ?_ x y ?_ ?_ ?_)
  case' piece5 => refine (congrFun (dw_2 _ _ _ _ _ _) x).trans (dw_fin D (ch t) 2 ?_ ?_ ?_ ?_ ?_ (fun _ => 0) ?_ x y ?_ ?_ ?_)
  case' piece6 => refine (congrFun (dw_1 _ _ _ _ _ _) x).trans (dw_fin D (ch t) 1 ?_ ?_ ?_ ?_ ?_ (fun _ => 0) ?_ x y ?_ ?_ ?_)
  case' piece7 => refine (congrFun (dw_0 _ _ _ _ _ _) x).trans (dw_fin D (ch t) 0 ?_ ?_ ?_ ?_ ?_ (fun _ => 0) ?_ x y ?_ ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p e j hj; rw [blk_v m H]; pointwise; exact congrArg (fun j => M10 _ (ix2 p j)) (Fin.ext (by simp at hj ⊢; omega)))
    | (intro e; pointwise; with_reducible exact blk_lg m H t _ e)
    | (intro e; pointwise; with_reducible exact blk_lb m H t _ e)
    | (intro p s; pointwise [k0_pay27, k0_pay2])

set_option maxHeartbeats 4000000 in
/-- At the others. -/
theorem point12_B {c : Dev nD} {D : Dat} (H : Reads m c D) (t : Fin cfg0.N) (h0 : ¬ t.val % 32 = 0) (y : S8x128x128.Idx) :
    (outsAt0 m c t.val t.isLt).2.2.2.1 y = (show EReal from (outsAt0 m c (t.val - 1) (Nat.lt_of_le_of_lt (Nat.sub_le _ _) t.isLt)).2.2.2.1 y) + ((D.dwC (ch t) (y 0) (y 1) (y 2) : ℝ) : EReal) := by
  rw [outsAt0_B m c t h0]; frame_out
  canon_tiles x h
  case' piece0 => refine (congrFun (dw_7 _ _ _ _ _ _) x).trans (dw_fin D (ch t) 7 ?_ ?_ ?_ ?_ ?_ _ ?_ x y ?_ ?_ ?_)
  case' piece1 => refine (congrFun (dw_6 _ _ _ _ _ _) x).trans (dw_fin D (ch t) 6 ?_ ?_ ?_ ?_ ?_ _ ?_ x y ?_ ?_ ?_)
  case' piece2 => refine (congrFun (dw_5 _ _ _ _ _ _) x).trans (dw_fin D (ch t) 5 ?_ ?_ ?_ ?_ ?_ _ ?_ x y ?_ ?_ ?_)
  case' piece3 => refine (congrFun (dw_4 _ _ _ _ _ _) x).trans (dw_fin D (ch t) 4 ?_ ?_ ?_ ?_ ?_ _ ?_ x y ?_ ?_ ?_)
  case' piece4 => refine (congrFun (dw_3 _ _ _ _ _ _) x).trans (dw_fin D (ch t) 3 ?_ ?_ ?_ ?_ ?_ _ ?_ x y ?_ ?_ ?_)
  case' piece5 => refine (congrFun (dw_2 _ _ _ _ _ _) x).trans (dw_fin D (ch t) 2 ?_ ?_ ?_ ?_ ?_ _ ?_ x y ?_ ?_ ?_)
  case' piece6 => refine (congrFun (dw_1 _ _ _ _ _ _) x).trans (dw_fin D (ch t) 1 ?_ ?_ ?_ ?_ ?_ _ ?_ x y ?_ ?_ ?_)
  case' piece7 => refine (congrFun (dw_0 _ _ _ _ _ _) x).trans (dw_fin D (ch t) 0 ?_ ?_ ?_ ?_ ?_ _ ?_ x y ?_ ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p e j hj; rw [blk_v m H]; pointwise; exact congrArg (fun j => M10 _ (ix2 p j)) (Fin.ext (by simp at hj ⊢; omega)))
    | (intro e; pointwise; with_reducible exact blk_lg m H t _ e)
    | (intro e; pointwise; with_reducible exact blk_lb m H t _ e)
    | (intro p s; pointwise [k0_pay27])

end Cert.KernelIdeal.Words

end
-- ==== Proof.Win13.lean ====
/- The mixing biases' gradient: the contents at each grid point, from those at the point before. -/
module

public import proofs.«01_k».proof.Proof.Stored

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

variable (m : (ℓ : Loc nD τ sig) → Buf (Elt Ideal) ℓ)

set_option maxHeartbeats 4000000 in
/-- At the first point. -/
theorem point13_A {c : Dev nD} {D : Dat} (H : Reads m c D) (t : Fin cfg0.N) (h0 : t.val % 32 = 0) (y : S8x128x1.Idx) :
    (outsAt0 m c t.val t.isLt).2.2.2.2.1 y = (0 : EReal) + ((D.dbsC (ch t) (y 0) (y 1) : ℝ) : EReal) := by
  rw [outsAt0_A m c t h0]; frame_open
  simp (disch := decide) only [↓View.readCov_skip, ↓View.readCov_fill]
  frame_out
  refine (canon_over [_] [_, _, _, _, _, _, _, _] y (View.cover_of_tiled_head _ _ _ (by rfl) y)).trans ?_
  canon_tiles x h
  case' piece0 => refine (congrFun (dbs_7 _ _ _) x).trans (dbs_fin D (ch t) 7 ?_ ?_ (fun _ => 0) ?_ x y ?_ ?_)
  case' piece1 => refine (congrFun (dbs_6 _ _ _) x).trans (dbs_fin D (ch t) 6 ?_ ?_ (fun _ => 0) ?_ x y ?_ ?_)
  case' piece2 => refine (congrFun (dbs_5 _ _ _) x).trans (dbs_fin D (ch t) 5 ?_ ?_ (fun _ => 0) ?_ x y ?_ ?_)
  case' piece3 => refine (congrFun (dbs_4 _ _ _) x).trans (dbs_fin D (ch t) 4 ?_ ?_ (fun _ => 0) ?_ x y ?_ ?_)
  case' piece4 => refine (congrFun (dbs_3 _ _ _) x).trans (dbs_fin D (ch t) 3 ?_ ?_ (fun _ => 0) ?_ x y ?_ ?_)
  case' piece5 => refine (congrFun (dbs_2 _ _ _) x).trans (dbs_fin D (ch t) 2 ?_ ?_ (fun _ => 0) ?_ x y ?_ ?_)
  case' piece6 => refine (congrFun (dbs_1 _ _ _) x).trans (dbs_fin D (ch t) 1 ?_ ?_ (fun _ => 0) ?_ x y ?_ ?_)
  case' piece7 => refine (congrFun (dbs_0 _ _ _) x).trans (dbs_fin D (ch t) 0 ?_ ?_ (fun _ => 0) ?_ x y ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p; pointwise [k0_pay3])

set_option maxHeartbeats 4000000 in
/-- At the others. -/
theorem point13_B {c : Dev nD} {D : Dat} (H : Reads m c D) (t : Fin cfg0.N) (h0 : ¬ t.val % 32 = 0) (y : S8x128x1.Idx) :
    (outsAt0 m c t.val t.isLt).2.2.2.2.1 y = (show EReal from (outsAt0 m c (t.val - 1) (Nat.lt_of_le_of_lt (Nat.sub_le _ _) t.isLt)).2.2.2.2.1 y) + ((D.dbsC (ch t) (y 0) (y 1) : ℝ) : EReal) := by
  rw [outsAt0_B m c t h0]; frame_out
  canon_tiles x h
  case' piece0 => refine (congrFun (dbs_7 _ _ _) x).trans (dbs_fin D (ch t) 7 ?_ ?_ _ ?_ x y ?_ ?_)
  case' piece1 => refine (congrFun (dbs_6 _ _ _) x).trans (dbs_fin D (ch t) 6 ?_ ?_ _ ?_ x y ?_ ?_)
  case' piece2 => refine (congrFun (dbs_5 _ _ _) x).trans (dbs_fin D (ch t) 5 ?_ ?_ _ ?_ x y ?_ ?_)
  case' piece3 => refine (congrFun (dbs_4 _ _ _) x).trans (dbs_fin D (ch t) 4 ?_ ?_ _ ?_ x y ?_ ?_)
  case' piece4 => refine (congrFun (dbs_3 _ _ _) x).trans (dbs_fin D (ch t) 3 ?_ ?_ _ ?_ x y ?_ ?_)
  case' piece5 => refine (congrFun (dbs_2 _ _ _) x).trans (dbs_fin D (ch t) 2 ?_ ?_ _ ?_ x y ?_ ?_)
  case' piece6 => refine (congrFun (dbs_1 _ _ _) x).trans (dbs_fin D (ch t) 1 ?_ ?_ _ ?_ x y ?_ ?_)
  case' piece7 => refine (congrFun (dbs_0 _ _ _) x).trans (dbs_fin D (ch t) 0 ?_ ?_ _ ?_ x y ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p; pointwise)

end Cert.KernelIdeal.Words

end
-- ==== Proof.Win14.lean ====
/- The layer norm's gain's gradient: the contents at each grid point, from those at the point before. -/
module

public import proofs.«01_k».proof.Proof.Stored

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

variable (m : (ℓ : Loc nD τ sig) → Buf (Elt Ideal) ℓ)

set_option maxHeartbeats 4000000 in
/-- At the first point. -/
theorem point14_A {c : Dev nD} {D : Dat} (H : Reads m c D) (t : Fin cfg0.N) (h0 : t.val % 32 = 0) (y : S8x128.Idx) :
    (outsAt0 m c t.val t.isLt).2.2.2.2.2.1 y = (0 : EReal) + ((D.dlgC (ch t) (y 0) (y 1) : ℝ) : EReal) := by
  rw [outsAt0_A m c t h0]; frame_open
  simp (disch := decide) only [↓View.readCov_skip, ↓View.readCov_fill]
  frame_out
  refine (canon_over [_] [_, _, _, _, _, _, _, _] y (View.cover_of_tiled_head _ _ _ (by rfl) y)).trans ?_
  canon_tiles x h
  case' piece0 => refine (congrFun (dlg_7 _ _ _ _ _) x).trans (dlg_fin D (ch t) 7 ?_ ?_ ?_ ?_ (fun _ => 0) ?_ x y ?_ ?_)
  case' piece1 => refine (congrFun (dlg_6 _ _ _ _ _) x).trans (dlg_fin D (ch t) 6 ?_ ?_ ?_ ?_ (fun _ => 0) ?_ x y ?_ ?_)
  case' piece2 => refine (congrFun (dlg_5 _ _ _ _ _) x).trans (dlg_fin D (ch t) 5 ?_ ?_ ?_ ?_ (fun _ => 0) ?_ x y ?_ ?_)
  case' piece3 => refine (congrFun (dlg_4 _ _ _ _ _) x).trans (dlg_fin D (ch t) 4 ?_ ?_ ?_ ?_ (fun _ => 0) ?_ x y ?_ ?_)
  case' piece4 => refine (congrFun (dlg_3 _ _ _ _ _) x).trans (dlg_fin D (ch t) 3 ?_ ?_ ?_ ?_ (fun _ => 0) ?_ x y ?_ ?_)
  case' piece5 => refine (congrFun (dlg_2 _ _ _ _ _) x).trans (dlg_fin D (ch t) 2 ?_ ?_ ?_ ?_ (fun _ => 0) ?_ x y ?_ ?_)
  case' piece6 => refine (congrFun (dlg_1 _ _ _ _ _) x).trans (dlg_fin D (ch t) 1 ?_ ?_ ?_ ?_ (fun _ => 0) ?_ x y ?_ ?_)
  case' piece7 => refine (congrFun (dlg_0 _ _ _ _ _) x).trans (dlg_fin D (ch t) 0 ?_ ?_ ?_ ?_ (fun _ => 0) ?_ x y ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p e j hj; rw [blk_v m H]; pointwise; exact congrArg (fun j => M10 _ (ix2 p j)) (Fin.ext (by simp at hj ⊢; omega)))
    | (intro p s; pointwise; with_reducible exact blk_w m H t _ p s)
    | (intro e; pointwise [k0_pay4])

set_option maxHeartbeats 4000000 in
/-- At the others. -/
theorem point14_B {c : Dev nD} {D : Dat} (H : Reads m c D) (t : Fin cfg0.N) (h0 : ¬ t.val % 32 = 0) (y : S8x128.Idx) :
    (outsAt0 m c t.val t.isLt).2.2.2.2.2.1 y = (show EReal from (outsAt0 m c (t.val - 1) (Nat.lt_of_le_of_lt (Nat.sub_le _ _) t.isLt)).2.2.2.2.2.1 y) + ((D.dlgC (ch t) (y 0) (y 1) : ℝ) : EReal) := by
  rw [outsAt0_B m c t h0]; frame_out
  canon_tiles x h
  case' piece0 => refine (congrFun (dlg_7 _ _ _ _ _) x).trans (dlg_fin D (ch t) 7 ?_ ?_ ?_ ?_ _ ?_ x y ?_ ?_)
  case' piece1 => refine (congrFun (dlg_6 _ _ _ _ _) x).trans (dlg_fin D (ch t) 6 ?_ ?_ ?_ ?_ _ ?_ x y ?_ ?_)
  case' piece2 => refine (congrFun (dlg_5 _ _ _ _ _) x).trans (dlg_fin D (ch t) 5 ?_ ?_ ?_ ?_ _ ?_ x y ?_ ?_)
  case' piece3 => refine (congrFun (dlg_4 _ _ _ _ _) x).trans (dlg_fin D (ch t) 4 ?_ ?_ ?_ ?_ _ ?_ x y ?_ ?_)
  case' piece4 => refine (congrFun (dlg_3 _ _ _ _ _) x).trans (dlg_fin D (ch t) 3 ?_ ?_ ?_ ?_ _ ?_ x y ?_ ?_)
  case' piece5 => refine (congrFun (dlg_2 _ _ _ _ _) x).trans (dlg_fin D (ch t) 2 ?_ ?_ ?_ ?_ _ ?_ x y ?_ ?_)
  case' piece6 => refine (congrFun (dlg_1 _ _ _ _ _) x).trans (dlg_fin D (ch t) 1 ?_ ?_ ?_ ?_ _ ?_ x y ?_ ?_)
  case' piece7 => refine (congrFun (dlg_0 _ _ _ _ _) x).trans (dlg_fin D (ch t) 0 ?_ ?_ ?_ ?_ _ ?_ x y ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p e j hj; rw [blk_v m H]; pointwise; exact congrArg (fun j => M10 _ (ix2 p j)) (Fin.ext (by simp at hj ⊢; omega)))
    | (intro p s; pointwise; with_reducible exact blk_w m H t _ p s)
    | (intro e; pointwise)

end Cert.KernelIdeal.Words

end
-- ==== Proof.Win15.lean ====
/- The layer norm's bias's gradient: the contents at each grid point, from those at the point before. -/
module

public import proofs.«01_k».proof.Proof.Stored

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

variable (m : (ℓ : Loc nD τ sig) → Buf (Elt Ideal) ℓ)

set_option maxHeartbeats 4000000 in
/-- At the first point. -/
theorem point15_A {c : Dev nD} {D : Dat} (H : Reads m c D) (t : Fin cfg0.N) (h0 : t.val % 32 = 0) (y : S8x128.Idx) :
    (outsAt0 m c t.val t.isLt).2.2.2.2.2.2 y = (0 : EReal) + ((D.dlbC (ch t) (y 0) (y 1) : ℝ) : EReal) := by
  rw [outsAt0_A m c t h0]; frame_open
  simp (disch := decide) only [↓View.readCov_skip, ↓View.readCov_fill]
  frame_out
  refine (canon_over [_] [_, _, _, _, _, _, _, _] y (View.cover_of_tiled_head _ _ _ (by rfl) y)).trans ?_
  canon_tiles x h
  case' piece0 => refine (congrFun (dlb_7 _ _ _ _) x).trans (dlb_fin D (ch t) 7 ?_ ?_ ?_ (fun _ => 0) ?_ x y ?_ ?_)
  case' piece1 => refine (congrFun (dlb_6 _ _ _ _) x).trans (dlb_fin D (ch t) 6 ?_ ?_ ?_ (fun _ => 0) ?_ x y ?_ ?_)
  case' piece2 => refine (congrFun (dlb_5 _ _ _ _) x).trans (dlb_fin D (ch t) 5 ?_ ?_ ?_ (fun _ => 0) ?_ x y ?_ ?_)
  case' piece3 => refine (congrFun (dlb_4 _ _ _ _) x).trans (dlb_fin D (ch t) 4 ?_ ?_ ?_ (fun _ => 0) ?_ x y ?_ ?_)
  case' piece4 => refine (congrFun (dlb_3 _ _ _ _) x).trans (dlb_fin D (ch t) 3 ?_ ?_ ?_ (fun _ => 0) ?_ x y ?_ ?_)
  case' piece5 => refine (congrFun (dlb_2 _ _ _ _) x).trans (dlb_fin D (ch t) 2 ?_ ?_ ?_ (fun _ => 0) ?_ x y ?_ ?_)
  case' piece6 => refine (congrFun (dlb_1 _ _ _ _) x).trans (dlb_fin D (ch t) 1 ?_ ?_ ?_ (fun _ => 0) ?_ x y ?_ ?_)
  case' piece7 => refine (congrFun (dlb_0 _ _ _ _) x).trans (dlb_fin D (ch t) 0 ?_ ?_ ?_ (fun _ => 0) ?_ x y ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p s; pointwise; with_reducible exact blk_w m H t _ p s)
    | (intro e; pointwise [k0_pay5])

set_option maxHeartbeats 4000000 in
/-- At the others. -/
theorem point15_B {c : Dev nD} {D : Dat} (H : Reads m c D) (t : Fin cfg0.N) (h0 : ¬ t.val % 32 = 0) (y : S8x128.Idx) :
    (outsAt0 m c t.val t.isLt).2.2.2.2.2.2 y = (show EReal from (outsAt0 m c (t.val - 1) (Nat.lt_of_le_of_lt (Nat.sub_le _ _) t.isLt)).2.2.2.2.2.2 y) + ((D.dlbC (ch t) (y 0) (y 1) : ℝ) : EReal) := by
  rw [outsAt0_B m c t h0]; frame_out
  canon_tiles x h
  case' piece0 => refine (congrFun (dlb_7 _ _ _ _) x).trans (dlb_fin D (ch t) 7 ?_ ?_ ?_ _ ?_ x y ?_ ?_)
  case' piece1 => refine (congrFun (dlb_6 _ _ _ _) x).trans (dlb_fin D (ch t) 6 ?_ ?_ ?_ _ ?_ x y ?_ ?_)
  case' piece2 => refine (congrFun (dlb_5 _ _ _ _) x).trans (dlb_fin D (ch t) 5 ?_ ?_ ?_ _ ?_ x y ?_ ?_)
  case' piece3 => refine (congrFun (dlb_4 _ _ _ _) x).trans (dlb_fin D (ch t) 4 ?_ ?_ ?_ _ ?_ x y ?_ ?_)
  case' piece4 => refine (congrFun (dlb_3 _ _ _ _) x).trans (dlb_fin D (ch t) 3 ?_ ?_ ?_ _ ?_ x y ?_ ?_)
  case' piece5 => refine (congrFun (dlb_2 _ _ _ _) x).trans (dlb_fin D (ch t) 2 ?_ ?_ ?_ _ ?_ x y ?_ ?_)
  case' piece6 => refine (congrFun (dlb_1 _ _ _ _) x).trans (dlb_fin D (ch t) 1 ?_ ?_ ?_ _ ?_ x y ?_ ?_)
  case' piece7 => refine (congrFun (dlb_0 _ _ _ _) x).trans (dlb_fin D (ch t) 0 ?_ ?_ ?_ _ ?_ x y ?_ ?_)
  all_goals first
    | omega
    | (simp only [blk_da m H, gDa0_M, gDa1_M, gDa2_M, gDa3_M, gDa4_M, gDa5_M, gDa6_M, gDa7_M]; done)
    | (intro p e j hj; rw [blk_u m H]; pointwise; exact congrArg (fun j => M10 _ (ix2 p j)) (Fin.ext (by simp at hj ⊢; omega)))
    | (intro p s; pointwise; with_reducible exact blk_w m H t _ p s)
    | (intro e; pointwise)

end Cert.KernelIdeal.Words

end
-- ==== Proof.Arrays.lean ====
/- The kernel's seven result arrays after the run, in terms of the real arrays it reads. -/
module

public import proofs.«01_k».proof.Proof.Win9
public import proofs.«01_k».proof.Proof.Win12
public import proofs.«01_k».proof.Proof.Win13
public import proofs.«01_k».proof.Proof.Win14
public import proofs.«01_k».proof.Proof.Win15

@[expose] public section

set_option maxRecDepth 16384

noncomputable section

namespace Cert.KernelIdeal.Words

open Idealize.ShloMosaic Idealize.ShloMosaic.TcCoe Idealize.SL.Sem
open Cert.KernelIdeal Cert.KernelIdeal.Gen Gmlp
open Facts

variable (m : (ℓ : Loc nD τ sig) → Buf (Elt Ideal) ℓ)

theorem idx_out : ∀ t : Fin cfg0.N, win0_9.index t = ![t.val, 0] ∧ win0_10.index t = ![0, t.val] ∧ win0_11.index t = ![0, 0] ∧
    win0_12.index t = ![0, 0, 0] ∧ win0_13.index t = ![0, 0, 0] ∧ win0_14.index t = ![0, 0] ∧ win0_15.index t = ![0, 0] :=
  (by decide +kernel : ∀ t : Fin grid0.N, _)

/-- The projection's gradient, at an index: the gate's half, the values' half. -/
def gUV (D : Dat) (r : Fin 4096) (j : Fin 2048) : ℝ :=
  if h : j.val < 1024 then D.du r ⟨j.val, h⟩ else D.dv r ⟨j.val - 1024, by omega⟩

theorem out9_eq (D : Dat) (n : Fin 32) (p : Fin 128) (j : Fin 2048) : out9 D n (ix2 p j) = ((gUV D (row n p) j : ℝ) : EReal) := by
  show (if h : j.val < 1024 then _ else _) = _
  unfold gUV
  by_cases h : j.val < 1024
  · rw [dif_pos h, dif_pos h]; rfl
  · rw [dif_neg h, dif_neg h]; rfl

/-- The run's points are the chunks, in order. -/
theorem ch_run (t : Fin cfg0.N) (k : Fin 32) (h) : ch ⟨32 * (t.val / 32) + k.val, h⟩ = k := by
  have ht : t.val < 32 := lt_of_lt_of_eq t.isLt N_0
  refine Fin.ext ?_
  show 32 * (t.val / 32) + k.val = k.val
  omega

section
variable {c : Dev nD} {D : Dat} (H : Reads m c D)
include H

theorem point9 (t : Fin cfg0.N) (y : S128x2048.Idx) : (outsAt0 m c t.val t.isLt).1 y = out9 D (ch t) y := by
  by_cases h0 : t.val % 32 = 0
  · exact point9_A m H t h0 y
  · exact point9_B m H t h0 y

theorem point10 (t : Fin cfg0.N) (a : Fin 2048) (b : Fin 128) :
    (outsAt0 m c t.val t.isLt).2.1 (ix2 a b : S2048x128.Idx) = out9 D (ch t) (ix2 b a) := by
  by_cases h0 : t.val % 32 = 0
  · exact point10_A m H t h0 a b
  · exact point10_B m H t h0 a b

/-- The projection's gradient. -/
theorem final9 : (dats m 0 c).arrAt 9 (cfgs 0).N = fun i : S4096x2048.Idx => ((gUV D (i 0) (i 1) : ℝ) : EReal) := by
  refine (dats m 0 c).arrAt_eq_of_covers 9 _ (by decide +kernel) fun t hf y => ?_
  blk_simp
  rw [after0_9, point9 m H]
  idx_vars y
  rw [out9_eq]
  refine congrArg (fun x : ℝ => (x : EReal)) (congrArg₂ (gUV D) (Fin.ext ?_) (Fin.ext ?_))
  · blk_simp [idx_out t, row, ch]
    show 128 * t.val + y0.val = t.val * 128 + y0.val
    omega
  · blk_simp [idx_out t]

/-- The same, transposed. -/
theorem final10 : (dats m 0 c).arrAt 10 (cfgs 0).N = fun i : S2048x4096.Idx => ((gUV D (i 1) (i 0) : ℝ) : EReal) := by
  refine (dats m 0 c).arrAt_eq_of_covers 10 _ (by decide +kernel) fun t hf y => ?_
  blk_simp
  rw [after0_10]
  idx_vars y
  rw [point10 m H, out9_eq]
  refine congrArg (fun x : ℝ => (x : EReal)) (congrArg₂ (gUV D) (Fin.ext ?_) (Fin.ext ?_))
  · blk_simp [idx_out t, row, ch]
    show 128 * t.val + y1.val = t.val * 128 + y1.val
    omega
  · blk_simp [idx_out t]

theorem point11_A (t : Fin cfg0.N) (h0 : t.val % 32 = 0) (y : S1x1024.Idx) :
    (outsAt0 m c t.val t.isLt).2.2.1 y = (0 : EReal) + ((D.dgaC (ch t) (y 1) : ℝ) : EReal) := by
  rw [outsAt0_A m c t h0]; frame_out
  rw [blk_a m H, blk_d m H]
  idx_vars y
  obtain rfl : y0 = 0 := Subsingleton.elim _ _
  rw [dga_M, show k0_pay1 (F := Ideal) (ix2 0 y1) = (0 : EReal) from by pointwise [k0_pay1]]
  rfl

theorem point11_B (t : Fin cfg0.N) (h0 : ¬ t.val % 32 = 0) (y : S1x1024.Idx) :
    (outsAt0 m c t.val t.isLt).2.2.1 y = (show EReal from (outsAt0 m c (t.val - 1) (Nat.lt_of_le_of_lt (Nat.sub_le _ _) t.isLt)).2.2.1 y) + ((D.dgaC (ch t) (y 1) : ℝ) : EReal) := by
  rw [outsAt0_B m c t h0]; frame_out
  rw [blk_a m H, blk_d m H]
  idx_vars y
  obtain rfl : y0 = 0 := Subsingleton.elim _ _
  rw [dga_M]
  rfl

/-- The RMS gain's gradient: the chunks' parts summed. -/
theorem final11 : (dats m 0 c).arrAt 11 (cfgs 0).N = fun i : S1x1024.Idx => ((∑ n, D.dgaC n (i 1) : ℝ) : EReal) := by
  refine (dats m 0 c).arrAt_eq_of_covers 11 _ (by decide +kernel) fun t hf y => ?_
  blk_simp
  rw [after0_11, Pipeline.eq_sum_fin_of_reset_step_apply_of_flush (fun n h => (outsAt0 m c n h).2.2.1) 32 (fun _ => (0 : EReal))
    (fun t (y : S1x1024.Idx) => ((D.dgaC (ch t) (y 1) : ℝ) : EReal)) (fun t h y => point11_A m H t h y) (fun t h y => point11_B m H t h y)
    t ((flush0_11 t).mp hf) _, zero_add, sum_coe]
  refine congrArg (fun x : ℝ => (x : EReal)) (Finset.sum_congr rfl fun n _ => ?_)
  rw [ch_run]
  refine congrArg (D.dgaC n) (Fin.ext ?_)
  blk_simp [idx_out t]

/-- The mixing matrices' gradient: the chunks' parts summed. -/
theorem final12 : (dats m 0 c).arrAt 12 (cfgs 0).N = fun i : S8x128x128.Idx => ((∑ n, D.dwC n (i 0) (i 1) (i 2) : ℝ) : EReal) := by
  refine (dats m 0 c).arrAt_eq_of_covers 12 _ (by decide +kernel) fun t hf y => ?_
  blk_simp
  rw [after0_12, Pipeline.eq_sum_fin_of_reset_step_apply_of_flush (fun n h => (outsAt0 m c n h).2.2.2.1) 32 (fun _ => (0 : EReal))
    (fun t (y : S8x128x128.Idx) => ((D.dwC (ch t) (y 0) (y 1) (y 2) : ℝ) : EReal)) (fun t h y => point12_A m H t h y) (fun t h y => point12_B m H t h y)
    t ((flush0_12 t).mp hf) _, zero_add, sum_coe]
  refine congrArg (fun x : ℝ => (x : EReal)) (Finset.sum_congr rfl fun n _ => ?_)
  rw [ch_run]
  refine congr (congrArg₂ (D.dwC n) (Fin.ext ?_) (Fin.ext ?_)) (Fin.ext ?_) <;> blk_simp [idx_out t]

/-- The mixing biases' gradient: the chunks' parts summed. -/
theorem final13 : (dats m 0 c).arrAt 13 (cfgs 0).N = fun i : S8x128x1.Idx => ((∑ n, D.dbsC n (i 0) (i 1) : ℝ) : EReal) := by
  refine (dats m 0 c).arrAt_eq_of_covers 13 _ (by decide +kernel) fun t hf y => ?_
  blk_simp
  rw [after0_13, Pipeline.eq_sum_fin_of_reset_step_apply_of_flush (fun n h => (outsAt0 m c n h).2.2.2.2.1) 32 (fun _ => (0 : EReal))
    (fun t (y : S8x128x1.Idx) => ((D.dbsC (ch t) (y 0) (y 1) : ℝ) : EReal)) (fun t h y => point13_A m H t h y) (fun t h y => point13_B m H t h y)
    t ((flush0_13 t).mp hf) _, zero_add, sum_coe]
  refine congrArg (fun x : ℝ => (x : EReal)) (Finset.sum_congr rfl fun n _ => ?_)
  rw [ch_run]
  refine congrArg₂ (D.dbsC n) (Fin.ext ?_) (Fin.ext ?_) <;> blk_simp [idx_out t]

/-- The layer norm's gain's gradient: the chunks' parts summed. -/
theorem final14 : (dats m 0 c).arrAt 14 (cfgs 0).N = fun i : S8x128.Idx => ((∑ n, D.dlgC n (i 0) (i 1) : ℝ) : EReal) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.1) 32 (fun _ => (0 : EReal))
    (fun t (y : S8x128.Idx) => ((D.dlgC (ch t) (y 0) (y 1) : ℝ) : EReal)) (fun t h y => point14_A m H t h y) (fun t h y => point14_B m H t h y)
    t ((flush0_14 t).mp hf) _, zero_add, sum_coe]
  refine congrArg (fun x : ℝ => (x : EReal)) (Finset.sum_congr rfl fun n _ => ?_)
  rw [ch_run]
  refine congrArg₂ (D.dlgC n) (Fin.ext ?_) (Fin.ext ?_) <;> blk_simp [idx_out t]

/-- The layer norm's bias's gradient: the chunks' parts summed. -/
theorem final15 : (dats m 0 c).arrAt 15 (cfgs 0).N = fun i : S8x128.Idx => ((∑ n, D.dlbC n (i 0) (i 1) : ℝ) : EReal) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2) 32 (fun _ => (0 : EReal))
    (fun t (y : S8x128.Idx) => ((D.dlbC (ch t) (y 0) (y 1) : ℝ) : EReal)) (fun t h y => point15_A m H t h y) (fun t h y => point15_B m H t h y)
    t ((flush0_15 t).mp hf) _, zero_add, sum_coe]
  refine congrArg (fun x : ℝ => (x : EReal)) (Finset.sum_congr rfl fun n _ => ?_)
  rw [ch_run]
  refine congrArg₂ (D.dlbC n) (Fin.ext ?_) (Fin.ext ?_) <;> blk_simp [idx_out t]

end

end Cert.KernelIdeal.Words

end
-- ==== Proof.Ref1.lean ====
/- The reference's stages on arrays of real numbers, first half: the forward lines, from the projection to the gating's
   output, and what they keep for the way back. -/
module

public import proofs.«01_k».proof.Proof.Gen.ReferenceIdeal.Read
public import proofs.«01_k».proof.Proof.Consts
public import proofs.«01_k».proof.Proof.Reals
public import Idealize.ShloMosaic.Lib.Pointwise
public import Idealize.ShloMosaic.Lib.WordCmp

@[expose] public section

set_option maxRecDepth 16384

noncomputable section

namespace Cert.ReferenceIdeal.Words

open Idealize.ShloMosaic Idealize.ShloMosaic.TcCoe Idealize.SL.Sem
open Cert.ReferenceIdeal Cert.ReferenceIdeal.Gen Cert.ReferenceIdeal.Read Gmlp

/-- The array of a real matrix of 1024 columns. -/
def X2 (f : Fin 4096 → Fin 1024 → ℝ) : FVec Ideal S4096x1024 .f32 := fun i => ((f (i 0) (i 1) : ℝ) : EReal)
/-- The array of a real function of row, group and lane. -/
def Q4 (f : Fin 4096 → Fin 8 → Fin 128 → ℝ) : FVec Ideal S1x4096x8x128 .f32 := fun i => ((f (i 1) (i 2) (i 3) : ℝ) : EReal)
/-- The same in chunks of 128 rows. -/
def Q5 (f : Fin 32 → Fin 128 → Fin 8 → Fin 128 → ℝ) : FVec Ideal S1x32x128x8x128 .f32 :=
  fun i => ((f (i 1) (i 2) (i 3) (i 4) : ℝ) : EReal)
/-- The array of a real function of row and group. -/
def K4 (f : Fin 4096 → Fin 8 → ℝ) : FVec Ideal S1x4096x8x1 .f32 := fun i => ((f (i 1) (i 2) : ℝ) : EReal)
/-- The column of a real function of the row. -/
def K2 (f : Fin 4096 → ℝ) : FVec Ideal S4096x1 .f32 := fun i => ((f (i 0) : ℝ) : EReal)
/-- The array of a real matrix per group. -/
def W3 (f : Fin 8 → Fin 128 → Fin 128 → ℝ) : FVec Ideal S8x128x128 .f32 := fun i => ((f (i 0) (i 1) (i 2) : ℝ) : EReal)
/-- The array of a real row per group. -/
def G2 (f : Fin 8 → Fin 128 → ℝ) : FVec Ideal S8x128 .f32 := fun i => ((f (i 0) (i 1) : ℝ) : EReal)

theorem X2_Q4 (f : Fin 4096 → Fin 1024 → ℝ) :
    shapeCast S1x4096x8x128 (X2 f) shapeCasts_S4096x1024_S1x4096x8x128 = Q4 fun r g e => f r (col g e) := by
  funext i; idx_vars i
  refine shapeCast_apply _ _ _ (ix2 i1 (col i2 i3)) ?_
  rw [Shape.rowMajor_val_two, Shape.rowMajor_val_four]
  show i1.val * 1024 + (128 * i2.val + i3.val) = ((i0.val * 4096 + i1.val) * 8 + i2.val) * 128 + i3.val
  omega

theorem Q4_X2 (f : Fin 4096 → Fin 8 → Fin 128 → ℝ) :
    shapeCast S4096x1024 (Q4 f) shapeCasts_S1x4096x8x128_S4096x1024 = X2 fun r j => f r (cg j) (ce j) := by
  funext i; idx_vars i
  refine shapeCast_apply _ _ _ (ix4 0 i0 (cg i1) (ce i1)) ?_
  rw [Shape.rowMajor_val_two, Shape.rowMajor_val_four]
  show ((0 * 4096 + i0.val) * 8 + i1.val / 128) * 128 + i1.val % 128 = i0.val * 1024 + i1.val
  omega

theorem Q4_Q5 (f : Fin 4096 → Fin 8 → Fin 128 → ℝ) :
    shapeCast S1x32x128x8x128 (Q4 f) shapeCasts_S1x4096x8x128_S1x32x128x8x128 = Q5 fun n p g e => f (row n p) g e := by
  funext i; idx_vars i
  refine shapeCast_apply _ _ _ (ix4 0 (row i1 i2) i3 i4) ?_
  rw [Shape.rowMajor_val_five, Shape.rowMajor_val_four]
  show ((0 * 4096 + (128 * i1.val + i2.val)) * 8 + i3.val) * 128 + i4.val
    = (((i0.val * 32 + i1.val) * 128 + i2.val) * 8 + i3.val) * 128 + i4.val
  omega

theorem Q5_Q4 (f : Fin 32 → Fin 128 → Fin 8 → Fin 128 → ℝ) :
    shapeCast S1x4096x8x128 (Q5 f) shapeCasts_S1x32x128x8x128_S1x4096x8x128 = Q4 fun r g e => f (rn r) (rp r) g e := by
  funext i; idx_vars i
  refine shapeCast_apply _ _ _ (ix5 0 (rn i1) (rp i1) i2 i3) ?_
  rw [Shape.rowMajor_val_five, Shape.rowMajor_val_four]
  show (((0 * 32 + i1.val / 128) * 128 + i1.val % 128) * 8 + i2.val) * 128 + i3.val
    = ((i0.val * 4096 + i1.val) * 8 + i2.val) * 128 + i3.val
  omega

/-- The arguments' entries as real numbers. -/
structure Inp (x0 : FVec Ideal S4096x3328 .f32) (x2 : FVec Ideal S4096x2048 .f32) (x3 : FVec Ideal S1x1024 .f32)
    (x4 x5 : FVec Ideal S1x8x128 .f32) (x6 : FVec Ideal S1x8x128x128 .f32) (x7 : FVec Ideal S1x8x128 .f32) (D : Dat) : Prop where
  hu : ∀ (r : Fin 4096) (j : Fin 1024), x0 (ix2 r ⟨j.val, by omega⟩) = ((D.u r j : ℝ) : EReal)
  hv : ∀ (r : Fin 4096) (j : Fin 1024), x0 (ix2 r ⟨1024 + j.val, by omega⟩) = ((D.v r j : ℝ) : EReal)
  hd : ∀ (r : Fin 4096) (j : Fin 1024), x2 (ix2 r ⟨j.val, by omega⟩) = ((D.d r j : ℝ) : EReal)
  hga : ∀ j : Fin 1024, x3 (ix2 0 j) = ((D.ga j : ℝ) : EReal)
  hlg : ∀ (g : Fin 8) (e : Fin 128), x4 (ix3 0 g e) = ((D.lg g e : ℝ) : EReal)
  hlb : ∀ (g : Fin 8) (e : Fin 128), x5 (ix3 0 g e) = ((D.lb g e : ℝ) : EReal)
  hw : ∀ (g : Fin 8) (p s : Fin 128), x6 (ix4 0 g p s) = ((D.w g p s : ℝ) : EReal)
  hbs : ∀ (g : Fin 8) (p : Fin 128), x7 (ix3 0 g p) = ((D.bs g p : ℝ) : EReal)

section
variable {x0 : FVec Ideal S4096x3328 .f32} {x2 : FVec Ideal S4096x2048 .f32} {x3 : FVec Ideal S1x1024 .f32}
  {x4 x5 : FVec Ideal S1x8x128 .f32} {x6 : FVec Ideal S1x8x128x128 .f32} {x7 : FVec Ideal S1x8x128 .f32} {D : Dat}
  (H : Inp x0 x2 x3 x4 x5 x6 x7 D)

theorem s10 : val_main_v10 (F := Ideal) = fun _ => ((ca : ℝ) : EReal) := by
  funext i
  pointwise [val_main_v10, val_main_cst, val_main_cst_0]
  rw [w_44715, w_million, div_coe' _ _ (by norm_num)]
  congr 1; unfold ca; norm_num

theorem s32 : val_main_v32 (F := Ideal) = fun _ => ((ca : ℝ) : EReal) := s10

include H

theorem s8 : val_main_v8 (F := Ideal) x0 = Q4 fun r g e => D.u r (col g e) := by
  have h : val_main_v6 (F := Ideal) x0 = X2 D.u := by
    funext i; idx_vars i
    pointwise [val_main_v6, val_main_v0]
    exact H.hu i0 i1
  unfold val_main_v8; rw [h, X2_Q4]

theorem s9 : val_main_v9 (F := Ideal) x0 = Q4 fun r g e => D.v r (col g e) := by
  have h : val_main_v7 (F := Ideal) x0 = X2 D.v := by
    funext i; idx_vars i
    pointwise [val_main_v7, val_main_v0]
    exact H.hv i0 i1
  unfold val_main_v9; rw [h, X2_Q4]

theorem s21 : val_main_v21 (F := Ideal) x0 = Q4 fun r g e => th (D.u r (col g e)) := by
  funext i; idx_vars i
  pointwise [val_main_v21, val_main_v20, val_main_v19, val_main_v18, val_main_v17, val_main_v16, val_main_v12, val_main_v11,
    val_main_cst_2, s8 H, s10]
  pointwise [Q4]
  simp only [w_c, ← EReal.coe_mul, ← EReal.coe_add, Ideal.tanh_coe]
  rfl

theorem s43 : val_main_v43 (F := Ideal) x0 = Q4 fun r g e => th (D.v r (col g e)) := by
  funext i; idx_vars i
  pointwise [val_main_v43, val_main_v42, val_main_v41, val_main_v40, val_main_v39, val_main_v38, val_main_v34, val_main_v33,
    val_main_cst_10, s9 H, s32]
  pointwise [Q4]
  simp only [w_c, ← EReal.coe_mul, ← EReal.coe_add, Ideal.tanh_coe]
  rfl

theorem s30 : val_main_v30 (F := Ideal) x0 = Q4 fun r g e => 1 / 2 * (1 + th (D.u r (col g e))) := by
  funext i; idx_vars i
  pointwise [val_main_v30, val_main_v29, val_main_v28, val_main_v27, val_main_cst_5, val_main_cst_6, s21 H]
  pointwise [Q4]
  simp only [w_half, w_one, one_coe, ← EReal.coe_mul, ← EReal.coe_add]

theorem s52 : val_main_v52 (F := Ideal) x0 = Q4 fun r g e => 1 / 2 * (1 + th (D.v r (col g e))) := by
  funext i; idx_vars i
  pointwise [val_main_v52, val_main_v51, val_main_v50, val_main_v49, val_main_cst_13, val_main_cst_14, s43 H]
  pointwise [Q4]
  simp only [w_half, w_one, one_coe, ← EReal.coe_mul, ← EReal.coe_add]

theorem s31 : val_main_v31 (F := Ideal) x0 = Q4 fun r g e => gelu (D.u r (col g e)) := by
  funext i; idx_vars i
  pointwise [val_main_v31, s8 H, s30 H]
  pointwise [Q4]
  simp only [← EReal.coe_mul, gelu_ref]

theorem s53 : val_main_v53 (F := Ideal) x0 = Q4 D.vg := by
  funext i; idx_vars i
  pointwise [val_main_v53, s9 H, s52 H]
  pointwise [Q4]
  simp only [← EReal.coe_mul, gelu_ref]
  rfl

theorem s59 : val_main_v59 (F := Ideal) x0 = Q4 fun r g e => dev (D.vg r g) e := by
  funext i; idx_vars i
  pointwise [val_main_v59, val_main_v58, val_main_v57, val_main_v56, val_main_v55, val_main_v54, val_main_cst_15, val_main_cst_16, s53 H]
  pointwise [Q4]
  simp only [w_zero, w_128, zero_coe, sum_coe, ← EReal.coe_add, zero_add, div_128, ← EReal.coe_sub]
  rfl

theorem s66 : val_main_v66 (F := Ideal) x0 = K4 fun r g => vari (D.vg r g) := by
  funext i; idx_vars i
  pointwise [val_main_v66, val_main_v65, val_main_v64, val_main_v63, val_main_v62, val_main_v61, val_main_v60, val_main_cst_17,
    val_main_cst_18, val_main_cst_19, s59 H, K4]
  pointwise [Q4]
  simp only [w_zero, w_eps, w_128, zero_coe, ← EReal.coe_mul, sum_coe, ← EReal.coe_add, zero_add, div_128]
  rfl

theorem s67 : val_main_v67 (F := Ideal) x0 = K4 fun r g => rstd (D.vg r g) := by
  funext i; idx_vars i
  pointwise [val_main_v67, s66 H, K4]
  exact rsqrt_pos _ (vari_pos _)

theorem s70 : val_main_v70 (F := Ideal) x0 = K4 fun r g => -(1 / 2) * (rstd (D.vg r g) / vari (D.vg r g)) := by
  funext i; idx_vars i
  pointwise [val_main_v70, val_main_v69, val_main_v68, val_main_cst_20, s66 H, s67 H]
  pointwise [K4]
  rw [div_coe' _ _ (vari_pos _).ne', w_neghalf, ← EReal.coe_mul]

theorem s72 : val_main_v72 (F := Ideal) x0 = Q4 fun r g e => xhat (D.vg r g) e := by
  funext i; idx_vars i
  pointwise [val_main_v72, val_main_v71, s59 H, s67 H]
  pointwise [Q4, K4]
  rw [← EReal.coe_mul]; rfl

theorem s1 : val_main_v1 (F := Ideal) x4 = G2 D.lg := by
  funext i; idx_vars i
  refine (shapeCast_apply _ _ _ (ix3 0 i0 i1) ?_).trans (H.hlg i0 i1)
  rw [Shape.rowMajor_val_two, Shape.rowMajor_val_three]
  show (0 * 8 + i0.val) * 128 + i1.val = i0.val * 128 + i1.val
  omega

theorem s2 : val_main_v2 (F := Ideal) x5 = G2 D.lb := by
  funext i; idx_vars i
  refine (shapeCast_apply _ _ _ (ix3 0 i0 i1) ?_).trans (H.hlb i0 i1)
  rw [Shape.rowMajor_val_two, Shape.rowMajor_val_three]
  show (0 * 8 + i0.val) * 128 + i1.val = i0.val * 128 + i1.val
  omega

theorem s4 : val_main_v4 (F := Ideal) x7 = G2 D.bs := by
  funext i; idx_vars i
  refine (shapeCast_apply _ _ _ (ix3 0 i0 i1) ?_).trans (H.hbs i0 i1)
  rw [Shape.rowMajor_val_two, Shape.rowMajor_val_three]
  show (0 * 8 + i0.val) * 128 + i1.val = i0.val * 128 + i1.val
  omega

theorem s3 : val_main_v3 (F := Ideal) x6 = W3 D.w := by
  funext i; idx_vars i
  refine (shapeCast_apply _ _ _ (ix4 0 i0 i1 i2) ?_).trans (H.hw i0 i1 i2)
  rw [Shape.rowMajor_val_three, Shape.rowMajor_val_four]
  show ((0 * 8 + i0.val) * 128 + i1.val) * 128 + i2.val = (i0.val * 128 + i1.val) * 128 + i2.val
  omega

theorem s79 : val_main_v79 (F := Ideal) x0 x4 x5 = Q5 fun n p g e => D.vl (row n p) g e := by
  have h : val_main_v78 (F := Ideal) x0 x4 x5 = Q4 D.vl := by
    funext i; idx_vars i
    pointwise [val_main_v78, val_main_v77, val_main_v76, val_main_v75, val_main_v74, val_main_v73, s72 H, s1 H, s2 H]
    pointwise [Q4, G2]
    simp only [← EReal.coe_mul, ← EReal.coe_add]
    rfl
  unfold val_main_v79; rw [h, Q4_Q5]

omit H in
theorem mask_at (g : Fin 8) (p s : Fin 128) :
    (val_main_v84_1 (F := Ideal) (ix3 g p s : S8x128x128.Idx) : BitVec 1) = if s ≤ p then 1#1 else 0#1 := by
  pointwise [val_main_v84_1, val_main_v82, val_main_v81, val_main_v80, val_main_c, val_main_call0_v0, val_main_call0_c, val_main_call0_v1,
    val_main_call0_v2, val_main_call0_v3, val_main_call0_v4, val_main_call0_c_0, val_main_call0_v5]
  have hp := p.isLt
  have hs := s.isLt
  simp (disch := omega) only [IntOp.addi, BitVec.add_zero, hlo_ix, Fin.le_def]

theorem s84 : val_main_v84_0 (F := Ideal) x6 = W3 D.wc := by
  funext i; idx_vars i
  pointwise [val_main_v84_0, val_main_v83, val_main_cst_21, s3 H]
  pointwise [W3]
  rw [mask_at]
  by_cases h : i2 ≤ i1
  · simp only [h, if_true, Dat.wc]; rfl
  · simp only [h, if_false, Dat.wc, w_zero]; rfl

theorem s91 : val_main_v91 (F := Ideal) x0 x4 x5 x6 x7 = Q4 D.mx := by
  have h : val_main_v90 (F := Ideal) x0 x4 x5 x6 x7
      = Q5 fun n p g e => ∑ s, D.wc g p s * D.vl (row n s) g e + D.bs g p := by
    funext i; idx_vars i
    pointwise [val_main_v90, val_main_v89, val_main_v88, val_main_v87, val_main_v86, val_main_v85, s79 H, s84 H, s4 H]
    pointwise [Q5, W3, G2]
    simp only [mul_comm, ← EReal.coe_mul, sum_coe, ← EReal.coe_add]
  unfold val_main_v91; rw [h, Q5_Q4]; rfl

theorem s93 : val_main_v93 (F := Ideal) x0 x4 x5 x6 x7 = X2 D.a := by
  have h : val_main_v92 (F := Ideal) x0 x4 x5 x6 x7
      = Q4 fun r g e => gelu (D.u r (col g e)) * D.mx r g e := by
    funext i; idx_vars i
    pointwise [val_main_v92, s31 H, s91 H]
    pointwise [Q4]
    rw [← EReal.coe_mul]
  unfold val_main_v93; rw [h, Q4_X2]; funext i; idx_vars i
  show ((gelu (D.u i0 (col (cg i1) (ce i1))) * D.mx i0 (cg i1) (ce i1) : ℝ) : EReal) = _
  rw [col_cg]; rfl

end

end Cert.ReferenceIdeal.Words

end
-- ==== Proof.Ref2.lean ====
/- The reference's stages on arrays of real numbers, second half: from the gradient of the normalised gating back to the
   gradients of the projection, the gains, the biases and the mixing matrices. -/
module

public import proofs.«01_k».proof.Proof.Ref1

@[expose] public section

set_option maxRecDepth 16384

noncomputable section

namespace Cert.ReferenceIdeal.Words

open Idealize.ShloMosaic Idealize.ShloMosaic.TcCoe Idealize.SL.Sem
open Cert.ReferenceIdeal Cert.ReferenceIdeal.Gen Cert.ReferenceIdeal.Read Gmlp

/-- The one entry of an array without axes. -/
abbrev one_ : 0 < S_.numel := Gen.h_S_

/-- The host's sum over some axes, at a result index whose fibre is the image of an injective function. -/
theorem reduce_over {s t : Shape} {axes : List (Fin s.rank)} {κ : Type} [Fintype κ] (x : FVec Ideal s .f32)
    (init : FVec Ideal S_ .f32) (h : s.ReducesTo axes t) (hu : 0 < S_.numel) (j : t.Idx) (g : κ → s.Idx)
    (hg : Function.Injective g) (hp : ∀ i, h.drop i = j ↔ ∃ k, g k = i) (hi : ∀ k, init k = ((0 : ℝ) : EReal)) :
    Host.reduceAdd x init h hu j = ∑ k, x (g k) := by
  show Ideal.hostReduceAdd h x _ j = _
  unfold Ideal.hostReduceAdd
  rw [hi, Finset.sum_filter_eq_sum_of_fiber _ g hg hp, EReal.coe_zero, zero_add]

/-- The sum over the two unit axes around row and group. -/
theorem K4_sum (f : Fin 4096 → Fin 8 → ℝ) (init : FVec Ideal S_ .f32) (hi : ∀ k, init k = ((0 : ℝ) : EReal))
    (r : Fin 4096) (g : Fin 8) :
    Host.reduceAdd (K4 f) init Gen.reducesTo_S1x4096x8x1_S4096x8_d0_3 one_ (ix2 r g) = ((f r g : ℝ) : EReal) := by
  rw [reduce_over (κ := Unit) _ _ _ _ _ (fun _ => ix4 0 r g 0) (fun _ _ _ => rfl) ?_ hi]
  · simp only [Finset.univ_unique, Finset.sum_singleton]; rfl
  · intro i
    constructor
    · intro e
      refine ⟨(), ?_⟩
      funext a; apply Fin.ext
      match a with
      | ⟨0, _⟩ => exact (show (0 : ℕ) = (i 0).val by have : (i 0).val < 1 := (i 0).isLt; omega)
      | ⟨1, _⟩ => exact (congrArg Fin.val (congrFun e ⟨0, by decide⟩)).symm
      | ⟨2, _⟩ => exact (congrArg Fin.val (congrFun e ⟨1, by decide⟩)).symm
      | ⟨3, _⟩ => exact (show (0 : ℕ) = (i 3).val by have : (i 3).val < 1 := (i 3).isLt; omega)
    · rintro ⟨k, rfl⟩
      funext b; apply Fin.ext
      match b with
      | ⟨0, _⟩ => rfl
      | ⟨1, _⟩ => rfl

/-- The sum over the two unit axes before group and lane. -/
theorem G2_sum (x : FVec Ideal S1x1x8x128 .f32) (init : FVec Ideal S_ .f32) (hi : ∀ k, init k = ((0 : ℝ) : EReal))
    (g : Fin 8) (e : Fin 128) :
    Host.reduceAdd x init Gen.reducesTo_S1x1x8x128_S8x128_d0_1 one_ (ix2 g e) = x (ix4 0 0 g e) := by
  rw [reduce_over (κ := Unit) _ _ _ _ _ (fun _ => ix4 0 0 g e) (fun _ _ _ => rfl) ?_ hi]
  · simp only [Finset.univ_unique, Finset.sum_singleton]
  · intro i
    constructor
    · intro e
      refine ⟨(), ?_⟩
      funext a; apply Fin.ext
      match a with
      | ⟨0, _⟩ => exact (show (0 : ℕ) = (i 0).val by have : (i 0).val < 1 := (i 0).isLt; omega)
      | ⟨1, _⟩ => exact (show (0 : ℕ) = (i 1).val by have : (i 1).val < 1 := (i 1).isLt; omega)
      | ⟨2, _⟩ => exact (congrArg Fin.val (congrFun e ⟨0, by decide⟩)).symm
      | ⟨3, _⟩ => exact (congrArg Fin.val (congrFun e ⟨1, by decide⟩)).symm
    · rintro ⟨k, rfl⟩
      funext b; apply Fin.ext
      match b with
      | ⟨0, _⟩ => rfl
      | ⟨1, _⟩ => rfl

/-- The sum over the unit axes around place and group. -/
theorem B2_sum (x : FVec Ideal S1x1x128x8x1 .f32) (init : FVec Ideal S_ .f32) (hi : ∀ k, init k = ((0 : ℝ) : EReal))
    (p : Fin 128) (g : Fin 8) :
    Host.reduceAdd x init Gen.reducesTo_S1x1x128x8x1_S128x8_d0_1_4 one_ (ix2 p g) = x (ix5 0 0 p g 0) := by
  rw [reduce_over (κ := Unit) _ _ _ _ _ (fun _ => ix5 0 0 p g 0) (fun _ _ _ => rfl) ?_ hi]
  · simp only [Finset.univ_unique, Finset.sum_singleton]
  · intro i
    constructor
    · intro e
      refine ⟨(), ?_⟩
      funext a; apply Fin.ext
      match a with
      | ⟨0, _⟩ => exact (show (0 : ℕ) = (i 0).val by have : (i 0).val < 1 := (i 0).isLt; omega)
      | ⟨1, _⟩ => exact (show (0 : ℕ) = (i 1).val by have : (i 1).val < 1 := (i 1).isLt; omega)
      | ⟨2, _⟩ => exact (congrArg Fin.val (congrFun e ⟨0, by decide⟩)).symm
      | ⟨3, _⟩ => exact (congrArg Fin.val (congrFun e ⟨1, by decide⟩)).symm
      | ⟨4, _⟩ => exact (show (0 : ℕ) = (i 4).val by have : (i 4).val < 1 := (i 4).isLt; omega)
    · rintro ⟨k, rfl⟩
      funext b; apply Fin.ext
      match b with
      | ⟨0, _⟩ => rfl
      | ⟨1, _⟩ => rfl

/-- The sum over chunks and lanes. -/
theorem Q5_sum (f : Fin 32 → Fin 128 → Fin 8 → Fin 128 → ℝ) (init : FVec Ideal S_ .f32) (hi : ∀ k, init k = ((0 : ℝ) : EReal))
    (p : Fin 128) (g : Fin 8) :
    Host.reduceAdd (Q5 f) init Gen.reducesTo_S1x32x128x8x128_S1x128x8_d1_4 one_ (ix3 0 p g)
      = ((∑ n, ∑ e, f n p g e : ℝ) : EReal) := by
  rw [reduce_over (κ := Fin 32 × Fin 128) _ _ _ _ _ (fun k => (ix5 0 k.1 p g k.2 : S1x32x128x8x128.Idx))
    (fun k l e => Prod.ext (show k.1 = l.1 from congrFun e (1 : Fin 5)) (show k.2 = l.2 from congrFun e (4 : Fin 5))) ?_ hi]
  · rw [Fintype.sum_prod_type]
    simp only [← sum_coe]; rfl
  · intro i
    constructor
    · intro e
      refine ⟨(i 1, i 4), ?_⟩
      funext a; apply Fin.ext
      match a with
      | ⟨0, _⟩ => exact (show (0 : ℕ) = (i 0).val by have : (i 0).val < 1 := (i 0).isLt; omega)
      | ⟨1, _⟩ => rfl
      | ⟨2, _⟩ => exact (congrArg Fin.val (congrFun e ⟨1, by decide⟩)).symm
      | ⟨3, _⟩ => exact (congrArg Fin.val (congrFun e ⟨2, by decide⟩)).symm
      | ⟨4, _⟩ => rfl
    · rintro ⟨k, rfl⟩
      funext b; apply Fin.ext
      match b with
      | ⟨0, _⟩ => rfl
      | ⟨1, _⟩ => rfl
      | ⟨2, _⟩ => rfl

/-- The dimension numbers of the mixing matrix's gradient. -/
abbrev Ddw : DotDims S8x1x32x128x128 S1x32x128x8x128 S8x128x128 := dot_S8x1x32x128x128_S1x32x128x8x128_S8x128x128_123_014_4_2_0_3

/-- Its contraction runs over chunk and lane. -/
def contr3 : Ddw.contr.Idx ≃ Fin 32 × Fin 128 where
  toFun q := (⟨(q ⟨1, by decide⟩).val, (q ⟨1, by decide⟩).isLt⟩, ⟨(q ⟨2, by decide⟩).val, (q ⟨2, by decide⟩).isLt⟩)
  invFun k := fun (a : Fin 3) => match a with
    | ⟨0, _⟩ => ⟨0, Nat.one_pos⟩
    | ⟨1, _⟩ => ⟨k.1.val, k.1.isLt⟩
    | ⟨2, _⟩ => ⟨k.2.val, k.2.isLt⟩
  left_inv q := by
    refine funext fun (a : Fin 3) => Fin.ext ?_
    match a with
    | ⟨0, _⟩ =>
      have h : (q ⟨0, by decide⟩).val < 1 := (q ⟨0, by decide⟩).isLt
      exact (show (0 : ℕ) = (q ⟨0, by decide⟩).val by omega)
    | ⟨1, _⟩ => rfl
    | ⟨2, _⟩ => rfl
  right_inv _ := rfl

/-- The mixing matrix's gradient before the causal mask: a sum over chunks and lanes. -/
theorem dw_sum (L : FVec Ideal S8x1x32x128x128 .f32) (R : FVec Ideal S1x32x128x8x128 .f32) (g : Fin 8) (p s : Fin 128) :
    Host.dotGeneral Ddw none L R (ix3 g p s : S8x128x128.Idx) = ∑ n, ∑ e, L (ix5 g 0 n e p) * R (ix5 0 n s g e) := by
  simp only [Host.dotGeneral]
  rw [Ideal.dotGeneral_apply, ← Equiv.sum_comp contr3.symm, Fintype.sum_prod_type]
  refine Finset.sum_congr rfl fun n _ => Finset.sum_congr rfl fun e _ => ?_
  have el : Ddw.lhsIdx (ix3 g p s : S8x128x128.Idx) (contr3.symm (n, e)) = ix5 g 0 n e p := by
    funext a; apply Fin.ext
    match a with
    | ⟨0, _⟩ => rfl
    | ⟨1, _⟩ => rfl
    | ⟨2, _⟩ => rfl
    | ⟨3, _⟩ => rfl
    | ⟨4, _⟩ => rfl
  have er : Ddw.rhsIdx (ix3 g p s : S8x128x128.Idx) (contr3.symm (n, e)) = ix5 0 n s g e := by
    funext a; apply Fin.ext
    match a with
    | ⟨0, _⟩ => rfl
    | ⟨1, _⟩ => rfl
    | ⟨2, _⟩ => rfl
    | ⟨3, _⟩ => rfl
    | ⟨4, _⟩ => rfl
  rw [el, er]

section
variable {x0 : FVec Ideal S4096x3328 .f32} {x2 : FVec Ideal S4096x2048 .f32} {x3 : FVec Ideal S1x1024 .f32}
  {x4 x5 : FVec Ideal S1x8x128 .f32} {x6 : FVec Ideal S1x8x128x128 .f32} {x7 : FVec Ideal S1x8x128 .f32} {D : Dat}
  (H : Inp x0 x2 x3 x4 x5 x6 x7 D)
include H

theorem s100 : val_main_v100 (F := Ideal) x0 x4 x5 x6 x7 = K2 fun r => msq (D.a r) := by
  funext i; idx_vars i
  pointwise [val_main_v100, val_main_v99, val_main_v98, val_main_v97, val_main_v96, val_main_v95, val_main_v94, val_main_cst_22,
    val_main_cst_23, val_main_cst_24, s93 H, K2]
  pointwise [X2]
  simp only [w_zero, w_eps, w_1024, zero_coe, ← EReal.coe_mul, sum_coe, ← EReal.coe_add, zero_add, div_1024]
  rfl

theorem s101 : val_main_v101 (F := Ideal) x0 x4 x5 x6 x7 = K2 fun r => rrms (D.a r) := by
  funext i; idx_vars i
  pointwise [val_main_v101, s100 H, K2]
  exact rsqrt_pos _ (msq_pos _)

theorem s104 : val_main_v104 (F := Ideal) x0 x4 x5 x6 x7 = K2 fun r => -(1 / 2) * (rrms (D.a r) / msq (D.a r)) := by
  funext i; idx_vars i
  pointwise [val_main_v104, val_main_v103, val_main_v102, val_main_cst_25, s100 H, s101 H]
  pointwise [K2]
  rw [div_coe' _ _ (msq_pos _).ne', w_neghalf, ← EReal.coe_mul]

theorem s110 : val_main_v110 (F := Ideal) x2 = X2 D.d := by
  funext i; idx_vars i
  pointwise [val_main_v110]
  exact H.hd i0 i1

theorem s209 (j : Fin 1024) :
    val_main_v209 (F := Ideal) x0 x2 x4 x5 x6 x7 (ix2 0 j : S1x1024.Idx) = ((∑ n, D.dgaC n j : ℝ) : EReal) := by
  pointwise [val_main_v209, val_main_v116, val_main_v113, val_main_v112, val_main_v111, val_main_v106, val_main_v105,
    val_main_cst_26, val_main_cst_27, s93 H, s101 H, s110 H]
  pointwise [X2, K2]
  simp only [w_zero, zero_coe, ← EReal.coe_mul, sum_coe, ← EReal.coe_add, zero_add, Finset.univ_unique, Finset.sum_singleton]
  rw [sum_rows]
  simp only [Dat.dgaC, mul_comm]

theorem s115 : val_main_v115 (F := Ideal) x2 x3 = X2 fun r j => D.d r j * D.ga j := by
  have h : val_main_v107 (F := Ideal) x3 = fun i => ((D.ga (i 1) : ℝ) : EReal) := by
    funext i; idx_vars i
    pointwise [val_main_v107, val_main_v5]
    exact H.hga i1
  funext i; idx_vars i
  pointwise [val_main_v115, val_main_v114, s110 H, h]
  pointwise [X2]
  rw [← EReal.coe_mul]

theorem s124 : val_main_v124 (F := Ideal) x0 x2 x3 x4 x5 x6 x7
    = K2 fun r => (∑ k, D.a r k * (D.d r k * D.ga k)) * (-(1 / 2) * (rrms (D.a r) / msq (D.a r))) / 1024 := by
  funext i; idx_vars i
  pointwise [val_main_v124, val_main_v123, val_main_v122, val_main_v119, val_main_v118, val_main_v117, val_main_cst_28,
    val_main_cst_29, s93 H, s104 H, s115 H, K2]
  pointwise [X2, K2]
  simp only [w_zero, w_1024, zero_coe, ← EReal.coe_mul, sum_coe, ← EReal.coe_add, zero_add, div_1024]

theorem s130 : val_main_v130 (F := Ideal) x0 x2 x3 x4 x5 x6 x7 = X2 D.da := by
  funext i; idx_vars i
  pointwise [val_main_v130, val_main_v129, val_main_v128, val_main_v127, val_main_v126, val_main_v125, val_main_v121, val_main_v120,
    val_main_cst_30, s93 H, s101 H, s115 H, s124 H]
  pointwise [X2, K2]
  simp only [w_zero, zero_coe, ← EReal.coe_mul, sum_coe, ← EReal.coe_add, zero_add, Finset.univ_unique, Finset.sum_singleton]
  exact congrArg _ (rmsB_ref (D.a i0) (fun k => D.d i0 k * D.ga k) i1)

theorem s131 : val_main_v131 (F := Ideal) x0 x2 x3 x4 x5 x6 x7 = Q4 fun r g e => D.da r (col g e) := by
  unfold val_main_v131; rw [s130 H, X2_Q4]

theorem s133 : val_main_v133 (F := Ideal) x0 x2 x3 x4 x5 x6 x7 = Q4 fun r g e => D.dug r (col g e) := by
  funext i; idx_vars i
  pointwise [val_main_v133, s131 H, s91 H]
  pointwise [Q4]
  rw [← EReal.coe_mul]
  simp only [Dat.dug, cg_col, ce_col]

theorem s134 : val_main_v134 (F := Ideal) x0 x2 x3 x4 x5 x6 x7 = Q5 fun n p g e => D.dm (row n p) g e := by
  have h : val_main_v132 (F := Ideal) x0 x2 x3 x4 x5 x6 x7 = Q4 D.dm := by
    funext i; idx_vars i
    pointwise [val_main_v132, s131 H, s31 H]
    pointwise [Q4]
    rw [← EReal.coe_mul, mul_comm]; rfl
  unfold val_main_v134; rw [h, Q4_Q5]

theorem s210 (g : Fin 8) (p : Fin 128) :
    val_main_v210 (F := Ideal) x0 x2 x3 x4 x5 x6 x7 (ix3 g p 0 : S8x128x1.Idx) = ((∑ n, D.dbsC n g p : ℝ) : EReal) := by
  have h135 : ∀ (p : Fin 128) (g : Fin 8), val_main_v135 (F := Ideal) x0 x2 x3 x4 x5 x6 x7 (ix3 0 p g : S1x128x8.Idx)
      = ((∑ n, D.dbsC n g p : ℝ) : EReal) := by
    intro p g
    unfold val_main_v135
    rw [s134 H, Q5_sum _ (val_main_cst_31 (F := Ideal)) fun _ => w_zero]; rfl
  have h137 : ∀ (p : Fin 128) (g : Fin 8), val_main_v137 (F := Ideal) x0 x2 x3 x4 x5 x6 x7 (ix2 p g : S128x8.Idx)
      = ((∑ n, D.dbsC n g p : ℝ) : EReal) := by
    intro p g
    unfold val_main_v137
    rw [B2_sum _ (val_main_cst_32 (F := Ideal)) fun _ => w_zero]
    pointwise [val_main_v136]
    exact h135 p g
  pointwise [val_main_v210, val_main_v138]
  exact h137 p g

theorem s143 (g : Fin 8) (p s : Fin 128) :
    val_main_v143 (F := Ideal) x0 x2 x3 x4 x5 x6 x7 (ix3 g p s : S8x128x128.Idx) = ((∑ n, D.dwC n g p s : ℝ) : EReal) := by
  have h : val_main_v140 (F := Ideal) x0 x2 x3 x4 x5 x6 x7 (ix3 g p s : S8x128x128.Idx)
      = ((∑ n, ∑ e, D.dm (row n p) g e * D.vl (row n s) g e : ℝ) : EReal) := by
    unfold val_main_v140
    rw [dw_sum]
    pointwise [val_main_v139, s134 H, s79 H]
    pointwise [Q5]
    simp only [← EReal.coe_mul, sum_coe]
  pointwise [val_main_v143, val_main_call2_v0, val_main_call2_cst]
  rw [mask_at, h]
  by_cases hsp : s ≤ p
  · simp only [hsp, if_true, Dat.dwC]; rfl
  · simp only [hsp, if_false, Dat.dwC, w_zero, Finset.sum_const_zero]; rfl

theorem s144 : val_main_v144 (F := Ideal) x0 x2 x3 x4 x5 x6 x7 = Q4 D.dvl := by
  have h : val_main_v142 (F := Ideal) x0 x2 x3 x4 x5 x6 x7
      = Q5 fun n s g e => ∑ p, D.wc g p s * D.dm (row n p) g e := by
    funext i; idx_vars i
    pointwise [val_main_v142, val_main_v141, val_main_v139, s134 H, s84 H]
    pointwise [Q5, W3]
    simp only [mul_comm, ← EReal.coe_mul, sum_coe]
  unfold val_main_v144; rw [h, Q5_Q4]; rfl

theorem s147 (g : Fin 8) (e : Fin 128) :
    val_main_v147 (F := Ideal) x0 x2 x3 x4 x5 x6 x7 (ix2 g e : S8x128.Idx) = ((∑ n, D.dlbC n g e : ℝ) : EReal) := by
  unfold val_main_v147
  rw [G2_sum _ (val_main_cst_34 (F := Ideal)) fun _ => w_zero]
  pointwise [val_main_v146, val_main_v145, val_main_cst_33, s144 H]
  pointwise [Q4]
  simp only [w_zero, zero_coe, sum_coe, ← EReal.coe_add, zero_add]
  rw [sum_rows]; rfl

theorem s153 (g : Fin 8) (e : Fin 128) :
    val_main_v153 (F := Ideal) x0 x2 x3 x4 x5 x6 x7 (ix2 g e : S8x128.Idx) = ((∑ n, D.dlgC n g e : ℝ) : EReal) := by
  unfold val_main_v153
  rw [G2_sum _ (val_main_cst_36 (F := Ideal)) fun _ => w_zero]
  pointwise [val_main_v150, val_main_v149, val_main_v148, val_main_cst_35, s144 H, s72 H]
  pointwise [Q4]
  simp only [w_zero, zero_coe, ← EReal.coe_mul, sum_coe, ← EReal.coe_add, zero_add]
  rw [sum_rows]
  simp only [Dat.dlgC, mul_comm]

theorem s152 : val_main_v152 (F := Ideal) x0 x2 x3 x4 x5 x6 x7 = Q4 fun r g e => D.dvl r g e * D.lg g e := by
  funext i; idx_vars i
  pointwise [val_main_v152, val_main_v151, val_main_v73, s144 H, s1 H]
  pointwise [Q4, G2]
  rw [← EReal.coe_mul]

theorem s161 : val_main_v161 (F := Ideal) x0 x2 x3 x4 x5 x6 x7
    = K4 fun r g => (∑ k, dev (D.vg r g) k * (D.dvl r g k * D.lg g k)) * (-(1 / 2) * (rstd (D.vg r g) / vari (D.vg r g))) / 128 := by
  funext i; idx_vars i
  pointwise [val_main_v161, val_main_v160, val_main_v159, val_main_v156, val_main_v155, val_main_v154, val_main_cst_37,
    val_main_cst_38, s59 H, s70 H, s152 H, K4]
  pointwise [Q4, K4]
  simp only [w_zero, w_128, zero_coe, ← EReal.coe_mul, sum_coe, ← EReal.coe_add, zero_add, div_128]

theorem s168 : val_main_v168 (F := Ideal) x0 x2 x3 x4 x5 x6 x7
    = Q4 fun r g e => lnR (D.vg r g) (fun k => D.dvl r g k * D.lg g k) e := by
  have h : ∀ (r : Fin 4096) (g : Fin 8), val_main_v162 (F := Ideal) x0 x2 x3 x4 x5 x6 x7 (ix2 r g : S4096x8.Idx)
      = (((∑ k, dev (D.vg r g) k * (D.dvl r g k * D.lg g k)) * (-(1 / 2) * (rstd (D.vg r g) / vari (D.vg r g))) / 128 : ℝ) : EReal) := by
    intro r g
    unfold val_main_v162
    rw [s161 H, K4_sum _ (val_main_cst_39 (F := Ideal)) fun _ => w_zero]
  funext i; idx_vars i
  pointwise [val_main_v168, val_main_v167, val_main_v166, val_main_v165, val_main_v164, val_main_v163, val_main_v158, val_main_v157,
    s59 H, s67 H, s152 H, h]
  pointwise [Q4, K4]
  simp only [← EReal.coe_mul, ← EReal.coe_add]
  rfl

theorem s177 : val_main_v177 (F := Ideal) x0 x2 x3 x4 x5 x6 x7 = Q4 D.dvg := by
  have h173 : val_main_v173 (F := Ideal) x0 x2 x3 x4 x5 x6 x7
      = K4 fun r g => (∑ k, -(lnR (D.vg r g) (fun k => D.dvl r g k * D.lg g k) k)) / 128 := by
    funext i; idx_vars i
    pointwise [val_main_v173, val_main_v172, val_main_v171, val_main_v170, val_main_v169, val_main_cst_40, val_main_cst_41, s168 H, K4]
    pointwise [Q4]
    simp only [w_zero, w_128, zero_coe, ← EReal.coe_neg, sum_coe, ← EReal.coe_add, zero_add, div_128]
  have h : ∀ (r : Fin 4096) (g : Fin 8), val_main_v174 (F := Ideal) x0 x2 x3 x4 x5 x6 x7 (ix2 r g : S4096x8.Idx)
      = (((∑ k, -(lnR (D.vg r g) (fun k => D.dvl r g k * D.lg g k) k)) / 128 : ℝ) : EReal) := by
    intro r g
    unfold val_main_v174
    rw [h173, K4_sum _ (val_main_cst_42 (F := Ideal)) fun _ => w_zero]
  funext i; idx_vars i
  pointwise [val_main_v177, val_main_v176, val_main_v175, s168 H, h]
  pointwise [Q4]
  rw [← EReal.coe_add]
  exact congrArg _ (lnB_ref _ _ _)

theorem s189 : val_main_v189 (F := Ideal) x0 x2 x3 x4 x5 x6 x7 = Q4 fun r g e => D.dvg r g e * geluD (D.v r (col g e)) := by
  funext i; idx_vars i
  pointwise [val_main_v189, val_main_v188, val_main_v187, val_main_v186, val_main_v185, val_main_v184, val_main_v183, val_main_v182,
    val_main_v181, val_main_v180, val_main_v179, val_main_v178, val_main_v48, val_main_v47, val_main_v46, val_main_v45, val_main_v44,
    val_main_v37, val_main_v36, val_main_v35, val_main_cst_9, val_main_cst_11, val_main_cst_12, val_main_cst_43, val_main_cst_44,
    s9 H, s32, s43 H, s52 H, s177 H]
  pointwise [Q4]
  simp only [w_half, w_c, w_three, w_one, one_coe, ← EReal.coe_mul, ← EReal.coe_add, ← EReal.coe_sub]
  exact congrArg _ (geluD_ref _ _)

theorem s201 : val_main_v201 (F := Ideal) x0 x2 x3 x4 x5 x6 x7 = Q4 fun r g e => D.dug r (col g e) * geluD (D.u r (col g e)) := by
  funext i; idx_vars i
  pointwise [val_main_v201, val_main_v200, val_main_v199, val_main_v198, val_main_v197, val_main_v196, val_main_v195, val_main_v194,
    val_main_v193, val_main_v192, val_main_v191, val_main_v190, val_main_v26, val_main_v25, val_main_v24, val_main_v23, val_main_v22,
    val_main_v15, val_main_v14, val_main_v13, val_main_cst_1, val_main_cst_3, val_main_cst_4, val_main_cst_45, val_main_cst_46,
    s8 H, s10, s21 H, s30 H, s133 H]
  pointwise [Q4]
  simp only [w_half, w_c, w_three, w_one, one_coe, ← EReal.coe_mul, ← EReal.coe_add, ← EReal.coe_sub]
  exact congrArg _ (geluD_ref _ _)

theorem s202 : val_main_v202 (F := Ideal) x0 x2 x3 x4 x5 x6 x7 = X2 D.dv := by
  unfold val_main_v202; rw [s189 H, Q4_X2]
  funext i; idx_vars i
  show ((D.dvg i0 (cg i1) (ce i1) * geluD (D.v i0 (col (cg i1) (ce i1))) : ℝ) : EReal) = _
  rw [col_cg]; rfl

theorem s203 : val_main_v203 (F := Ideal) x0 x2 x3 x4 x5 x6 x7 = X2 D.du := by
  unfold val_main_v203; rw [s201 H, Q4_X2]
  funext i; idx_vars i
  show ((D.dug i0 (col (cg i1) (ce i1)) * geluD (D.u i0 (col (cg i1) (ce i1))) : ℝ) : EReal) = _
  rw [col_cg]; rfl

theorem s207 (r : Fin 4096) (j : Fin 2048) : val_main_v207 (F := Ideal) x0 x2 x3 x4 x5 x6 x7 (ix2 r j : S4096x2048.Idx)
    = ((if h : j.val < 1024 then D.du r ⟨j.val, h⟩ else D.dv r ⟨j.val - 1024, by omega⟩ : ℝ) : EReal) := by
  pointwise [val_main_v207, val_main_v206, val_main_v205, val_main_v204, val_main_cst_47, val_main_cst_48, s202 H, s203 H]
  pointwise [X2]
  by_cases h : j.val < 1024
  · have h' : ¬ 1024 ≤ j.val := by omega
    simp [h, h', w_zero]
  · have h' : 1024 ≤ j.val := by omega
    have h'' : j.val - 1024 < 1024 := by omega
    simp [h, h', h'', w_zero]

end

end Cert.ReferenceIdeal.Words

end
-- ==== Proof.Entry.lean ====
/- The arrays the host prepares for the kernel, read at the memory the program is entered with: with the arguments of
   `Inp`, the windows' arrays are those of `Reads`. -/
module

public import proofs.«01_k».proof.Proof.Arrays
public import proofs.«01_k».proof.Proof.Ref2
public import Idealize.ShloMosaic.Lib.Claim
public import Idealize.ShloMosaic.Lib.StableHlo.RunRead

@[expose] public section

set_option maxRecDepth 16384

noncomputable section

namespace Cert.Entry

open Idealize.ShloMosaic Idealize.ShloMosaic.TcCoe Idealize.SL.Sem
open Cert.KernelIdeal Cert.KernelIdeal.Gen Gmlp

variable (m : (ℓ : Loc nD τ sig) → Buf (Elt Ideal) ℓ) (c : Dev nD)

/-- The reference's gating output, of the kernel's arguments. -/
def gated : FVec Ideal S4096x1024 .f32 :=
  Cert.ReferenceIdeal.Read.val_main_v93 (F := Ideal) (m ((c : Thread nD τ).loc main_arg0)) (m ((c : Thread nD τ).loc main_arg4))
    (m ((c : Thread nD τ).loc main_arg5)) (m ((c : Thread nD τ).loc main_arg6)) (m ((c : Thread nD τ).loc main_arg7))

/-- The projection's first 1024 columns, cut out at once or from the first 2048. -/
theorem slice_u (x : FVec Ideal S4096x3328 .f32) :
    extractStridedSlice S4096x1024 ![0, 0] x slices_S4096x3328_S4096x1024_0_0 = Cert.ReferenceIdeal.Read.val_main_v6 (F := Ideal) x := by
  funext i; idx_vars i
  pointwise [Cert.ReferenceIdeal.Read.val_main_v6, Cert.ReferenceIdeal.Read.val_main_v0]

/-- The projection's next 1024 columns, cut out at once or from the first 2048. -/
theorem slice_v (x : FVec Ideal S4096x3328 .f32) :
    extractStridedSlice S4096x1024 ![0, 1024] x slices_S4096x3328_S4096x1024_0_1024 = Cert.ReferenceIdeal.Read.val_main_v7 (F := Ideal) x := by
  funext i; idx_vars i
  pointwise [Cert.ReferenceIdeal.Read.val_main_v7, Cert.ReferenceIdeal.Read.val_main_v0]

set_option maxHeartbeats 8000000 in
theorem v77 : (V m c main_v77 : FVec Ideal S4096x2048 .f32) =
    concatenate S4096x2048 1 [⟨S4096x1024, gated m c⟩, ⟨S4096x1024, m ((c : Thread nD τ).loc main_arg1)⟩]
      concatenates_S4096x1024_S4096x1024_S4096x2048_d1 := by
  unfold V
  after_reads_simp
  refine congrArg₂ (fun (a b : FVec Ideal S4096x1024 .f32) => concatenate S4096x2048 1 [⟨S4096x1024, a⟩, ⟨S4096x1024, b⟩]
    concatenates_S4096x1024_S4096x1024_S4096x2048_d1) ?_ ?_
  · after_reads_simp
    rw [slice_u, slice_v]
    rfl
  · after_reads_simp

theorem v0 : (V m c main_v0 : FVec Ideal S8x128 .f32) =
    shapeCast _ (m ((c : Thread nD τ).loc main_arg4) : FVec Ideal S1x8x128 .f32) shapeCasts_S1x8x128_S8x128 := by
  unfold V
  after_reads_simp
  rfl

theorem v1 : (V m c main_v1 : FVec Ideal S8x128 .f32) =
    shapeCast _ (m ((c : Thread nD τ).loc main_arg5) : FVec Ideal S1x8x128 .f32) shapeCasts_S1x8x128_S8x128 := by
  unfold V
  after_reads_simp
  rfl

theorem v2 : (V m c main_v2 : FVec Ideal S8x128x128 .f32) =
    shapeCast _ (m ((c : Thread nD τ).loc main_arg6) : FVec Ideal S1x8x128x128 .f32) shapeCasts_S1x8x128x128_S8x128x128 := by
  unfold V
  after_reads_simp
  rfl

theorem v3 : (V m c main_v3 : FVec Ideal S8x128x1 .f32) =
    shapeCast _ (m ((c : Thread nD τ).loc main_arg7) : FVec Ideal S1x8x128 .f32) shapeCasts_S1x8x128_S8x128x1 := by
  unfold V
  after_reads_simp
  rfl

/-- The left half of two arrays side by side is the first one. -/
theorem cat_left (a b : FVec Ideal S4096x1024 .f32) (r : Fin 4096) (j : Fin 1024) :
    concatenate S4096x2048 1 [⟨S4096x1024, a⟩, ⟨S4096x1024, b⟩] concatenates_S4096x1024_S4096x1024_S4096x2048_d1
      (ix2 r ⟨j.val, by omega⟩) = a (ix2 r j) := by
  pointwise

theorem row8 (x : FVec Ideal S1x8x128 .f32) (g : Fin 8) (e : Fin 128) :
    shapeCast S8x128 x shapeCasts_S1x8x128_S8x128 (ix2 g e) = x (ix3 0 g e) := by
  pointwise

theorem mat8 (x : FVec Ideal S1x8x128x128 .f32) (g : Fin 8) (p s : Fin 128) :
    shapeCast S8x128x128 x shapeCasts_S1x8x128x128_S8x128x128 (ix3 g p s) = x (ix4 0 g p s) := by
  pointwise

theorem col8 (x : FVec Ideal S1x8x128 .f32) (g : Fin 8) (p : Fin 128) :
    shapeCast S8x128x1 x shapeCasts_S1x8x128_S8x128x1 (ix3 g p 0) = x (ix3 0 g p) := by
  pointwise

/-- With the reference's arguments, the kernel's windows read the same real arrays. -/
theorem reads {D : Dat} (H : Cert.ReferenceIdeal.Words.Inp (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) D) : Cert.KernelIdeal.Words.Reads m c D where
  hu r j := by rw [V_main_arg0]; exact H.hu r j
  hv r j := by rw [V_main_arg0]; exact H.hv r j
  ha r j := by
    rw [v77, cat_left, gated, Cert.ReferenceIdeal.Words.s93 H]
    rfl
  hd r j := by rw [V_main_arg2]; exact H.hd r j
  hga j := by rw [V_main_arg3]; exact H.hga j
  hlg g e := by rw [v0, row8]; exact H.hlg g e
  hlb g e := by rw [v1, row8]; exact H.hlb g e
  hw g p s := by rw [v2, mat8]; exact H.hw g p s
  hbs g p := by rw [v3, col8]; exact H.hbs g p

end Cert.Entry

end
-- ==== Proof.Pre.lean ====
/- The precondition read: every entry of the seven arrays is a real number, so the arrays are those of some `Gmlp.Dat`. -/
module

public import proofs.«01_k».proof.Pre_finite
public import proofs.«01_k».proof.Proof.Ref1
public import Idealize.ShloMosaic.Lib.Affine
public import Idealize.ShloMosaic.Lib.ReduceAll

@[expose] public section

set_option maxRecDepth 16384

noncomputable section

namespace Cert.Pre_finite

open Idealize.ShloMosaic Gmlp

theorem facts : Facts where
  bcast_S_S4096x3328 := by decide
  reducesTo_S4096x3328_S_d0_1 := by decide
  h_S_ := by decide
  bcast_S_S4096x2048 := by decide
  reducesTo_S4096x2048_S_d0_1 := by decide
  bcast_S_S1x1024 := by decide
  reducesTo_S1x1024_S_d0_1 := by decide
  bcast_S_S1x8x128 := by decide
  reducesTo_S1x8x128_S_d0_1_2 := by decide
  bcast_S_S1x8x128x128 := by decide
  reducesTo_S1x8x128x128_S_d0_1_2_3 := by decide

instance : Subsingleton S_.Idx := ⟨fun i j => funext fun a => a.elim0⟩

/-- An array whose entries are all below +∞ in absolute value, as the test over all of them says, is an array of reals. -/
theorem reals {s : Shape} {axes : List (Fin s.rank)} (x : FVec Ideal s .f32) (b : S_.BroadcastsInDim s ![])
    (h : s.ReducesTo axes S_) (hu : 0 < S_.numel) (z : S_.Idx)
    (e : Host.reduce IntOp.andi (cmpf .olt (Host.absf x) (broadcastInDim s ![] b (constant (F := Ideal) S_ .f32 0x7F800000#32)))
      (constantI S_ 1 1#1) h hu z = 1#1) : ∀ i, x i = (((x i).toReal : ℝ) : EReal) := by
  intro i
  have h1 := Host.reduce_andi_all _ _ h hu z e i
  have h2 : max (x i) (-(x i)) < ⊤ := by
    by_contra hn
    have h3 : (BitVec.ofBool (decide (max (x i) (-(x i)) < Ideal.ofBits .f32 0x7F800000#32)) : BitVec 1) = 1#1 := h1
    rw [w_top, decide_eq_false hn] at h3
    exact absurd h3 (by decide)
  obtain ⟨r, hr⟩ := real_of_abs_lt _ h2
  rw [hr, EReal.toReal_coe]

variable [Facts]

/-- The precondition over seven arrays says each is an array of reals. -/
theorem fn_reals (x0 : FVec Ideal S4096x3328 .f32) (x1 : FVec Ideal S4096x1024 .f32) (x2 : FVec Ideal S4096x2048 .f32)
    (x3 : FVec Ideal S1x1024 .f32) (x4 x5 : FVec Ideal S1x8x128 .f32) (x6 : FVec Ideal S1x8x128x128 .f32) (x7 : FVec Ideal S1x8x128 .f32)
    (e : fn (F := Ideal) x0 x1 x2 x3 x4 x5 x6 x7 = fun _ => 1#1) :
    (∀ i, x0 i = (((x0 i).toReal : ℝ) : EReal)) ∧ (∀ i, x2 i = (((x2 i).toReal : ℝ) : EReal)) ∧
    (∀ i, x3 i = (((x3 i).toReal : ℝ) : EReal)) ∧ (∀ i, x4 i = (((x4 i).toReal : ℝ) : EReal)) ∧
    (∀ i, x5 i = (((x5 i).toReal : ℝ) : EReal)) ∧ (∀ i, x6 i = (((x6 i).toReal : ℝ) : EReal)) ∧
    (∀ i, x7 i = (((x7 i).toReal : ℝ) : EReal)) := by
  have z : S_.Idx := fun a => a.elim0
  have e' := congrFun e z
  dsimp only [fn, fn_part1, fn_part2] at e'
  simp only [andi, IntOp.andi_eq_one] at e'
  obtain ⟨⟨⟨⟨⟨⟨⟨-, h0⟩, h2⟩, h3⟩, h4⟩, h5⟩, h6⟩, h7⟩ := e'
  exact ⟨reals x0 _ _ _ z h0, reals x2 _ _ _ z h2, reals x3 _ _ _ z h3, reals x4 _ _ _ z h4, reals x5 _ _ _ z h5,
    reals x6 _ _ _ z h6, reals x7 _ _ _ z h7⟩

/-- The real arrays of seven arrays. -/
def dat (x0 : FVec Ideal S4096x3328 .f32) (x2 : FVec Ideal S4096x2048 .f32)
    (x3 : FVec Ideal S1x1024 .f32) (x4 x5 : FVec Ideal S1x8x128 .f32) (x6 : FVec Ideal S1x8x128x128 .f32) (x7 : FVec Ideal S1x8x128 .f32) : Dat where
  u r j := (x0 (ix2 r ⟨j.val, by omega⟩)).toReal
  v r j := (x0 (ix2 r ⟨1024 + j.val, by omega⟩)).toReal
  d r j := (x2 (ix2 r ⟨j.val, by omega⟩)).toReal
  ga j := (x3 (ix2 0 j)).toReal
  lg g e := (x4 (ix3 0 g e)).toReal
  lb g e := (x5 (ix3 0 g e)).toReal
  w g p s := (x6 (ix4 0 g p s)).toReal
  bs g p := (x7 (ix3 0 g p)).toReal

theorem inp (x0 : FVec Ideal S4096x3328 .f32) (x1 : FVec Ideal S4096x1024 .f32) (x2 : FVec Ideal S4096x2048 .f32)
    (x3 : FVec Ideal S1x1024 .f32) (x4 x5 : FVec Ideal S1x8x128 .f32) (x6 : FVec Ideal S1x8x128x128 .f32) (x7 : FVec Ideal S1x8x128 .f32)
    (e : fn (F := Ideal) x0 x1 x2 x3 x4 x5 x6 x7 = fun _ => 1#1) :
    Cert.ReferenceIdeal.Words.Inp x0 x2 x3 x4 x5 x6 x7 (dat x0 x2 x3 x4 x5 x6 x7) := by
  obtain ⟨h0, h2, h3, h4, h5, h6, h7⟩ := fn_reals x0 x1 x2 x3 x4 x5 x6 x7 e
  exact ⟨fun _ _ => h0 _, fun _ _ => h0 _, fun _ _ => h2 _, fun _ => h3 _, fun _ _ => h4 _, fun _ _ => h5 _,
    fun _ _ _ => h6 _, fun _ _ => h7 _⟩

end Cert.Pre_finite

end
-- ==== Proof.Meet.lean ====
/- Result by result: the array the reference leaves is the array the kernel's window has covered. -/
module

public import proofs.«01_k».proof.Proof.Entry
public import proofs.«01_k».proof.Proof.Pre

@[expose] public section

set_option maxRecDepth 16384

noncomputable section

namespace Cert.Meet

open Idealize.ShloMosaic Idealize.ShloMosaic.TcCoe Idealize.SL.Sem
open Cert.KernelIdeal Cert.KernelIdeal.Gen Gmlp Cert.KernelIdeal.Words
open Cert.ReferenceIdeal.Read
open Cert.ReferenceIdeal.Words (Inp s207 s209 s143 s210 s153 s147)

variable {m : (ℓ : Loc nD τ sig) → Buf (Elt Ideal) ℓ} {c : Dev nD} {D : Dat}
variable {x0 : FVec Ideal S4096x3328 .f32} {x2 : FVec Ideal S4096x2048 .f32} {x3 : FVec Ideal S1x1024 .f32}
  {x4 x5 : FVec Ideal S1x8x128 .f32} {x6 : FVec Ideal S1x8x128x128 .f32} {x7 : FVec Ideal S1x8x128 .f32}
  (H : Inp x0 x2 x3 x4 x5 x6 x7 D) (R : Reads m c D)
include H R

theorem duv : (val_main_v207 (F := Ideal) x0 x2 x3 x4 x5 x6 x7 : FVec Ideal S4096x2048 .bf16) = (dats m 0 c).arrAt 9 (cfgs 0).N := by
  rw [final9 m R]; funext i; idx_vars i
  exact s207 H _ _

theorem duvT : (val_main_v208 (F := Ideal) x0 x2 x3 x4 x5 x6 x7 : FVec Ideal S2048x4096 .bf16) = (dats m 0 c).arrAt 10 (cfgs 0).N := by
  rw [final10 m R]; funext i; idx_vars i
  pointwise [val_main_v208]
  exact s207 H _ _

theorem dga : (val_main_v209 (F := Ideal) x0 x2 x4 x5 x6 x7 : FVec Ideal S1x1024 .f32) = (dats m 0 c).arrAt 11 (cfgs 0).N := by
  rw [final11 m R]; funext i
  obtain ⟨j, rfl⟩ : ∃ j : Fin 1024, i = ix2 0 j := ⟨i 1, by
    funext a
    match a with
    | ⟨0, _⟩ => exact Subsingleton.elim (α := Fin 1) _ _
    | ⟨1, _⟩ => rfl⟩
  exact s209 H j

theorem dw : (val_main_v143 (F := Ideal) x0 x2 x3 x4 x5 x6 x7 : FVec Ideal S8x128x128 .f32) = (dats m 0 c).arrAt 12 (cfgs 0).N := by
  rw [final12 m R]; funext i; idx_vars i
  exact s143 H _ _ _

theorem dbs : (val_main_v210 (F := Ideal) x0 x2 x3 x4 x5 x6 x7 : FVec Ideal S8x128x1 .f32) = (dats m 0 c).arrAt 13 (cfgs 0).N := by
  rw [final13 m R]; funext i
  obtain ⟨g, p, rfl⟩ : ∃ (g : Fin 8) (p : Fin 128), i = ix3 g p 0 := ⟨i 0, i 1, by
    funext a
    match a with
    | ⟨0, _⟩ => rfl
    | ⟨1, _⟩ => rfl
    | ⟨2, _⟩ => exact Subsingleton.elim (α := Fin 1) _ _⟩
  exact s210 H g p

theorem dlg : (val_main_v153 (F := Ideal) x0 x2 x3 x4 x5 x6 x7 : FVec Ideal S8x128 .f32) = (dats m 0 c).arrAt 14 (cfgs 0).N := by
  rw [final14 m R]; funext i; idx_vars i
  exact s153 H _ _

theorem dlb : (val_main_v147 (F := Ideal) x0 x2 x3 x4 x5 x6 x7 : FVec Ideal S8x128 .f32) = (dats m 0 c).arrAt 15 (cfgs 0).N := by
  rw [final15 m R]; funext i; idx_vars i
  exact s147 H _ _

end Cert.Meet

end
-- ==== Proof.Splits.lean ====
/- Sums over a long axis read as sums over its blocks. -/
module

public import Idealize.ShloMosaic.Lib.Pipeline.ValueKit

@[expose] public section

set_option maxRecDepth 16384

namespace Cert.Splits

/-- A sum over 8192 positions is the sum over its first half and the sum over its second. -/
theorem halves (f : Fin 8192 → EReal) :
    ∑ k, f k = (∑ k : Fin 4096, f ⟨k.val, by omega⟩) + ∑ k : Fin 4096, f ⟨4096 + k.val, by omega⟩ :=
  Fin.sum_univ_add (a := 4096) (b := 4096) f

/-- A sum over 4096 positions is the sum over its first half and the sum over its second. -/
theorem quarters (f : Fin 4096 → EReal) :
    ∑ k, f k = (∑ k : Fin 2048, f ⟨k.val, by omega⟩) + ∑ k : Fin 2048, f ⟨2048 + k.val, by omega⟩ :=
  Fin.sum_univ_add (a := 2048) (b := 2048) f

/-- A sum over 4096 positions is the sum over four blocks of 1024. -/
theorem blocks (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_add (a := 3072) (b := 1024) f, Fin.sum_univ_add (a := 2048) (b := 1024) _, Fin.sum_univ_add (a := 1024) (b := 1024) _]
  rfl

/-- The rows of two stacks of four blocks each, taken block by block from both stacks. -/
theorem pairs (a b : Fin 4096 → EReal) :
    (∑ k, a k) + ∑ k, b k =
      ((∑ k : Fin 1024, a ⟨k.val, by omega⟩) + ∑ k : Fin 1024, b ⟨k.val, by omega⟩)
      + ((∑ k : Fin 1024, a ⟨1024 + k.val, by omega⟩) + ∑ k : Fin 1024, b ⟨1024 + k.val, by omega⟩)
      + ((∑ k : Fin 1024, a ⟨2048 + k.val, by omega⟩) + ∑ k : Fin 1024, b ⟨2048 + k.val, by omega⟩)
      + ((∑ k : Fin 1024, a ⟨3072 + k.val, by omega⟩) + ∑ k : Fin 1024, b ⟨3072 + k.val, by omega⟩) := by
  rw [blocks a, blocks b]
  ac_rfl

/-- A sum over 3328 positions is the sum over its first 2048, its next 1024 and its last 256. -/
theorem parts (f : Fin 3328 → EReal) :
    ∑ k, f k = (∑ k : Fin 2048, f ⟨k.val, by omega⟩) + (∑ k : Fin 1024, f ⟨2048 + k.val, by omega⟩) + ∑ k : Fin 256, f ⟨3072 + k.val, by omega⟩ := by
  rw [Fin.sum_univ_add (a := 3072) (b := 256) f, Fin.sum_univ_add (a := 2048) (b := 1024) _]
  rfl

/-- An accumulator that starts anew at every fourth step holds, after the last of four, what the four added. -/
theorem four {N : ℕ} {o p : ∀ n, n < N → EReal} (first : ∀ n h, n % 4 = 0 → o n h = p n h)
    (next : ∀ n h, ¬ n % 4 = 0 → o n h = o (n - 1) (Nat.lt_of_le_of_lt (Nat.sub_le _ _) h) + p n h) (n : ℕ) (h : n < N) (e : n % 4 = 3) :
    o n h = p (n - 1 - 1 - 1) (by omega) + p (n - 1 - 1) (by omega) + p (n - 1) (by omega) + p n h := by
  rw [next n h (by omega), next (n - 1) _ (by omega), next (n - 1 - 1) _ (by omega), first (n - 1 - 1 - 1) _ (by omega)]

end Cert.Splits
-- ==== Proof.DownVal.lean ====
/- The last product of the block with its residual: the contraction runs in two halves, the first added to the residual, the
   second to what the first left. -/
module

public import proofs.«01_k».proof.Proof.Gen.DownIdeal.Value
public import proofs.«01_k».proof.Proof.Gen.DownRefIdeal.Read
public import proofs.«01_k».proof.Proof.Splits
public import Idealize.ShloMosaic.Lib.Pipeline.ValueKit
public import Idealize.ShloMosaic.Lib.Claim
public import Idealize.ShloMosaic.Lib.StableHlo.RunRead

@[expose] public section

set_option maxRecDepth 16384

noncomputable section

namespace Cert.DownIdeal.Words

open Idealize.ShloMosaic Idealize.ShloMosaic.TcCoe Idealize.SL.Sem
open Cert.DownIdeal Cert.DownIdeal.Gen
open Facts

variable (m : (ℓ : Loc nD τ sig) → Buf (Elt Ideal) ℓ) (c : Dev nD)

theorem idxs : ∀ t : Fin cfg0.N, win0_0.index t = ![t.val / 4, t.val % 2] ∧ win0_1.index t = ![t.val % 2, t.val / 2 % 2] ∧
    win0_2.index t = ![t.val / 4, t.val / 2 % 2] ∧ win0_3.index t = ![t.val / 4, t.val / 2 % 2] :=
  (by decide +kernel : ∀ t : Fin grid0.N, _)

/-- The product of one pair of blocks. -/
theorem part (x0 : FVec Ideal S1024x4096 .bf16) (x1 : FVec Ideal S4096x1024 .bf16) (j : S1024x1024.Idx) :
    (k0_pay1 x0 x1 : FVec Ideal S1024x1024 .f32) j = ∑ k : Fin 4096, x0 (ix2 (j 0) k) * x1 (ix2 k (j 1)) := by
  pointwise [k0_pay1]

theorem point_A (t : Fin cfg0.N) (h : t.val % 2 = 0) (j : S1024x1024.Idx) : outsAt0 m c t.val t.isLt j =
    (show FVec Ideal S1024x1024 .f32 from iblk m c 2 t) j + (k0_pay1 (iblk m c 0 t) (iblk m c 1 t) : FVec Ideal S1024x1024 .f32) j := by
  rw [outsAt0_A m c t h (by omega)]
  frame_out
  rfl

theorem point_B (t : Fin cfg0.N) (h : t.val % 2 = 1) (j : S1024x1024.Idx) : outsAt0 m c t.val t.isLt j =
    (show FVec Ideal S1024x1024 .f32 from outsAt0 m c (t.val - 1) (Nat.lt_of_le_of_lt (Nat.sub_le _ _) t.isLt)) j + (k0_pay1 (iblk m c 0 t) (iblk m c 1 t) : FVec Ideal S1024x1024 .f32) j := by
  rw [outsAt0_B m c t (by omega) h]
  frame_out
  pointwise [k0_pay3]

/-- The residual and the product over the whole contraction. -/
def total (z : FVec Ideal S4096x8192 .bf16) (w : FVec Ideal S8192x2048 .bf16) (r : FVec Ideal S4096x2048 .f32) : FVec Ideal S4096x2048 .f32 := fun i =>
  r i + ∑ k : Fin 8192, z (ix2 (i 0) k) * w (ix2 k (i 1))

theorem final3 : (dats m 0 c).arrAt 3 (cfgs 0).N = total (V m c main_v0) (V m c main_v2) (V m c main_arg2) := by
  refine (dats m 0 c).arrAt_eq_of_covers 3 _ (by decide +kernel) fun t hf y => ?_
  have h := (flush0_3 t).mp hf
  have hp : t.val - 1 < cfg0.N := Nat.lt_of_le_of_lt (Nat.sub_le _ _) t.isLt
  blk_simp
  rw [after0_3]
  refine (point_B m c t h y).trans ?_
  refine (congrArg (· + _) (point_A m c ⟨t.val - 1, hp⟩ (by show (t.val - 1) % 2 = 0; omega) y)).trans ?_
  rw [part, part]
  unfold total
  rw [Splits.halves, ← add_assoc]
  blk_point [iblk, idxs t, idxs ⟨t.val - 1, hp⟩]

theorem V_v0 : V m c main_v0 = (m ((c : Thread nD τ).loc main_arg0) : FVec Ideal S4096x8192 .f32) := by
  unfold V; after_reads_simp
  rfl
theorem V_v2 : V m c main_v2 = (fun i => (m ((c : Thread nD τ).loc main_arg1) : FVec Ideal S1x8192x2048 .f32) (ix3 0 (i 0) (i 1)) : FVec Ideal S8192x2048 .bf16) := by
  unfold V; after_reads_simp
  funext i
  pointwise

open Cert.DownRefIdeal.Read in
/-- The result array is the reference's. -/
theorem value : (dats m 0 c).arrAt 3 (cfgs 0).N = val_main_v2 (F := Ideal) (m ((c : Thread nD τ).loc main_arg0))
    (m ((c : Thread nD τ).loc main_arg1)) (m ((c : Thread nD τ).loc main_arg2)) := by
  rw [final3, V_v0, V_v2, V_main_arg2]
  funext i
  pointwise [total, val_main_v2, val_main_v1, val_main_v0]

end Cert.DownIdeal.Words

end
-- ==== Proof.DzVal.lean ====
/- The gradient of the squared ReLU's argument: the product of the cotangent with the transposed weights, times twice the
   ReLU's value. What each grid point writes, what the array holds, and that the derivative of the reference is the same. -/
module

public import proofs.«01_k».proof.Proof.Gen.DzIdeal.Value
public import proofs.«01_k».proof.Proof.Gen.DzRefIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.DzIdeal.Words

open Idealize.ShloMosaic Idealize.ShloMosaic.TcCoe Idealize.SL.Sem
open Cert.DzIdeal Cert.DzIdeal.Gen
open Facts

variable (m : (ℓ : Loc nD τ sig) → Buf (Elt Ideal) ℓ) (c : Dev nD)

theorem idxs : ∀ t : Fin cfg0.N, win0_0.index t = ![t.val / 8, 0] ∧ win0_1.index t = ![t.val % 8, 0] ∧
    win0_2.index t = ![t.val / 8, t.val % 8] ∧ win0_3.index t = ![t.val / 8, t.val % 8] :=
  (by decide +kernel : ∀ t : Fin grid0.N, _)

/-- The gradient at an index, of the ReLU's values `z`, the weights `w` and the cotangent `d`. -/
def grad (z : FVec Ideal S4096x8192 .bf16) (w : FVec Ideal S8192x2048 .bf16) (d : FVec Ideal S4096x2048 .bf16) : FVec Ideal S4096x8192 .bf16 := fun i =>
  (∑ k : Fin 2048, (d (ix2 (i 0) k) : EReal) * w (ix2 (i 1) k)) * (Ideal.ofBits FTy.f32 0x40000000#32 * z (ix2 (i 0) (i 1)))

theorem final3 : (dats m 0 c).arrAt 3 (cfgs 0).N = grad (V m c main_v1) (V m c main_v4) (V m c main_v2) := by
  refine (dats m 0 c).arrAt_eq_of_covers 3 _ (by decide +kernel) fun t hf y => ?_
  blk_simp
  rw [after0_3]
  frame_out
  pointwise [k0_pay1, grad]
  blk_point [iblk, idxs t]

/-- What the host leaves in the call's three operands, as values: a change of format is the identity on them. -/
theorem V_v1 : V m c main_v1 = (fun i => max (m ((c : Thread nD τ).loc main_arg0) i : EReal) 0 : FVec Ideal S4096x8192 .bf16) := by
  unfold V; after_reads_simp
  show (maximumf (m ((c : Thread nD τ).loc main_arg0) : FVec Ideal S4096x8192 .f32)
    (broadcastInDim S4096x8192 ![] bcast_S_S4096x8192 (constant (F := Ideal) S_ .f32 0x00000000#32)) : FVec Ideal S4096x8192 .f32) = _
  funext i
  pointwise
theorem V_v2 : V m c main_v2 = (m ((c : Thread nD τ).loc main_arg2) : FVec Ideal S4096x2048 .f32) := by
  unfold V; after_reads_simp
  rfl
theorem V_v4 : V m c main_v4 = (fun i => (m ((c : Thread nD τ).loc main_arg1) : FVec Ideal S1x8192x2048 .f32) (ix3 0 (i 0) (i 1)) : FVec Ideal S8192x2048 .bf16) := by
  unfold V; after_reads_simp
  funext i
  pointwise

theorem w_two : Ideal.ofBits .f32 0x40000000#32 = ((2 : ℝ) : EReal) := by
  simp [Ideal.ofBits, Ideal.ieee, -EReal.coe_mul]; norm_num

theorem two_mul_eq (x : EReal) : ((2 : ℝ) : EReal) * x = x + x := by
  induction x with
  | bot => rw [EReal.coe_mul_bot_of_pos (by norm_num)]; rfl
  | top => rw [EReal.coe_mul_top_of_pos (by norm_num)]; rfl
  | coe x => rw [← EReal.coe_mul, ← EReal.coe_add, two_mul]

theorem twice_relu (p x : EReal) : p * (max x 0 + max x 0) = if 0 < x then max x 0 * p + p * max x 0 else 0 := by
  split
  · rw [EReal.left_distrib_of_nonneg (le_max_right _ _) (le_max_right _ _), mul_comm (max x 0) p]
  · next h => rw [max_eq_right (not_lt.mp h), add_zero, mul_zero]

open Cert.DzRefIdeal.Read in
/-- The result array is the derivative the reference takes. -/
theorem value : (dats m 0 c).arrAt 3 (cfgs 0).N = val_main_v13 (F := Ideal) (m ((c : Thread nD τ).loc main_arg0))
    (m ((c : Thread nD τ).loc main_arg1)) (m ((c : Thread nD τ).loc main_arg2)) := by
  rw [final3, V_v1, V_v2, V_v4]
  funext i
  pointwise [grad, val_main_v13, val_main_v12, val_main_v11, val_main_v10, val_main_v9, val_main_v8, val_main_v7, val_main_v3, val_main_v2,
    val_main_v1, val_main_v0, val_main_call0_v0, val_main_call0_cst, val_main_cst, val_main_cst_1]
  rw [w_two, two_mul_eq]
  with_reducible exact twice_relu _ _

end Cert.DzIdeal.Words

end
-- ==== Proof.DnVal.lean ====
/- The gradient of the normalised rows: the product of the cotangent of the widened rows with the transposed weights, the
   contraction over four shards of columns, two at each step. -/
module

public import proofs.«01_k».proof.Proof.Gen.DnIdeal.Value
public import proofs.«01_k».proof.Proof.Gen.DnRefIdeal.Read
public import proofs.«01_k».proof.Proof.Splits
public import Idealize.ShloMosaic.Lib.Claim
public import Idealize.ShloMosaic.Lib.StableHlo.RunRead

@[expose] public section

set_option maxRecDepth 16384

noncomputable section

namespace Cert.DnIdeal.Words

open Idealize.ShloMosaic Idealize.ShloMosaic.TcCoe Idealize.SL.Sem
open Cert.DnIdeal Cert.DnIdeal.Gen
open Facts

variable (m : (ℓ : Loc nD τ sig) → Buf (Elt Ideal) ℓ) (c : Dev nD)

theorem idxs : ∀ t : Fin cfg0.N, win0_0.index t = ![t.val / 4, t.val % 2] ∧ win0_1.index t = ![t.val % 2 * 2, t.val / 2 % 2, 0] ∧
    win0_2.index t = ![t.val % 2 * 2 + 1, t.val / 2 % 2, 0] ∧ win0_3.index t = ![t.val / 4, t.val / 2 % 2] :=
  (by decide +kernel : ∀ t : Fin grid0.N, _)

/-- What one grid point adds: the products with the two shards its blocks hold. -/
def part (x : FVec Ideal S1024x4096 .bf16) (u v : FVec Ideal S1x1024x2048 .bf16) (j : S1024x1024.Idx) : EReal :=
  (∑ k : Fin 2048, x (ix2 (j 0) ⟨k.val, by omega⟩) * u (ix3 0 (j 1) k)) + ∑ k : Fin 2048, x (ix2 (j 0) ⟨2048 + k.val, by omega⟩) * v (ix3 0 (j 1) k)

theorem point_A (t : Fin cfg0.N) (h : t.val % 2 = 0) (j : S1024x1024.Idx) :
    outsAt0 m c t.val t.isLt j = part (iblk m c 0 t) (iblk m c 1 t) (iblk m c 2 t) j := by
  rw [outsAt0_A m c t h (by omega)]
  frame_out
  pointwise [k0_pay1, part]

theorem point_B (t : Fin cfg0.N) (h : t.val % 2 = 1) (j : S1024x1024.Idx) : outsAt0 m c t.val t.isLt j =
    (show FVec Ideal S1024x1024 .f32 from outsAt0 m c (t.val - 1) (Nat.lt_of_le_of_lt (Nat.sub_le _ _) t.isLt)) j + part (iblk m c 0 t) (iblk m c 1 t) (iblk m c 2 t) j := by
  rw [outsAt0_B m c t (by omega) h]
  frame_out
  pointwise [k0_pay2, k0_pay1, part]

/-- The product over the whole contraction, the weights laid out in four shards of columns. -/
def total (d : FVec Ideal S4096x8192 .bf16) (w : FVec Ideal S4x2048x2048 .bf16) : FVec Ideal S4096x2048 .f32 := fun i =>
  ∑ k : Fin 8192, d (ix2 (i 0) k) * w (ix3 ⟨k.val / 2048, by omega⟩ (i 1) ⟨k.val % 2048, by omega⟩)

theorem final3 : (dats m 0 c).arrAt 3 (cfgs 0).N = total (V m c main_v4) (V m c main_v3) := by
  refine (dats m 0 c).arrAt_eq_of_covers 3 _ (by decide +kernel) fun t hf y => ?_
  have h := (flush0_3 t).mp hf
  have hp : t.val - 1 < cfg0.N := Nat.lt_of_le_of_lt (Nat.sub_le _ _) t.isLt
  blk_simp
  rw [after0_3]
  refine (point_B m c t h y).trans ?_
  refine (congrArg (· + _) (point_A m c ⟨t.val - 1, hp⟩ (by show (t.val - 1) % 2 = 0; omega) y)).trans ?_
  unfold total part
  rw [Splits.halves, Splits.quarters, Splits.quarters]
  blk_point [iblk, idxs t, idxs ⟨t.val - 1, hp⟩]

theorem V_v4 : V m c main_v4 = (m ((c : Thread nD τ).loc main_arg1) : FVec Ideal S4096x8192 .f32) := by
  unfold V; after_reads_simp
  rfl
theorem V_v3 : V m c main_v3 = (fun i => (m ((c : Thread nD τ).loc main_arg2) : FVec Ideal S1x2048x8192 .f32) (ix3 0 (i 1) ⟨(i 0 : ℕ) * 2048 + (i 2 : ℕ), by idx_bounds; omega⟩) : FVec Ideal S4x2048x2048 .bf16) := by
  unfold V; after_reads_simp
  funext i
  pointwise

open Cert.DnRefIdeal.Read in
/-- The result array is the reference's. -/
theorem value : (dats m 0 c).arrAt 3 (cfgs 0).N = val_main_v2 (F := Ideal) (m ((c : Thread nD τ).loc main_arg1))
    (m ((c : Thread nD τ).loc main_arg2)) := by
  rw [final3, V_v4, V_v3]
  funext i
  pointwise [total, val_main_v2, val_main_v1, val_main_v0]
  blk_point []

end Cert.DnIdeal.Words

end
-- ==== Proof.GdVal.lean ====
/- The gradient of the down projection's weights over the rows of both chips of a pair: each shard of rows gathers four steps,
   a step the products of one block of this chip's rows and of one block of the sibling's. -/
module

public import proofs.«01_k».proof.Proof.Gen.GdIdeal.Value
public import proofs.«01_k».proof.Proof.Gen.GdRefIdeal.Read
public import proofs.«01_k».proof.Proof.Splits
public import Idealize.ShloMosaic.Lib.Claim
public import Idealize.ShloMosaic.Lib.StableHlo.RunRead

@[expose] public section

set_option maxRecDepth 16384

noncomputable section

namespace Cert.GdIdeal.Words

open Idealize.ShloMosaic Idealize.ShloMosaic.TcCoe Idealize.SL.Sem
open Cert.GdIdeal Cert.GdIdeal.Gen
open Facts

variable (m : (ℓ : Loc nD τ sig) → Buf (Elt Ideal) ℓ) (c : Dev nD)

theorem idxs : ∀ t : Fin cfg0.N, win0_0.index t = ![t.val / 4, 0, 0, t.val % 4] ∧ win0_1.index t = ![t.val / 4, 0, t.val % 4] ∧
    win0_2.index t = ![t.val % 4, 0] ∧ win0_3.index t = ![t.val % 4, 0] ∧ win0_4.index t = ![t.val / 4, 0, 0] ∧ win0_5.index t = ![t.val / 4, 0, 0] :=
  (by decide +kernel : ∀ t : Fin grid0.N, _)

/-- What one grid point adds. -/
def part (a : FVec Ideal S1x1x1024x1024 .bf16) (b : FVec Ideal S1x1024x1024 .bf16) (d e : FVec Ideal S1024x2048 .bf16) (j : S1x1024x2048.Idx) : EReal :=
  (∑ k : Fin 1024, a (ix4 0 0 (j 1) k) * d (ix2 k (j 2))) + ∑ k : Fin 1024, b (ix3 0 (j 1) k) * e (ix2 k (j 2))

theorem point_A (t : Fin cfg0.N) (h : t.val % 4 = 0) (j : S1x1024x2048.Idx) :
    (outsAt0 m c t.val t.isLt).1 j = part (iblk m c 0 t) (iblk m c 1 t) (iblk m c 2 t) (iblk m c 3 t) j := by
  rw [outsAt0_A m c t h (by omega) (by omega)]
  frame_out
  pointwise [k0_pay2, k0_pay1, part]

theorem point_B (t : Fin cfg0.N) (h : ¬ t.val % 4 = 0) (j : S1x1024x2048.Idx) : (outsAt0 m c t.val t.isLt).1 j =
    (show FVec Ideal S1x1024x2048 .f32 from (outsAt0 m c (t.val - 1) (Nat.lt_of_le_of_lt (Nat.sub_le _ _) t.isLt)).1) j
      + part (iblk m c 0 t) (iblk m c 1 t) (iblk m c 2 t) (iblk m c 3 t) j := by
  by_cases h3 : t.val % 4 = 3
  · rw [outsAt0_C m c t h (by omega) h3]
    frame_out
    pointwise [k0_pay3, k0_pay1, part]
  · rw [outsAt0_B m c t h (by omega) h3]
    frame_out
    pointwise [k0_pay3, k0_pay1, part]

theorem point_5 (t : Fin cfg0.N) (h : t.val % 4 = 3) (j : S1x1024x2048.Idx) : (outsAt0 m c t.val t.isLt).2 j =
    (show FVec Ideal S1x1024x2048 .f32 from (outsAt0 m c t.val t.isLt).1) j := by
  rw [outsAt0_C m c t (by omega) (by omega) h]
  frame_out
  pointwise [k0_pay4]

/-- The sum over all rows of both chips. -/
def total (a : FVec Ideal S4x2x1024x4096 .bf16) (b : FVec Ideal S4x1024x4096 .bf16) (d e : FVec Ideal S4096x2048 .bf16) (i : S4x1024x2048.Idx) : EReal :=
  (∑ k : Fin 4096, a (ix4 (i 0) 0 (i 1) k) * d (ix2 k (i 2))) + ∑ k : Fin 4096, b (ix3 (i 0) (i 1) k) * e (ix2 k (i 2))

theorem last (t : Fin cfg0.N) (h : t.val % 4 = 3) (y : S1x1024x2048.Idx) : (outsAt0 m c t.val t.isLt).1 y =
    total (V m c main_v5) (V m c main_v11) (V m c main_v12) (V m c main_v13) ((win0_4.blk t).view.emb y) := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  refine (Splits.four (o := fun n hn => (outsAt0 m c n hn).1 y) (p := fun n hn => part (iblk m c 0 ⟨n, hn⟩) (iblk m c 1 ⟨n, hn⟩) (iblk m c 2 ⟨n, hn⟩) (iblk m c 3 ⟨n, hn⟩) y)
    (fun n hn e => point_A m c ⟨n, hn⟩ e y) (fun n hn e => point_B m c ⟨n, hn⟩ e y) t.val t.isLt h).trans ?_
  unfold total part
  rw [Splits.pairs]
  blk_point [iblk, idxs t, idxs ⟨t.val - 1, h1⟩, idxs ⟨t.val - 1 - 1, h2⟩, idxs ⟨t.val - 1 - 1 - 1, h3⟩]

theorem final4 : (dats m 0 c).arrAt 4 (cfgs 0).N = (total (V m c main_v5) (V m c main_v11) (V m c main_v12) (V m c main_v13) : FVec Ideal S4x1024x2048 .f32) := by
  refine (dats m 0 c).arrAt_eq_of_covers 4 _ (by decide +kernel) fun t hf y => ?_
  have h := (flush0_4 t).mp hf
  blk_simp
  rw [after0_4]
  exact last m c t h y

theorem final5 : (dats m 0 c).arrAt 5 (cfgs 0).N = (total (V m c main_v5) (V m c main_v11) (V m c main_v12) (V m c main_v13) : FVec Ideal S4x1024x2048 .bf16) := by
  refine (dats m 0 c).arrAt_eq_of_covers 5 _ (by decide +kernel) fun t hf y => ?_
  have h := (flush0_5 t).mp hf
  blk_simp
  rw [after0_5]
  refine (point_5 m c t h y).trans ((last m c t h y).trans ?_)
  refine congrArg (total _ _ _ _) ?_
  blk_ext [idxs t]

theorem V_v12 : V m c main_v12 = (m ((c : Thread nD τ).loc main_arg3) : FVec Ideal S4096x2048 .f32) := by
  unfold V; after_reads_simp
  rfl
theorem V_v13 : V m c main_v13 = (m ((c : Thread nD τ).loc main_arg4) : FVec Ideal S4096x2048 .f32) := by
  unfold V; after_reads_simp
  rfl
end Cert.GdIdeal.Words

end
-- ==== Proof.GdRef.lean ====
/- The gradient of the down projection's weights: what the host prepares for the call, and the reference's gradient, read at an
   entry. -/
module

public import proofs.«01_k».proof.Proof.GdVal

@[expose] public section

set_option maxRecDepth 16384

noncomputable section

namespace Cert.GdIdeal.Words

open Idealize.ShloMosaic Idealize.ShloMosaic.TcCoe Idealize.SL.Sem
open Cert.GdIdeal Cert.GdIdeal.Gen
open Facts

/-- The square of the ReLU's value. -/
def sq (x : EReal) : EReal := max x 0 * max x 0

/-- The squares of the ReLU's values, as the host computes them. -/
def squares (x : FVec Ideal S4096x8192 .f32) : FVec Ideal S4096x8192 .bf16 :=
  truncf .bf16 (mulf (maximumf x (broadcastInDim S4096x8192 ![] bcast_S_S4096x8192 (constant (F := Ideal) S_ .f32 0x00000000#32)))
    (maximumf x (broadcastInDim S4096x8192 ![] bcast_S_S4096x8192 (constant (F := Ideal) S_ .f32 0x00000000#32)))) bitsLt_bf16_f32

theorem squares_at (x : FVec Ideal S4096x8192 .f32) (i : S4096x8192.Idx) : squares x i = sq (x i) := by
  pointwise [squares, sq]

/-- The column of the pre-activations that a shard and a row of its first half name. -/
def col (s : Fin 4) (e : Fin 1024) : Fin 8192 := ⟨s.val * 2048 + e.val, by omega⟩

/-- The entry of the gradient at a shard, a row of its first half and a column, over the rows of both chips. -/
def entry (x0 x1 : FVec Ideal S4096x8192 .f32) (x3 x4 : FVec Ideal S4096x2048 .f32) (i : S4x1024x2048.Idx) : EReal :=
  (∑ k : Fin 4096, sq (x0 (ix2 k (col (i 0) (i 1)))) * x3 (ix2 k (i 2)))
    + ∑ k : Fin 4096, sq (x1 (ix2 k (col (i 0) (i 1)))) * x4 (ix2 k (i 2))

theorem total_eq (x0 x1 : FVec Ideal S4096x8192 .f32) (x3 x4 : FVec Ideal S4096x2048 .f32) (i : S4x1024x2048.Idx) :
    total (shapeCast S4x2x1024x4096 (transpose S8192x4096 [1, 0] (squares x0) transposes_S4096x8192_S8192x4096_1_0) shapeCasts_S8192x4096_S4x2x1024x4096)
      (shapeCast S4x1024x4096 (extractStridedSlice S4x1x1024x4096 ![0, 0, 0, 0] (shapeCast S4x2x1024x4096 (transpose S8192x4096 [1, 0] (squares x1) transposes_S4096x8192_S8192x4096_1_0) shapeCasts_S8192x4096_S4x2x1024x4096) slices_S4x2x1024x4096_S4x1x1024x4096_0_0_0_0) shapeCasts_S4x1x1024x4096_S4x1024x4096)
      x3 x4 i = entry x0 x1 x3 x4 i := by
  pointwise [total, entry, squares_at, col]

open Cert.GdRefIdeal.Read in
theorem ref_eq (x0 x1 : FVec Ideal S4096x8192 .f32) (x3 x4 : FVec Ideal S4096x2048 .f32) (i : S4x1024x2048.Idx) :
    val_main_v10 (F := Ideal) x0 x1 x3 x4 i = entry x0 x1 x3 x4 i := by
  pointwise [entry, sq, col, val_main_v10, val_main_v9, val_main_v8, val_main_v7, val_main_v6, val_main_v5, val_main_v3, val_main_v2, val_main_v0, val_main_call0_v0, val_main_call0_cst]
  exact congrArg₂ (· + ·) (Finset.sum_congr rfl fun k _ => mul_comm _ _) (Finset.sum_congr rfl fun k _ => mul_comm _ _)

variable (m : (ℓ : Loc nD τ sig) → Buf (Elt Ideal) ℓ) (c : Dev nD)

theorem V_v5 : V m c main_v5 = shapeCast S4x2x1024x4096 (transpose S8192x4096 [1, 0] (squares (m ((c : Thread nD τ).loc main_arg0))) transposes_S4096x8192_S8192x4096_1_0) shapeCasts_S8192x4096_S4x2x1024x4096 := by
  unfold V; after_reads_simp
  rfl
theorem V_v11 : V m c main_v11 = shapeCast S4x1024x4096 (extractStridedSlice S4x1x1024x4096 ![0, 0, 0, 0] (shapeCast S4x2x1024x4096 (transpose S8192x4096 [1, 0] (squares (m ((c : Thread nD τ).loc main_arg1))) transposes_S4096x8192_S8192x4096_1_0) shapeCasts_S8192x4096_S4x2x1024x4096) slices_S4x2x1024x4096_S4x1x1024x4096_0_0_0_0) shapeCasts_S4x1x1024x4096_S4x1024x4096 := by
  unfold V; after_reads_simp
  rfl

open Cert.GdRefIdeal.Read in
/-- The two result arrays are the reference's. -/
theorem value : (dats m 0 c).arrAt 4 (cfgs 0).N = val_main_v10 (F := Ideal) (m ((c : Thread nD τ).loc main_arg0)) (m ((c : Thread nD τ).loc main_arg1))
      (m ((c : Thread nD τ).loc main_arg3)) (m ((c : Thread nD τ).loc main_arg4)) ∧
    (dats m 0 c).arrAt 5 (cfgs 0).N = val_main_v11 (F := Ideal) (m ((c : Thread nD τ).loc main_arg0)) (m ((c : Thread nD τ).loc main_arg1))
      (m ((c : Thread nD τ).loc main_arg3)) (m ((c : Thread nD τ).loc main_arg4)) := by
  rw [final4, final5, V_v5, V_v11, V_v12, V_v13]
  exact ⟨funext fun i => (total_eq _ _ _ _ i).trans (ref_eq _ _ _ _ i).symm, funext fun i => (total_eq _ _ _ _ i).trans (ref_eq _ _ _ _ i).symm⟩

end Cert.GdIdeal.Words

end
-- ==== Proof.GuVal.lean ====
/- The gradient of the up projection's weights over the rows of both chips of a pair: each shard of columns gathers four steps,
   a step the products of one block of this chip's rows and of one block of the sibling's. -/
module

public import proofs.«01_k».proof.Proof.Gen.GuIdeal.Value
public import proofs.«01_k».proof.Proof.Gen.GuRefIdeal.Read
public import proofs.«01_k».proof.Proof.Splits
public import Idealize.ShloMosaic.Lib.Claim
public import Idealize.ShloMosaic.Lib.StableHlo.RunRead

@[expose] public section

set_option maxRecDepth 16384

noncomputable section

namespace Cert.GuIdeal.Words

open Idealize.ShloMosaic Idealize.ShloMosaic.TcCoe Idealize.SL.Sem
open Cert.GuIdeal Cert.GuIdeal.Gen
open Facts

variable (m : (ℓ : Loc nD τ sig) → Buf (Elt Ideal) ℓ) (c : Dev nD)

theorem idxs : ∀ t : Fin cfg0.N, win0_0.index t = ![0, 0, 0, t.val % 4] ∧ win0_1.index t = ![0, 0, t.val % 4] ∧
    win0_2.index t = ![t.val % 4, t.val / 4] ∧ win0_3.index t = ![t.val % 4, t.val / 4] ∧ win0_4.index t = ![t.val / 4, 0, 0] ∧ win0_5.index t = ![t.val / 4, 0, 0] :=
  (by decide +kernel : ∀ t : Fin grid0.N, _)

/-- What one grid point adds. -/
def part (a : FVec Ideal S1x1x1024x1024 .bf16) (b : FVec Ideal S1x1024x1024 .bf16) (d e : FVec Ideal S1024x2048 .bf16) (j : S1x1024x2048.Idx) : EReal :=
  (∑ k : Fin 1024, a (ix4 0 0 (j 1) k) * d (ix2 k (j 2))) + ∑ k : Fin 1024, b (ix3 0 (j 1) k) * e (ix2 k (j 2))

theorem point_A (t : Fin cfg0.N) (h : t.val % 4 = 0) (j : S1x1024x2048.Idx) :
    (outsAt0 m c t.val t.isLt).1 j = part (iblk m c 0 t) (iblk m c 1 t) (iblk m c 2 t) (iblk m c 3 t) j := by
  rw [outsAt0_A m c t h (by omega) (by omega)]
  frame_out
  pointwise [k0_pay2, k0_pay1, part]

theorem point_B (t : Fin cfg0.N) (h : ¬ t.val % 4 = 0) (j : S1x1024x2048.Idx) : (outsAt0 m c t.val t.isLt).1 j =
    (show FVec Ideal S1x1024x2048 .f32 from (outsAt0 m c (t.val - 1) (Nat.lt_of_le_of_lt (Nat.sub_le _ _) t.isLt)).1) j
      + part (iblk m c 0 t) (iblk m c 1 t) (iblk m c 2 t) (iblk m c 3 t) j := by
  by_cases h3 : t.val % 4 = 3
  · rw [outsAt0_C m c t h (by omega) h3]
    frame_out
    pointwise [k0_pay3, k0_pay1, part]
  · rw [outsAt0_B m c t h (by omega) h3]
    frame_out
    pointwise [k0_pay3, k0_pay1, part]

theorem point_5 (t : Fin cfg0.N) (h : t.val % 4 = 3) (j : S1x1024x2048.Idx) : (outsAt0 m c t.val t.isLt).2 j =
    (show FVec Ideal S1x1024x2048 .f32 from (outsAt0 m c t.val t.isLt).1) j := by
  rw [outsAt0_C m c t (by omega) (by omega) h]
  frame_out
  pointwise [k0_pay4]

/-- The column that a shard and a column in it name. -/
def col (s : Fin 4) (f : Fin 2048) : Fin 8192 := ⟨s.val * 2048 + f.val, by omega⟩

/-- The sum over all rows of both chips. -/
def total (a : FVec Ideal S1x2x1024x4096 .bf16) (b : FVec Ideal S1x1024x4096 .bf16) (d e : FVec Ideal S4096x8192 .bf16) (i : S4x1024x2048.Idx) : EReal :=
  (∑ k : Fin 4096, a (ix4 0 0 (i 1) k) * d (ix2 k (col (i 0) (i 2)))) + ∑ k : Fin 4096, b (ix3 0 (i 1) k) * e (ix2 k (col (i 0) (i 2)))

theorem last (t : Fin cfg0.N) (h : t.val % 4 = 3) (y : S1x1024x2048.Idx) : (outsAt0 m c t.val t.isLt).1 y =
    total (V m c main_v2) (V m c main_v7) (V m c main_v8) (V m c main_v9) ((win0_4.blk t).view.emb y) := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  refine (Splits.four (o := fun n hn => (outsAt0 m c n hn).1 y) (p := fun n hn => part (iblk m c 0 ⟨n, hn⟩) (iblk m c 1 ⟨n, hn⟩) (iblk m c 2 ⟨n, hn⟩) (iblk m c 3 ⟨n, hn⟩) y)
    (fun n hn e => point_A m c ⟨n, hn⟩ e y) (fun n hn e => point_B m c ⟨n, hn⟩ e y) t.val t.isLt h).trans ?_
  unfold total part col
  rw [Splits.pairs]
  blk_point [iblk, idxs t, idxs ⟨t.val - 1, h1⟩, idxs ⟨t.val - 1 - 1, h2⟩, idxs ⟨t.val - 1 - 1 - 1, h3⟩]

theorem final4 : (dats m 0 c).arrAt 4 (cfgs 0).N = (total (V m c main_v2) (V m c main_v7) (V m c main_v8) (V m c main_v9) : FVec Ideal S4x1024x2048 .f32) := by
  refine (dats m 0 c).arrAt_eq_of_covers 4 _ (by decide +kernel) fun t hf y => ?_
  have h := (flush0_4 t).mp hf
  blk_simp
  rw [after0_4]
  exact last m c t h y

theorem final5 : (dats m 0 c).arrAt 5 (cfgs 0).N = (total (V m c main_v2) (V m c main_v7) (V m c main_v8) (V m c main_v9) : FVec Ideal S4x1024x2048 .bf16) := by
  refine (dats m 0 c).arrAt_eq_of_covers 5 _ (by decide +kernel) fun t hf y => ?_
  have h := (flush0_5 t).mp hf
  blk_simp
  rw [after0_5]
  refine (point_5 m c t h y).trans ((last m c t h y).trans ?_)
  refine congrArg (total _ _ _ _) ?_
  blk_ext [idxs t]

theorem V_v8 : V m c main_v8 = (m ((c : Thread nD τ).loc main_arg3) : FVec Ideal S4096x8192 .f32) := by
  unfold V; after_reads_simp
  rfl
theorem V_v9 : V m c main_v9 = (m ((c : Thread nD τ).loc main_arg4) : FVec Ideal S4096x8192 .f32) := by
  unfold V; after_reads_simp
  rfl
end Cert.GuIdeal.Words

end
-- ==== Proof.GuRef.lean ====
/- The gradient of the up projection's weights: what the host prepares for the call, and the reference's gradient, read at an
   entry. -/
module

public import proofs.«01_k».proof.Proof.GuVal

@[expose] public section

set_option maxRecDepth 16384

noncomputable section

namespace Cert.GuIdeal.Words

open Idealize.ShloMosaic Idealize.ShloMosaic.TcCoe Idealize.SL.Sem
open Cert.GuIdeal Cert.GuIdeal.Gen
open Facts

/-- A row of the first half among all rows. -/
def row (e : Fin 1024) : Fin 2048 := ⟨e.val, by omega⟩

/-- The entry of the gradient at a shard of columns, a row of the first half and a column, over the rows of both chips. -/
def entry (x0 x1 : FVec Ideal S4096x2048 .f32) (x3 x4 : FVec Ideal S4096x8192 .f32) (i : S4x1024x2048.Idx) : EReal :=
  (∑ k : Fin 4096, x0 (ix2 k (row (i 1))) * x3 (ix2 k (col (i 0) (i 2))))
    + ∑ k : Fin 4096, x1 (ix2 k (row (i 1))) * x4 (ix2 k (col (i 0) (i 2)))

/-- The host's layout of a chip's rows: transposed and cut into two halves. -/
def laid (x : FVec Ideal S4096x2048 .bf16) : FVec Ideal S1x2x1024x4096 .bf16 :=
  shapeCast S1x2x1024x4096 (transpose S2048x4096 [1, 0] x transposes_S4096x2048_S2048x4096_1_0) shapeCasts_S2048x4096_S1x2x1024x4096

theorem total_eq (x0 x1 : FVec Ideal S4096x2048 .f32) (x3 x4 : FVec Ideal S4096x8192 .f32) (i : S4x1024x2048.Idx) :
    total (laid x0)
      (shapeCast S1x1024x4096 (extractStridedSlice S1x1x1024x4096 ![0, 0, 0, 0] (laid x1) slices_S1x2x1024x4096_S1x1x1024x4096_0_0_0_0) shapeCasts_S1x1x1024x4096_S1x1024x4096)
      x3 x4 i = entry x0 x1 x3 x4 i := by
  pointwise [total, entry, laid, col, row]

open Cert.GuRefIdeal.Read in
theorem ref_eq (x0 x1 : FVec Ideal S4096x2048 .f32) (x3 x4 : FVec Ideal S4096x8192 .f32) (i : S4x1024x2048.Idx) :
    val_main_v8 (F := Ideal) x0 x1 x3 x4 i = entry x0 x1 x3 x4 i := by
  pointwise [entry, col, row, val_main_v8, val_main_v7, val_main_v6, val_main_v5, val_main_v4, val_main_v3, val_main_v0]
  exact congrArg₂ (· + ·) (Finset.sum_congr rfl fun k _ => mul_comm _ _) (Finset.sum_congr rfl fun k _ => mul_comm _ _)

variable (m : (ℓ : Loc nD τ sig) → Buf (Elt Ideal) ℓ) (c : Dev nD)

theorem V_v2 : V m c main_v2 = laid (m ((c : Thread nD τ).loc main_arg0)) := by
  unfold V; after_reads_simp
  rfl
theorem V_v7 : V m c main_v7 = shapeCast S1x1024x4096 (extractStridedSlice S1x1x1024x4096 ![0, 0, 0, 0] (laid (m ((c : Thread nD τ).loc main_arg1))) slices_S1x2x1024x4096_S1x1x1024x4096_0_0_0_0) shapeCasts_S1x1x1024x4096_S1x1024x4096 := by
  unfold V; after_reads_simp
  rfl

open Cert.GuRefIdeal.Read in
/-- The two result arrays are the reference's. -/
theorem value : (dats m 0 c).arrAt 4 (cfgs 0).N = val_main_v8 (F := Ideal) (m ((c : Thread nD τ).loc main_arg0)) (m ((c : Thread nD τ).loc main_arg1))
      (m ((c : Thread nD τ).loc main_arg3)) (m ((c : Thread nD τ).loc main_arg4)) ∧
    (dats m 0 c).arrAt 5 (cfgs 0).N = val_main_v9 (F := Ideal) (m ((c : Thread nD τ).loc main_arg0)) (m ((c : Thread nD τ).loc main_arg1))
      (m ((c : Thread nD τ).loc main_arg3)) (m ((c : Thread nD τ).loc main_arg4)) := by
  rw [final4, final5, V_v2, V_v7, V_v8, V_v9]
  exact ⟨funext fun i => (total_eq _ _ _ _ i).trans (ref_eq _ _ _ _ i).symm, funext fun i => (total_eq _ _ _ _ i).trans (ref_eq _ _ _ _ i).symm⟩

end Cert.GuIdeal.Words

end
-- ==== Proof.OutVal.lean ====
/- The output projection with its residual, one tile per grid point over the whole contraction. -/
module

public import proofs.«01_k».proof.Proof.Gen.OutIdeal.Value
public import proofs.«01_k».proof.Proof.Gen.OutRefIdeal.Read
public import proofs.«01_k».proof.Proof.Splits
public import Idealize.ShloMosaic.Lib.Claim
public import Idealize.ShloMosaic.Lib.StableHlo.RunRead

@[expose] public section

set_option maxRecDepth 16384

noncomputable section

namespace Cert.OutIdeal.Words

open Idealize.ShloMosaic Idealize.ShloMosaic.TcCoe Idealize.SL.Sem
open Cert.OutIdeal Cert.OutIdeal.Gen
open Facts

variable (m : (ℓ : Loc nD τ sig) → Buf (Elt Ideal) ℓ) (c : Dev nD)

theorem idxs : ∀ t : Fin cfg0.N, win0_0.index t = ![t.val / 2, 0] ∧ win0_1.index t = ![0, t.val % 2] ∧
    win0_2.index t = ![t.val / 2, t.val % 2] ∧ win0_3.index t = ![t.val / 2, t.val % 2] :=
  (by decide +kernel : ∀ t : Fin grid0.N, _)

/-- The residual and the product. -/
def total (a : FVec Ideal S4096x2048 .bf16) (w : FVec Ideal S2048x2048 .bf16) (r : FVec Ideal S4096x2048 .f32) : FVec Ideal S4096x2048 .f32 := fun i =>
  r i + ∑ k : Fin 2048, a (ix2 (i 0) k) * w (ix2 k (i 1))

theorem final3 : (dats m 0 c).arrAt 3 (cfgs 0).N = total (V m c main_v0) (V m c main_v2) (V m c main_arg2) := by
  refine (dats m 0 c).arrAt_eq_of_covers 3 _ (by decide +kernel) fun t hf y => ?_
  blk_simp
  rw [after0_3]
  unfold outsAt0
  frame_out
  pointwise [k0_pay2, k0_pay1, total]
  blk_point [iblk, idxs t]

theorem V_v0 : V m c main_v0 = (m ((c : Thread nD τ).loc main_arg0) : FVec Ideal S4096x2048 .f32) := by
  unfold V; after_reads_simp
  rfl
theorem V_v2 : V m c main_v2 = (fun i => (m ((c : Thread nD τ).loc main_arg1) : FVec Ideal S1x2048x2048 .f32) (ix3 0 (i 0) (i 1)) : FVec Ideal S2048x2048 .bf16) := by
  unfold V; after_reads_simp
  funext i
  pointwise

open Cert.OutRefIdeal.Read in
/-- The result array is the reference's. -/
theorem value : (dats m 0 c).arrAt 3 (cfgs 0).N = val_main_v2 (F := Ideal) (m ((c : Thread nD τ).loc main_arg0))
    (m ((c : Thread nD τ).loc main_arg1)) (m ((c : Thread nD τ).loc main_arg2)) := by
  rw [final3, V_v0, V_v2, V_main_arg2]
  funext i
  pointwise [total, val_main_v2, val_main_v1, val_main_v0]

end Cert.OutIdeal.Words

end
-- ==== Proof.DmVal.lean ====
/- The gradient of the normalised halves: the product of the cotangent with the transposed weights of the output projection,
   one tile per grid point. -/
module

public import proofs.«01_k».proof.Proof.Gen.DmIdeal.Value
public import proofs.«01_k».proof.Proof.Gen.DmRefIdeal.Read
public import proofs.«01_k».proof.Proof.Splits
public import Idealize.ShloMosaic.Lib.Claim
public import Idealize.ShloMosaic.Lib.StableHlo.RunRead

@[expose] public section

set_option maxRecDepth 16384

noncomputable section

namespace Cert.DmIdeal.Words

open Idealize.ShloMosaic Idealize.ShloMosaic.TcCoe Idealize.SL.Sem
open Cert.DmIdeal Cert.DmIdeal.Gen
open Facts

variable (m : (ℓ : Loc nD τ sig) → Buf (Elt Ideal) ℓ) (c : Dev nD)

theorem idxs : ∀ t : Fin cfg0.N, win0_0.index t = ![t.val / 2, 0] ∧ win0_1.index t = ![t.val % 2, 0] ∧
    win0_2.index t = ![t.val / 2, t.val % 2] :=
  (by decide +kernel : ∀ t : Fin grid0.N, _)

/-- The gradient at an index, of the cotangent `d` and the weights `w`. -/
def grad (d : FVec Ideal S4096x2048 .bf16) (w : FVec Ideal S2048x2048 .bf16) : FVec Ideal S4096x2048 .f32 := fun i =>
  ∑ k : Fin 2048, d (ix2 (i 0) k) * w (ix2 (i 1) k)

theorem final2 : (dats m 0 c).arrAt 2 (cfgs 0).N = grad (V m c main_v0) (V m c main_v2) := by
  refine (dats m 0 c).arrAt_eq_of_covers 2 _ (by decide +kernel) fun t hf y => ?_
  blk_simp
  rw [after0_2]
  frame_out
  pointwise [k0_pay1, grad]
  blk_point [iblk, idxs t]

theorem V_v0 : V m c main_v0 = (m ((c : Thread nD τ).loc main_arg2) : FVec Ideal S4096x2048 .f32) := by
  unfold V; after_reads_simp
  rfl
theorem V_v2 : V m c main_v2 = (fun i => (m ((c : Thread nD τ).loc main_arg1) : FVec Ideal S1x2048x2048 .f32) (ix3 0 (i 0) (i 1)) : FVec Ideal S2048x2048 .bf16) := by
  unfold V; after_reads_simp
  funext i
  pointwise

open Cert.DmRefIdeal.Read in
/-- The result array is the derivative the reference takes. -/
theorem value : (dats m 0 c).arrAt 2 (cfgs 0).N = val_main_v2 (F := Ideal) (m ((c : Thread nD τ).loc main_arg1))
    (m ((c : Thread nD τ).loc main_arg2)) := by
  rw [final2, V_v0, V_v2]
  funext i
  pointwise [grad, val_main_v2, val_main_v0]

end Cert.DmIdeal.Words

end
-- ==== Proof.GoVal.lean ====
/- The gradient of the output projection's weights over the rows of both chips of a pair: four steps, a step the products of one
   block of this chip's rows and of one block of the sibling's, for the rows of all four shards at once. -/
module

public import proofs.«01_k».proof.Proof.Gen.GoIdeal.Value
public import proofs.«01_k».proof.Proof.Gen.GoRefIdeal.Read
public import proofs.«01_k».proof.Proof.Splits
public import Idealize.ShloMosaic.Lib.Claim
public import Idealize.ShloMosaic.Lib.StableHlo.RunRead

@[expose] public section

set_option maxRecDepth 16384

noncomputable section

namespace Cert.GoIdeal.Words

open Idealize.ShloMosaic Idealize.ShloMosaic.TcCoe Idealize.SL.Sem
open Cert.GoIdeal Cert.GoIdeal.Gen
open Facts

variable (m : (ℓ : Loc nD τ sig) → Buf (Elt Ideal) ℓ) (c : Dev nD)

theorem idxs : ∀ t : Fin cfg0.N, win0_0.index t = ![0, 0, 0, t.val] ∧ win0_1.index t = ![0, 0, t.val] ∧
    win0_2.index t = ![t.val, 0] ∧ win0_3.index t = ![t.val, 0] ∧ win0_4.index t = ![0, 0, 0] ∧ win0_5.index t = ![0, 0, 0] :=
  (by decide +kernel : ∀ t : Fin grid0.N, _)

/-- What one grid point adds. -/
def part (a : FVec Ideal S4x1x256x1024 .bf16) (b : FVec Ideal S4x256x1024 .bf16) (d e : FVec Ideal S1024x2048 .bf16) (j : S4x256x2048.Idx) : EReal :=
  (∑ k : Fin 1024, a (ix4 (j 0) 0 (j 1) k) * d (ix2 k (j 2))) + ∑ k : Fin 1024, b (ix3 (j 0) (j 1) k) * e (ix2 k (j 2))

theorem point_A (t : Fin cfg0.N) (h : t.val % 4 = 0) (j : S4x256x2048.Idx) :
    (outsAt0 m c t.val t.isLt).1 j = part (iblk m c 0 t) (iblk m c 1 t) (iblk m c 2 t) (iblk m c 3 t) j := by
  have hN : t.val < 4 := t.isLt
  rw [outsAt0_A m c t h (by omega) (by omega)]
  frame_out
  pointwise [k0_pay1, part]

theorem point_B (t : Fin cfg0.N) (h : ¬ t.val % 4 = 0) (j : S4x256x2048.Idx) : (outsAt0 m c t.val t.isLt).1 j =
    (show FVec Ideal S4x256x2048 .f32 from (outsAt0 m c (t.val - 1) (Nat.lt_of_le_of_lt (Nat.sub_le _ _) t.isLt)).1) j
      + part (iblk m c 0 t) (iblk m c 1 t) (iblk m c 2 t) (iblk m c 3 t) j := by
  by_cases h3 : t.val % 4 = 3
  · rw [outsAt0_C m c t h (by omega) h3]
    frame_out
    pointwise [k0_pay2, k0_pay1, part]
  · rw [outsAt0_B m c t h (by omega) h3]
    frame_out
    pointwise [k0_pay2, k0_pay1, part]

theorem point_5 (t : Fin cfg0.N) (h : t.val % 4 = 3) (j : S4x256x2048.Idx) : (outsAt0 m c t.val t.isLt).2 j =
    (show FVec Ideal S4x256x2048 .f32 from (outsAt0 m c t.val t.isLt).1) j := by
  rw [outsAt0_C m c t (by omega) (by omega) h]
  frame_out
  pointwise [k0_pay3]

/-- The sum over all rows of both chips. -/
def total (a : FVec Ideal S4x2x256x4096 .bf16) (b : FVec Ideal S4x256x4096 .bf16) (d e : FVec Ideal S4096x2048 .bf16) (i : S4x256x2048.Idx) : EReal :=
  (∑ k : Fin 4096, a (ix4 (i 0) 0 (i 1) k) * d (ix2 k (i 2))) + ∑ k : Fin 4096, b (ix3 (i 0) (i 1) k) * e (ix2 k (i 2))

theorem last (t : Fin cfg0.N) (h : t.val % 4 = 3) (y : S4x256x2048.Idx) : (outsAt0 m c t.val t.isLt).1 y =
    total (V m c main_v2) (V m c main_v7) (V m c main_v8) (V m c main_v9) ((win0_4.blk t).view.emb y) := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  have hN : t.val < 4 := t.isLt
  refine (Splits.four (o := fun n hn => (outsAt0 m c n hn).1 y) (p := fun n hn => part (iblk m c 0 ⟨n, hn⟩) (iblk m c 1 ⟨n, hn⟩) (iblk m c 2 ⟨n, hn⟩) (iblk m c 3 ⟨n, hn⟩) y)
    (fun n hn e => point_A m c ⟨n, hn⟩ e y) (fun n hn e => point_B m c ⟨n, hn⟩ e y) t.val t.isLt h).trans ?_
  unfold total part
  rw [Splits.pairs]
  blk_point [iblk, idxs t, idxs ⟨t.val - 1, h1⟩, idxs ⟨t.val - 1 - 1, h2⟩, idxs ⟨t.val - 1 - 1 - 1, h3⟩]

theorem final4 : (dats m 0 c).arrAt 4 (cfgs 0).N = (total (V m c main_v2) (V m c main_v7) (V m c main_v8) (V m c main_v9) : FVec Ideal S4x256x2048 .f32) := by
  refine (dats m 0 c).arrAt_eq_of_covers 4 _ (by decide +kernel) fun t hf y => ?_
  have h := (flush0_4 t).mp hf
  blk_simp
  rw [after0_4]
  exact last m c t h y

theorem final5 : (dats m 0 c).arrAt 5 (cfgs 0).N = (total (V m c main_v2) (V m c main_v7) (V m c main_v8) (V m c main_v9) : FVec Ideal S4x256x2048 .bf16) := by
  refine (dats m 0 c).arrAt_eq_of_covers 5 _ (by decide +kernel) fun t hf y => ?_
  have h := (flush0_5 t).mp hf
  blk_simp
  rw [after0_5]
  refine (point_5 m c t h y).trans ((last m c t h y).trans ?_)
  refine congrArg (total _ _ _ _) ?_
  blk_ext [idxs t]

theorem V_v8 : V m c main_v8 = (m ((c : Thread nD τ).loc main_arg3) : FVec Ideal S4096x2048 .f32) := by
  unfold V; after_reads_simp
  rfl
theorem V_v9 : V m c main_v9 = (m ((c : Thread nD τ).loc main_arg4) : FVec Ideal S4096x2048 .f32) := by
  unfold V; after_reads_simp
  rfl
theorem V_v2 : V m c main_v2 = shapeCast S4x2x256x4096 (transpose S2048x4096 [1, 0] (m ((c : Thread nD τ).loc main_arg0) : FVec Ideal S4096x2048 .bf16) transposes_S4096x2048_S2048x4096_1_0) shapeCasts_S2048x4096_S4x2x256x4096 := by
  unfold V; after_reads_simp
  rfl
theorem V_v7 : V m c main_v7 = shapeCast S4x256x4096 (extractStridedSlice S4x1x256x4096 ![0, 0, 0, 0] (shapeCast S4x2x256x4096 (transpose S2048x4096 [1, 0] (m ((c : Thread nD τ).loc main_arg1) : FVec Ideal S4096x2048 .bf16) transposes_S4096x2048_S2048x4096_1_0) shapeCasts_S2048x4096_S4x2x256x4096) slices_S4x2x256x4096_S4x1x256x4096_0_0_0_0) shapeCasts_S4x1x256x4096_S4x256x4096 := by
  unfold V; after_reads_simp
  rfl

/-- The row of the weights that a shard and a row of its first half name. -/
def row (s : Fin 4) (e : Fin 256) : Fin 2048 := ⟨s.val * 512 + e.val, by omega⟩

/-- The entry of the gradient at a shard, a row of its first half and a column, over the rows of both chips. -/
def entry (x0 x1 x3 x4 : FVec Ideal S4096x2048 .f32) (i : S4x256x2048.Idx) : EReal :=
  (∑ k : Fin 4096, x0 (ix2 k (row (i 0) (i 1))) * x3 (ix2 k (i 2))) + ∑ k : Fin 4096, x1 (ix2 k (row (i 0) (i 1))) * x4 (ix2 k (i 2))

theorem total_eq (x0 x1 x3 x4 : FVec Ideal S4096x2048 .f32) (i : S4x256x2048.Idx) :
    total (shapeCast S4x2x256x4096 (transpose S2048x4096 [1, 0] (x0 : FVec Ideal S4096x2048 .bf16) transposes_S4096x2048_S2048x4096_1_0) shapeCasts_S2048x4096_S4x2x256x4096)
      (shapeCast S4x256x4096 (extractStridedSlice S4x1x256x4096 ![0, 0, 0, 0] (shapeCast S4x2x256x4096 (transpose S2048x4096 [1, 0] (x1 : FVec Ideal S4096x2048 .bf16) transposes_S4096x2048_S2048x4096_1_0) shapeCasts_S2048x4096_S4x2x256x4096) slices_S4x2x256x4096_S4x1x256x4096_0_0_0_0) shapeCasts_S4x1x256x4096_S4x256x4096)
      x3 x4 i = entry x0 x1 x3 x4 i := by
  pointwise [total, entry, row]

open Cert.GoRefIdeal.Read in
theorem ref_eq (x0 x1 x3 x4 : FVec Ideal S4096x2048 .f32) (i : S4x256x2048.Idx) : val_main_v8 (F := Ideal) x0 x1 x3 x4 i = entry x0 x1 x3 x4 i := by
  pointwise [entry, row, val_main_v8, val_main_v7, val_main_v6, val_main_v5, val_main_v4, val_main_v3, val_main_v0]
  exact congrArg₂ (· + ·) (Finset.sum_congr rfl fun k _ => mul_comm _ _) (Finset.sum_congr rfl fun k _ => mul_comm _ _)

open Cert.GoRefIdeal.Read in
/-- The two result arrays are the reference's. -/
theorem value : (dats m 0 c).arrAt 4 (cfgs 0).N = val_main_v8 (F := Ideal) (m ((c : Thread nD τ).loc main_arg0)) (m ((c : Thread nD τ).loc main_arg1))
      (m ((c : Thread nD τ).loc main_arg3)) (m ((c : Thread nD τ).loc main_arg4)) ∧
    (dats m 0 c).arrAt 5 (cfgs 0).N = val_main_v9 (F := Ideal) (m ((c : Thread nD τ).loc main_arg0)) (m ((c : Thread nD τ).loc main_arg1))
      (m ((c : Thread nD τ).loc main_arg3)) (m ((c : Thread nD τ).loc main_arg4)) := by
  rw [final4, final5, V_v2, V_v7, V_v8, V_v9]
  exact ⟨funext fun i => (total_eq _ _ _ _ i).trans (ref_eq _ _ _ _ i).symm, funext fun i => (total_eq _ _ _ _ i).trans (ref_eq _ _ _ _ i).symm⟩

end Cert.GoIdeal.Words

end
-- ==== Proof.InpVal.lean ====
/- The input projection: each row divided by its root mean square and multiplied by the gain, then the product with the
   transposed weights, whose columns lie in two halves. The rows so normed are written once for each half. -/
module

public import proofs.«01_k».proof.Proof.Gen.InpIdeal.Value
public import proofs.«01_k».proof.Proof.Gen.InpRefIdeal.Read
public import proofs.«01_k».proof.Proof.Splits
public import Idealize.ShloMosaic.Lib.Claim
public import Idealize.ShloMosaic.Lib.StableHlo.RunRead

@[expose] public section

set_option maxRecDepth 16384

noncomputable section

namespace Cert.InpIdeal.Words

open Idealize.ShloMosaic Idealize.ShloMosaic.TcCoe Idealize.SL.Sem
open Cert.InpIdeal Cert.InpIdeal.Gen
open Facts

variable (m : (ℓ : Loc nD τ sig) → Buf (Elt Ideal) ℓ) (c : Dev nD)

theorem idxs : ∀ t : Fin cfg0.N, win0_0.index t = ![t.val % 8, 0] ∧ win0_1.index t = ![0, 0] ∧ win0_2.index t = ![t.val / 8, 0] ∧
    win0_3.index t = ![t.val / 8, t.val % 8, 0] ∧ win0_4.index t = ![t.val % 8, t.val / 8] :=
  (by decide +kernel : ∀ t : Fin grid0.N, _)

/-- A row divided by its root mean square, times the gain, at a column. -/
def norm (x : FVec Ideal S4096x2048 .f32) (g : FVec Ideal S1x2048 .f32) (r : Fin 4096) (k : Fin 2048) : EReal :=
  x (ix2 r k) * Ideal.rsqrt (Ideal.div (∑ l : Fin 2048, x (ix2 r l) * x (ix2 r l)) (Ideal.ofBits FTy.f32 0x45000000#32) + Ideal.ofBits FTy.f32 0x3727C5AC#32)
    * g (ix2 0 k)

theorem final3 : (dats m 0 c).arrAt 3 (cfgs 0).N = (fun i => norm (V m c main_arg0) (V m c main_arg1) (i 1) (i 2) : FVec Ideal S2x4096x2048 .bf16) := by
  refine (dats m 0 c).arrAt_eq_of_covers 3 _ (by decide +kernel) fun t hf y => ?_
  blk_simp
  rw [after0_3]
  frame_out
  pointwise [k0_pay2, k0_pay1, norm]
  blk_point [iblk, idxs t]

/-- The product of the normed rows with the transposed weights. -/
def total (x : FVec Ideal S4096x2048 .f32) (g : FVec Ideal S1x2048 .f32) (w : FVec Ideal S3328x2048 .bf16) : FVec Ideal S4096x3328 .f32 := fun i =>
  ∑ k : Fin 2048, norm x g (i 0) k * w (ix2 (i 1) k)

theorem final4 : (dats m 0 c).arrAt 4 (cfgs 0).N = total (V m c main_arg0) (V m c main_arg1) (V m c main_v2) := by
  refine (dats m 0 c).arrAt_eq_of_covers 4 _ (by decide +kernel) fun t hf y => ?_
  blk_simp
  rw [after0_4]
  frame_out
  pointwise [k0_pay3, k0_pay1, total, norm]
  blk_point [iblk, idxs t]

theorem V_v2 : V m c main_v2 = (fun i => (m ((c : Thread nD τ).loc main_arg2) : FVec Ideal S1x2048x3328 .f32) (ix3 0 (i 1) (i 0)) : FVec Ideal S3328x2048 .bf16) := by
  unfold V; after_reads_simp
  funext i
  pointwise

open Cert.InpRefIdeal.Read in
/-- The normed row of the reference. -/
theorem ref_norm (x : FVec Ideal S4096x2048 .f32) (g : FVec Ideal S1x2048 .f32) (i : S4096x2048.Idx) :
    val_main_v13 (F := Ideal) x g i = norm x g (i 0) (i 1) := by
  pointwise [norm, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

open Cert.InpRefIdeal.Read in
theorem ref_rows (x : FVec Ideal S4096x2048 .f32) (g : FVec Ideal S1x2048 .f32) (i : S2x4096x2048.Idx) :
    val_main_v17 (F := Ideal) x g i = norm x g (i 1) (i 2) := by
  pointwise [val_main_v17, val_main_v16, val_main_v15, val_main_v14, ref_norm]
  exact ite_self _

open Cert.InpRefIdeal.Read in
theorem ref_total (x : FVec Ideal S4096x2048 .f32) (g : FVec Ideal S1x2048 .f32) (w : FVec Ideal S1x2048x3328 .f32) (i : S4096x3328.Idx) :
    val_main_v19 (F := Ideal) x g w i = ∑ k : Fin 2048, norm x g (i 0) k * w (ix3 0 k (i 1)) := by
  pointwise [val_main_v19, val_main_v18, ref_norm]

open Cert.InpRefIdeal.Read in
/-- The two result arrays are the reference's. -/
theorem value : (dats m 0 c).arrAt 3 (cfgs 0).N = val_main_v17 (F := Ideal) (m ((c : Thread nD τ).loc main_arg0)) (m ((c : Thread nD τ).loc main_arg1)) ∧
    (dats m 0 c).arrAt 4 (cfgs 0).N = val_main_v19 (F := Ideal) (m ((c : Thread nD τ).loc main_arg0)) (m ((c : Thread nD τ).loc main_arg1))
      (m ((c : Thread nD τ).loc main_arg2)) := by
  rw [final3, final4, V_main_arg0, V_main_arg1, V_v2]
  exact ⟨funext fun i => (ref_rows _ _ i).symm, funext fun i => (ref_total _ _ _ i).symm⟩

end Cert.InpIdeal.Words

end
-- ==== Proof.DiVal.lean ====
/- The gradient of the rows that enter the input projection: three products, one for each part of the projection's columns. -/
module

public import proofs.«01_k».proof.Proof.Gen.DiIdeal.Value
public import proofs.«01_k».proof.Proof.Gen.DiRefIdeal.Read
public import proofs.«01_k».proof.Proof.Splits
public import Idealize.ShloMosaic.Lib.Claim
public import Idealize.ShloMosaic.Lib.StableHlo.RunRead

@[expose] public section

set_option maxRecDepth 16384

noncomputable section

namespace Cert.DiIdeal.Words

open Idealize.ShloMosaic Idealize.ShloMosaic.TcCoe Idealize.SL.Sem
open Cert.DiIdeal Cert.DiIdeal.Gen
open Facts

variable (m : (ℓ : Loc nD τ sig) → Buf (Elt Ideal) ℓ) (c : Dev nD)

theorem idxs : ∀ t : Fin cfg0.N, win0_0.index t = ![t.val / 2, 0] ∧ win0_1.index t = ![t.val / 2, 0] ∧ win0_2.index t = ![t.val / 2, 0] ∧
    win0_3.index t = ![0, t.val % 2] ∧ win0_4.index t = ![2, t.val % 2] ∧ win0_5.index t = ![12, t.val % 2] ∧ win0_6.index t = ![t.val / 2, t.val % 2] :=
  (by decide +kernel : ∀ t : Fin grid0.N, _)

/-- The product over the whole contraction, its columns in three parts. -/
def total (a : FVec Ideal S4096x2048 .bf16) (b : FVec Ideal S4096x1024 .bf16) (d : FVec Ideal S4096x256 .bf16) (w : FVec Ideal S3328x2048 .bf16) : FVec Ideal S4096x2048 .f32 := fun i =>
  (∑ k : Fin 2048, a (ix2 (i 0) k) * w (ix2 ⟨k.val, by omega⟩ (i 1))) + (∑ k : Fin 1024, b (ix2 (i 0) k) * w (ix2 ⟨2048 + k.val, by omega⟩ (i 1)))
    + ∑ k : Fin 256, d (ix2 (i 0) k) * w (ix2 ⟨3072 + k.val, by omega⟩ (i 1))

theorem X3 (t : Fin cfg0.N) (k : Fin 2048) (n : Fin 1024) : X0_3 m c t (ix2 k n) = (V m c main_v6 : FVec Ideal S3328x2048 .bf16) (ix2 ⟨k.val, by omega⟩ ⟨t.val % 2 * 1024 + n.val, by omega⟩) := by
  unfold X0_3 Pipeline.Window.fill
  rw [dif_pos (moved0_3 t _)]
  blk_point [iblk, idxs t]
theorem X4 (t : Fin cfg0.N) (k : Fin 1024) (n : Fin 1024) : X0_4 m c t (ix2 k n) = (V m c main_v6 : FVec Ideal S3328x2048 .bf16) (ix2 ⟨2048 + k.val, by omega⟩ ⟨t.val % 2 * 1024 + n.val, by omega⟩) := by
  unfold X0_4 Pipeline.Window.fill
  rw [dif_pos (moved0_4 t _)]
  blk_point [iblk, idxs t]

theorem final6 : (dats m 0 c).arrAt 6 (cfgs 0).N = total (V m c main_v1) (V m c main_v2) (V m c main_v3) (V m c main_v6) := by
  refine (dats m 0 c).arrAt_eq_of_covers 6 _ (by decide +kernel) fun t hf y => ?_
  blk_simp
  rw [after0_6]
  unfold outsAt0
  frame_out
  pointwise [k0_pay1, total]
  refine congrArg₂ (· + ·) (congrArg₂ (· + ·) ?_ ?_) ?_
  · refine Finset.sum_congr rfl fun k _ => congrArg₂ (· * ·) ?_ ((X3 m c t k (y 1)).trans (congrArg (V m c main_v6) ?_))
    · blk_point [iblk, idxs t]
    · blk_ext [idxs t]
  · refine Finset.sum_congr rfl fun k _ => congrArg₂ (· * ·) ?_ ((X4 m c t k (y 1)).trans (congrArg (V m c main_v6) ?_))
    · blk_point [iblk, idxs t]
    · blk_ext [idxs t]
  · blk_point [iblk, idxs t]

theorem V_v1 : V m c main_v1 = (fun i => (m ((c : Thread nD τ).loc main_arg1) : FVec Ideal S4096x3328 .f32) (ix2 (i 0) ⟨(i 1 : ℕ), by idx_bounds; omega⟩) : FVec Ideal S4096x2048 .bf16) := by
  unfold V; after_reads_simp
  funext i
  pointwise
theorem V_v2 : V m c main_v2 = (fun i => (m ((c : Thread nD τ).loc main_arg1) : FVec Ideal S4096x3328 .f32) (ix2 (i 0) ⟨2048 + (i 1 : ℕ), by idx_bounds; omega⟩) : FVec Ideal S4096x1024 .bf16) := by
  unfold V; after_reads_simp
  funext i
  pointwise
theorem V_v3 : V m c main_v3 = (fun i => (m ((c : Thread nD τ).loc main_arg1) : FVec Ideal S4096x3328 .f32) (ix2 (i 0) ⟨3072 + (i 1 : ℕ), by idx_bounds; omega⟩) : FVec Ideal S4096x256 .bf16) := by
  unfold V; after_reads_simp
  funext i
  pointwise
theorem V_v6 : V m c main_v6 = (fun i => (m ((c : Thread nD τ).loc main_arg2) : FVec Ideal S1x2048x3328 .f32) (ix3 0 (i 1) (i 0)) : FVec Ideal S3328x2048 .bf16) := by
  unfold V; after_reads_simp
  funext i
  pointwise

open Cert.DiRefIdeal.Read in
/-- The result array is the derivative the reference takes. -/
theorem value : (dats m 0 c).arrAt 6 (cfgs 0).N = val_main_v2 (F := Ideal) (m ((c : Thread nD τ).loc main_arg1))
    (m ((c : Thread nD τ).loc main_arg2)) := by
  rw [final6, V_v1, V_v2, V_v3, V_v6]
  funext i
  pointwise [total, val_main_v2, val_main_v0]
  rw [Splits.parts]

end Cert.DiIdeal.Words

end
-- ==== Proof.FarVal.lean ====
/- The gradient of the input projection's weights over the rows of both chips of a pair, for the first and the last of the four
   shards of rows: a shard gathers four steps, a step the products of one block of this chip's rows and of one block of the
   sibling's. The two shards between keep what the array held. -/
module

public import proofs.«01_k».proof.Proof.Gen.FarIdeal.Value
public import proofs.«01_k».proof.Proof.Gen.FarRefIdeal.Read
public import proofs.«01_k».proof.Proof.Splits
public import Idealize.ShloMosaic.Lib.Claim
public import Idealize.ShloMosaic.Lib.StableHlo.RunRead

@[expose] public section

set_option maxRecDepth 16384

noncomputable section

namespace Cert.FarIdeal.Words

open Idealize.ShloMosaic Idealize.ShloMosaic.TcCoe Idealize.SL.Sem
open Cert.FarIdeal Cert.FarIdeal.Gen
open Facts

variable (m : (ℓ : Loc nD τ sig) → Buf (Elt Ideal) ℓ) (c : Dev nD)

theorem idxs : ∀ t : Fin cfg0.N, win0_0.index t = ![3 - 3 * (t.val / 4), 0, 0, t.val % 4] ∧ win0_1.index t = ![3 - 3 * (t.val / 4), 0, t.val % 4] ∧
    win0_2.index t = ![0, t.val % 4, 0] ∧ win0_3.index t = ![t.val % 4, 0] ∧ win0_4.index t = ![3 - 3 * (t.val / 4), 0, 0] :=
  (by decide +kernel : ∀ t : Fin grid0.N, _)

/-- What one grid point adds. -/
def part (a : FVec Ideal S1x1x416x1024 .bf16) (b : FVec Ideal S1x416x1024 .bf16) (d : FVec Ideal S1x1024x2048 .bf16) (e : FVec Ideal S1024x2048 .bf16) (j : S1x416x2048.Idx) : EReal :=
  (∑ k : Fin 1024, a (ix4 0 0 (j 1) k) * d (ix3 0 k (j 2))) + ∑ k : Fin 1024, b (ix3 0 (j 1) k) * e (ix2 k (j 2))

theorem point_A (t : Fin cfg0.N) (h : t.val % 4 = 0) (j : S1x416x2048.Idx) :
    (outsAt0 m c t.val t.isLt).1 j = part (iblk m c 0 t) (iblk m c 1 t) (iblk m c 2 t) (iblk m c 3 t) j := by
  rw [outsAt0_A m c t h (by omega) (by omega)]
  frame_out
  pointwise [k0_pay2, k0_pay1, part]

theorem point_B (t : Fin cfg0.N) (h : ¬ t.val % 4 = 0) (j : S1x416x2048.Idx) : (outsAt0 m c t.val t.isLt).1 j =
    (show FVec Ideal S1x416x2048 .f32 from (outsAt0 m c (t.val - 1) (Nat.lt_of_le_of_lt (Nat.sub_le _ _) t.isLt)).1) j
      + part (iblk m c 0 t) (iblk m c 1 t) (iblk m c 2 t) (iblk m c 3 t) j := by
  by_cases h3 : t.val % 4 = 3
  · rw [outsAt0_C m c t h (by omega) h3]
    frame_out
    pointwise [k0_pay3, k0_pay1, part]
  · rw [outsAt0_B m c t h (by omega) h3]
    frame_out
    pointwise [k0_pay3, k0_pay1, part]

/-- The sum over all rows of both chips. -/
def total (a : FVec Ideal S4x2x416x4096 .bf16) (b : FVec Ideal S4x416x4096 .bf16) (d : FVec Ideal S2x4096x2048 .bf16) (e : FVec Ideal S4096x2048 .bf16) (i : S4x416x2048.Idx) : EReal :=
  (∑ k : Fin 4096, a (ix4 (i 0) 0 (i 1) k) * d (ix3 0 k (i 2))) + ∑ k : Fin 4096, b (ix3 (i 0) (i 1) k) * e (ix2 k (i 2))

theorem last (t : Fin cfg0.N) (h : t.val % 4 = 3) (y : S1x416x2048.Idx) : (outsAt0 m c t.val t.isLt).1 y =
    total (V m c main_v2) (V m c main_v7) (V m c main_v11) (V m c main_v12) ((win0_4.blk t).view.emb y) := by
  have h1 : t.val - 1 < cfg0.N := Nat.lt_of_le_of_lt (Nat.sub_le _ _) t.isLt
  have h2 : t.val - 1 - 1 < cfg0.N := Nat.lt_of_le_of_lt (Nat.sub_le _ _) h1
  have h3 : t.val - 1 - 1 - 1 < cfg0.N := Nat.lt_of_le_of_lt (Nat.sub_le _ _) h2
  refine (Splits.four (o := fun n hn => (outsAt0 m c n hn).1 y) (p := fun n hn => part (iblk m c 0 ⟨n, hn⟩) (iblk m c 1 ⟨n, hn⟩) (iblk m c 2 ⟨n, hn⟩) (iblk m c 3 ⟨n, hn⟩) y)
    (fun n hn e => point_A m c ⟨n, hn⟩ e y) (fun n hn e => point_B m c ⟨n, hn⟩ e y) t.val t.isLt h).trans ?_
  unfold total part
  rw [Splits.pairs]
  blk_point [iblk, idxs t, idxs ⟨t.val - 1, h1⟩, idxs ⟨t.val - 1 - 1, h2⟩, idxs ⟨t.val - 1 - 1 - 1, h3⟩]

theorem final4 : (dats m 0 c).arrAt 4 (cfgs 0).N = fun i => if (i 0 : ℕ) / 1 ≠ 1 ∧ (i 0 : ℕ) / 1 ≠ 2 then
    total (V m c main_v2) (V m c main_v7) (V m c main_v11) (V m c main_v12) i else (V m c main_v13_0 : FVec Ideal S4x416x2048 .f32) i := by
  refine (dats m 0 c).arrAt_eq_of_coversWhere 4 _ (fun β => β (0 : Fin 3) ≠ 1 ∧ β (0 : Fin 3) ≠ 2) (by decide +kernel) (fun t hf y => ?_) (fun j => Iff.rfl)
  have h := (flush0_4 t).mp hf
  blk_simp
  rw [after0_4]
  exact last m c t h y

theorem V_v12 : V m c main_v12 = (m ((c : Thread nD τ).loc main_arg1) : FVec Ideal S4096x2048 .f32) := by
  unfold V; after_reads_simp
  rfl
theorem V_v11 : V m c main_v11 = (fun i => (m ((c : Thread nD τ).loc main_arg0) : FVec Ideal S4096x2048 .f32) (ix2 (i 1) (i 2)) : FVec Ideal S2x4096x2048 .bf16) := by
  unfold V; after_reads_simp
  funext i
  pointwise
  split <;> (after_reads_simp; pointwise)
theorem V_v2 : V m c main_v2 = shapeCast S4x2x416x4096 (transpose S3328x4096 [1, 0] (m ((c : Thread nD τ).loc main_arg3) : FVec Ideal S4096x3328 .bf16) transposes_S4096x3328_S3328x4096_1_0) shapeCasts_S3328x4096_S4x2x416x4096 := by
  unfold V; after_reads_simp
  rfl
theorem V_v7 : V m c main_v7 = shapeCast S4x416x4096 (extractStridedSlice S4x1x416x4096 ![0, 0, 0, 0] (shapeCast S4x2x416x4096 (transpose S3328x4096 [1, 0] (m ((c : Thread nD τ).loc main_arg4) : FVec Ideal S4096x3328 .bf16) transposes_S4096x3328_S3328x4096_1_0) shapeCasts_S3328x4096_S4x2x416x4096) slices_S4x2x416x4096_S4x1x416x4096_0_0_0_0) shapeCasts_S4x1x416x4096_S4x416x4096 := by
  unfold V; after_reads_simp
  rfl
theorem V_v13_0 : V m c main_v13_0 = m ((c : Thread nD τ).loc main_arg5) := by
  unfold V; after_reads_simp
  rfl

/-- The column of the weights that a shard and a row of its first half name. -/
def row (s : Fin 4) (e : Fin 416) : Fin 3328 := ⟨s.val * 832 + e.val, by omega⟩

/-- The entry of the gradient at a shard, a row of its first half and a column, over the rows of both chips. -/
def entry (x0 x1 : FVec Ideal S4096x2048 .f32) (x3 x4 : FVec Ideal S4096x3328 .f32) (i : S4x416x2048.Idx) : EReal :=
  (∑ k : Fin 4096, x3 (ix2 k (row (i 0) (i 1))) * x0 (ix2 k (i 2))) + ∑ k : Fin 4096, x4 (ix2 k (row (i 0) (i 1))) * x1 (ix2 k (i 2))

theorem total_eq (x0 x1 : FVec Ideal S4096x2048 .f32) (x3 x4 : FVec Ideal S4096x3328 .f32) (i : S4x416x2048.Idx) :
    total (shapeCast S4x2x416x4096 (transpose S3328x4096 [1, 0] (x3 : FVec Ideal S4096x3328 .bf16) transposes_S4096x3328_S3328x4096_1_0) shapeCasts_S3328x4096_S4x2x416x4096)
      (shapeCast S4x416x4096 (extractStridedSlice S4x1x416x4096 ![0, 0, 0, 0] (shapeCast S4x2x416x4096 (transpose S3328x4096 [1, 0] (x4 : FVec Ideal S4096x3328 .bf16) transposes_S4096x3328_S3328x4096_1_0) shapeCasts_S3328x4096_S4x2x416x4096) slices_S4x2x416x4096_S4x1x416x4096_0_0_0_0) shapeCasts_S4x1x416x4096_S4x416x4096)
      (fun i => x0 (ix2 (i 1) (i 2))) x1 i = entry x0 x1 x3 x4 i := by
  pointwise [total, entry, row]

open Cert.FarRefIdeal.Read in
theorem ref_eq (x0 x1 : FVec Ideal S4096x2048 .f32) (x3 x4 : FVec Ideal S4096x3328 .f32) (i : S4x416x2048.Idx) : val_main_v9 (F := Ideal) x0 x1 x3 x4 i = entry x0 x1 x3 x4 i := by
  pointwise [entry, row, val_main_v9, val_main_v8, val_main_v7, val_main_v6, val_main_v5, val_main_v4, val_main_v3, val_main_v0]

open Cert.FarRefIdeal.Read in
/-- The first and last shards of the reference are the gradient, the two between the array it was given. -/
theorem ref_parts (x0 x1 : FVec Ideal S4096x2048 .f32) (x3 x4 : FVec Ideal S4096x3328 .f32) (x5 : FVec Ideal S4x416x2048 .f32) (i : S4x416x2048.Idx) :
    val_main_v13 (F := Ideal) x0 x1 x3 x4 x5 i = if (i 0 : ℕ) / 1 ≠ 1 ∧ (i 0 : ℕ) / 1 ≠ 2 then val_main_v9 (F := Ideal) x0 x1 x3 x4 i else x5 i := by
  obtain ⟨s, e, n, rfl⟩ : ∃ s e n, i = ix3 s e n := ⟨i 0, i 1, i 2, by pointwise⟩
  unfold val_main_v13 val_main_v10 val_main_v11 val_main_v12
  generalize val_main_v9 (F := Ideal) x0 x1 x3 x4 = g
  fin_cases s <;> pointwise <;> simp

open Cert.FarRefIdeal.Read in
/-- The result array is the reference's. -/
theorem value : (dats m 0 c).arrAt 4 (cfgs 0).N = val_main_v13 (F := Ideal) (m ((c : Thread nD τ).loc main_arg0)) (m ((c : Thread nD τ).loc main_arg1))
      (m ((c : Thread nD τ).loc main_arg3)) (m ((c : Thread nD τ).loc main_arg4)) (m ((c : Thread nD τ).loc main_arg5)) := by
  rw [final4, V_v2, V_v7, V_v11, V_v12, V_v13_0]
  funext i
  rw [ref_parts, ref_eq]
  exact if_congr Iff.rfl (total_eq _ _ _ _ i) rfl

end Cert.FarIdeal.Words

end
-- ==== Proof.Calls.lean ====
/- The claims about the calls that multiply: each frame, and the equation between a call's results and its reference's. -/
module

public import proofs.«01_k».proof.Defs
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.DownVal
public import proofs.«01_k».proof.Proof.Gen.Dz
public import proofs.«01_k».proof.Proof.Gen.Dz.Frame
public import proofs.«01_k».proof.Proof.Gen.DzIdeal
public import proofs.«01_k».proof.Proof.Gen.DzIdeal.Frame
public import proofs.«01_k».proof.Proof.Gen.DzIdeal.Value
public import proofs.«01_k».proof.Proof.Gen.DzRefIdeal
public import proofs.«01_k».proof.Proof.Gen.DzRefIdeal.Run
public import proofs.«01_k».proof.Proof.Gen.DzRefIdeal.Read
public import proofs.«01_k».proof.Proof.DzVal
public import proofs.«01_k».proof.Proof.Gen.Dn
public import proofs.«01_k».proof.Proof.Gen.Dn.Frame
public import proofs.«01_k».proof.Proof.Gen.DnIdeal
public import proofs.«01_k».proof.Proof.Gen.DnIdeal.Frame
public import proofs.«01_k».proof.Proof.Gen.DnIdeal.Value
public import proofs.«01_k».proof.Proof.Gen.DnRefIdeal
public import proofs.«01_k».proof.Proof.Gen.DnRefIdeal.Run
public import proofs.«01_k».proof.Proof.Gen.DnRefIdeal.Read
public import proofs.«01_k».proof.Proof.DnVal
public import proofs.«01_k».proof.Proof.Gen.Gd
public import proofs.«01_k».proof.Proof.Gen.Gd.Frame
public import proofs.«01_k».proof.Proof.Gen.GdIdeal
public import proofs.«01_k».proof.Proof.Gen.GdIdeal.Frame
public import proofs.«01_k».proof.Proof.Gen.GdIdeal.Value
public import proofs.«01_k».proof.Proof.Gen.GdRefIdeal
public import proofs.«01_k».proof.Proof.Gen.GdRefIdeal.Run
public import proofs.«01_k».proof.Proof.Gen.GdRefIdeal.Read
public import proofs.«01_k».proof.Proof.GdRef
public import proofs.«01_k».proof.Proof.Gen.Gu
public import proofs.«01_k».proof.Proof.Gen.Gu.Frame
public import proofs.«01_k».proof.Proof.Gen.GuIdeal
public import proofs.«01_k».proof.Proof.Gen.GuIdeal.Frame
public import proofs.«01_k».proof.Proof.Gen.GuIdeal.Value
public import proofs.«01_k».proof.Proof.Gen.GuRefIdeal
public import proofs.«01_k».proof.Proof.Gen.GuRefIdeal.Run
public import proofs.«01_k».proof.Proof.Gen.GuRefIdeal.Read
public import proofs.«01_k».proof.Proof.GuRef
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.OutVal
public import proofs.«01_k».proof.Proof.Gen.Dm
public import proofs.«01_k».proof.Proof.Gen.Dm.Frame
public import proofs.«01_k».proof.Proof.Gen.DmIdeal
public import proofs.«01_k».proof.Proof.Gen.DmIdeal.Frame
public import proofs.«01_k».proof.Proof.Gen.DmIdeal.Value
public import proofs.«01_k».proof.Proof.Gen.DmRefIdeal
public import proofs.«01_k».proof.Proof.Gen.DmRefIdeal.Run
public import proofs.«01_k».proof.Proof.Gen.DmRefIdeal.Read
public import proofs.«01_k».proof.Proof.DmVal
public import proofs.«01_k».proof.Proof.Gen.Go
public import proofs.«01_k».proof.Proof.Gen.Go.Frame
public import proofs.«01_k».proof.Proof.Gen.GoIdeal
public import proofs.«01_k».proof.Proof.Gen.GoIdeal.Frame
public import proofs.«01_k».proof.Proof.Gen.GoIdeal.Value
public import proofs.«01_k».proof.Proof.Gen.GoRefIdeal
public import proofs.«01_k».proof.Proof.Gen.GoRefIdeal.Run
public import proofs.«01_k».proof.Proof.Gen.GoRefIdeal.Read
public import proofs.«01_k».proof.Proof.GoVal
public import proofs.«01_k».proof.Proof.Gen.Inp
public import proofs.«01_k».proof.Proof.Gen.Inp.Frame
public import proofs.«01_k».proof.Proof.Gen.InpIdeal
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.InpRefIdeal.Read
public import proofs.«01_k».proof.Proof.InpVal
public import proofs.«01_k».proof.Proof.Gen.Di
public import proofs.«01_k».proof.Proof.Gen.Di.Frame
public import proofs.«01_k».proof.Proof.Gen.DiIdeal
public import proofs.«01_k».proof.Proof.Gen.DiIdeal.Frame
public import proofs.«01_k».proof.Proof.Gen.DiIdeal.Value
public import proofs.«01_k».proof.Proof.Gen.DiRefIdeal
public import proofs.«01_k».proof.Proof.Gen.DiRefIdeal.Run
public import proofs.«01_k».proof.Proof.Gen.DiRefIdeal.Read
public import proofs.«01_k».proof.Proof.DiVal
public import proofs.«01_k».proof.Proof.Gen.Far
public import proofs.«01_k».proof.Proof.Gen.Far.Frame
public import proofs.«01_k».proof.Proof.Gen.FarIdeal
public import proofs.«01_k».proof.Proof.Gen.FarIdeal.Frame
public import proofs.«01_k».proof.Proof.Gen.FarIdeal.Value
public import proofs.«01_k».proof.Proof.Gen.FarRefIdeal
public import proofs.«01_k».proof.Proof.Gen.FarRefIdeal.Run
public import proofs.«01_k».proof.Proof.Gen.FarRefIdeal.Read
public import proofs.«01_k».proof.Proof.FarVal
public import Idealize.ShloMosaic.Adequacy
public import Idealize.ShloMosaic.Init

@[expose] public section

set_option maxRecDepth 16384

noncomputable section

open Idealize.ShloMosaic Idealize.SL.Sem

namespace Cert.Down.Claims

theorem frame : Cert.quiescent_Down (hDown := Cert.Down.Gen.facts) := fun m g _ => Cert.Down.Gen.frame m g

theorem frame_ideal : Cert.quiescent_DownIdeal (hDownIdeal := Cert.DownIdeal.Gen.facts) := fun m g _ => Cert.DownIdeal.Gen.frame m g

theorem frame_ref : Cert.quiescent_DownRefIdeal (hDownRefIdeal := Cert.DownRefIdeal.Gen.facts) := fun m g _ =>
  (θ_run _ _ _).mono (fun r h => ⟨fun c => (h c).2, sem_eq_zero_of_no_sems (by decide) r.2⟩) (Cert.DownRefIdeal.Value.run (F := Ideal) m g)

theorem algebraic : Cert.algebraic_DownIdeal_DownRefIdeal (hDownIdeal := Cert.DownIdeal.Gen.facts) (hDownRefIdeal := Cert.DownRefIdeal.Gen.facts) := by
  intro m g m' g' _ hagree
  refine ⟨fun c => (Cert.DownIdeal.Gen.dats m 0 c).arrAt 3 (Cert.DownIdeal.cfgs 0).N, Cert.DownIdeal.Value.run_blocks m g, ?_⟩
  refine (θ_run _ _ _).mono (fun r h c => ?_) (Cert.DownRefIdeal.Value.run (F := Ideal) m' g')
  obtain ⟨h0, k⟩ := h c
  obtain ⟨a0, a1, a2⟩ := hagree c
  have E := Cert.DownIdeal.Words.value m c
  rw [← a0, ← a1, ← a2] at E
  exact ⟨(h0.trans (Cert.DownRefIdeal.Read.val_main_v2_eq _ _ _ )).trans E.symm, k⟩

end Cert.Down.Claims

namespace Cert.Dz.Claims

theorem frame : Cert.quiescent_Dz (hDz := Cert.Dz.Gen.facts) := fun m g _ => Cert.Dz.Gen.frame m g

theorem frame_ideal : Cert.quiescent_DzIdeal (hDzIdeal := Cert.DzIdeal.Gen.facts) := fun m g _ => Cert.DzIdeal.Gen.frame m g

theorem frame_ref : Cert.quiescent_DzRefIdeal (hDzRefIdeal := Cert.DzRefIdeal.Gen.facts) := fun m g _ =>
  (θ_run _ _ _).mono (fun r h => ⟨fun c => (h c).2, sem_eq_zero_of_no_sems (by decide) r.2⟩) (Cert.DzRefIdeal.Value.run (F := Ideal) m g)

theorem algebraic : Cert.algebraic_DzIdeal_DzRefIdeal (hDzIdeal := Cert.DzIdeal.Gen.facts) (hDzRefIdeal := Cert.DzRefIdeal.Gen.facts) := by
  intro m g m' g' _ hagree
  refine ⟨fun c => (Cert.DzIdeal.Gen.dats m 0 c).arrAt 3 (Cert.DzIdeal.cfgs 0).N, Cert.DzIdeal.Value.run_blocks m g, ?_⟩
  refine (θ_run _ _ _).mono (fun r h c => ?_) (Cert.DzRefIdeal.Value.run (F := Ideal) m' g')
  obtain ⟨h0, k⟩ := h c
  obtain ⟨a0, a1, a2⟩ := hagree c
  have E := Cert.DzIdeal.Words.value m c
  rw [← a0, ← a1, ← a2] at E
  exact ⟨(h0.trans (Cert.DzRefIdeal.Read.val_main_v13_eq _ _ _ )).trans E.symm, k⟩

end Cert.Dz.Claims

namespace Cert.Dn.Claims

theorem frame : Cert.quiescent_Dn (hDn := Cert.Dn.Gen.facts) := fun m g _ => Cert.Dn.Gen.frame m g

theorem frame_ideal : Cert.quiescent_DnIdeal (hDnIdeal := Cert.DnIdeal.Gen.facts) := fun m g _ => Cert.DnIdeal.Gen.frame m g

theorem frame_ref : Cert.quiescent_DnRefIdeal (hDnRefIdeal := Cert.DnRefIdeal.Gen.facts) := fun m g _ =>
  (θ_run _ _ _).mono (fun r h => ⟨fun c => (h c).2, sem_eq_zero_of_no_sems (by decide) r.2⟩) (Cert.DnRefIdeal.Value.run (F := Ideal) m g)

theorem algebraic : Cert.algebraic_DnIdeal_DnRefIdeal (hDnIdeal := Cert.DnIdeal.Gen.facts) (hDnRefIdeal := Cert.DnRefIdeal.Gen.facts) := by
  intro m g m' g' _ hagree
  refine ⟨fun c => (Cert.DnIdeal.Gen.dats m 0 c).arrAt 3 (Cert.DnIdeal.cfgs 0).N, Cert.DnIdeal.Value.run_blocks m g, ?_⟩
  refine (θ_run _ _ _).mono (fun r h c => ?_) (Cert.DnRefIdeal.Value.run (F := Ideal) m' g')
  obtain ⟨h0, k⟩ := h c
  obtain ⟨-, a1, a2⟩ := hagree c
  have E := Cert.DnIdeal.Words.value m c
  rw [← a1, ← a2] at E
  exact ⟨(h0.trans (Cert.DnRefIdeal.Read.val_main_v2_eq _ _ )).trans E.symm, k⟩

end Cert.Dn.Claims

namespace Cert.Gd.Claims

theorem frame : Cert.quiescent_Gd (hGd := Cert.Gd.Gen.facts) := fun m g _ => Cert.Gd.Gen.frame m g

theorem frame_ideal : Cert.quiescent_GdIdeal (hGdIdeal := Cert.GdIdeal.Gen.facts) := fun m g _ => Cert.GdIdeal.Gen.frame m g

theorem frame_ref : Cert.quiescent_GdRefIdeal (hGdRefIdeal := Cert.GdRefIdeal.Gen.facts) := fun m g _ =>
  (θ_run _ _ _).mono (fun r h => ⟨fun c => (h c).2.2, sem_eq_zero_of_no_sems (by decide) r.2⟩) (Cert.GdRefIdeal.Value.run (F := Ideal) m g)

theorem algebraic : Cert.algebraic_GdIdeal_GdRefIdeal (hGdIdeal := Cert.GdIdeal.Gen.facts) (hGdRefIdeal := Cert.GdRefIdeal.Gen.facts) := by
  intro m g m' g' _ hagree
  refine ⟨fun c => (Cert.GdIdeal.Gen.dats m 0 c).arrAt 4 (Cert.GdIdeal.cfgs 0).N, fun c => (Cert.GdIdeal.Gen.dats m 0 c).arrAt 5 (Cert.GdIdeal.cfgs 0).N, Cert.GdIdeal.Value.run_blocks m g, ?_⟩
  refine (θ_run _ _ _).mono (fun r h c => ?_) (Cert.GdRefIdeal.Value.run (F := Ideal) m' g')
  obtain ⟨h0, h1, k⟩ := h c
  obtain ⟨a0, a1, -, a3, a4⟩ := hagree c
  have E := Cert.GdIdeal.Words.value m c
  rw [← a0, ← a1, ← a3, ← a4] at E
  exact ⟨(h0.trans (Cert.GdRefIdeal.Read.val_main_v10_eq _ _ _ _ )).trans E.1.symm, (h1.trans (Cert.GdRefIdeal.Read.val_main_v11_eq _ _ _ _ )).trans E.2.symm, k⟩

end Cert.Gd.Claims

namespace Cert.Gu.Claims

theorem frame : Cert.quiescent_Gu (hGu := Cert.Gu.Gen.facts) := fun m g _ => Cert.Gu.Gen.frame m g

theorem frame_ideal : Cert.quiescent_GuIdeal (hGuIdeal := Cert.GuIdeal.Gen.facts) := fun m g _ => Cert.GuIdeal.Gen.frame m g

theorem frame_ref : Cert.quiescent_GuRefIdeal (hGuRefIdeal := Cert.GuRefIdeal.Gen.facts) := fun m g _ =>
  (θ_run _ _ _).mono (fun r h => ⟨fun c => (h c).2.2, sem_eq_zero_of_no_sems (by decide) r.2⟩) (Cert.GuRefIdeal.Value.run (F := Ideal) m g)

theorem algebraic : Cert.algebraic_GuIdeal_GuRefIdeal (hGuIdeal := Cert.GuIdeal.Gen.facts) (hGuRefIdeal := Cert.GuRefIdeal.Gen.facts) := by
  intro m g m' g' _ hagree
  refine ⟨fun c => (Cert.GuIdeal.Gen.dats m 0 c).arrAt 4 (Cert.GuIdeal.cfgs 0).N, fun c => (Cert.GuIdeal.Gen.dats m 0 c).arrAt 5 (Cert.GuIdeal.cfgs 0).N, Cert.GuIdeal.Value.run_blocks m g, ?_⟩
  refine (θ_run _ _ _).mono (fun r h c => ?_) (Cert.GuRefIdeal.Value.run (F := Ideal) m' g')
  obtain ⟨h0, h1, k⟩ := h c
  obtain ⟨a0, a1, -, a3, a4⟩ := hagree c
  have E := Cert.GuIdeal.Words.value m c
  rw [← a0, ← a1, ← a3, ← a4] at E
  exact ⟨(h0.trans (Cert.GuRefIdeal.Read.val_main_v8_eq _ _ _ _ )).trans E.1.symm, (h1.trans (Cert.GuRefIdeal.Read.val_main_v9_eq _ _ _ _ )).trans E.2.symm, k⟩

end Cert.Gu.Claims

namespace Cert.Out.Claims

theorem frame : Cert.quiescent_Out (hOut := Cert.Out.Gen.facts) := fun m g _ => Cert.Out.Gen.frame m g

theorem frame_ideal : Cert.quiescent_OutIdeal (hOutIdeal := Cert.OutIdeal.Gen.facts) := fun m g _ => Cert.OutIdeal.Gen.frame m g

theorem frame_ref : Cert.quiescent_OutRefIdeal (hOutRefIdeal := Cert.OutRefIdeal.Gen.facts) := fun m g _ =>
  (θ_run _ _ _).mono (fun r h => ⟨fun c => (h c).2, sem_eq_zero_of_no_sems (by decide) r.2⟩) (Cert.OutRefIdeal.Value.run (F := Ideal) m g)

theorem algebraic : Cert.algebraic_OutIdeal_OutRefIdeal (hOutIdeal := Cert.OutIdeal.Gen.facts) (hOutRefIdeal := Cert.OutRefIdeal.Gen.facts) := by
  intro m g m' g' _ hagree
  refine ⟨fun c => (Cert.OutIdeal.Gen.dats m 0 c).arrAt 3 (Cert.OutIdeal.cfgs 0).N, Cert.OutIdeal.Value.run_blocks m g, ?_⟩
  refine (θ_run _ _ _).mono (fun r h c => ?_) (Cert.OutRefIdeal.Value.run (F := Ideal) m' g')
  obtain ⟨h0, k⟩ := h c
  obtain ⟨a0, a1, a2⟩ := hagree c
  have E := Cert.OutIdeal.Words.value m c
  rw [← a0, ← a1, ← a2] at E
  exact ⟨(h0.trans (Cert.OutRefIdeal.Read.val_main_v2_eq _ _ _ )).trans E.symm, k⟩

end Cert.Out.Claims

namespace Cert.Dm.Claims

theorem frame : Cert.quiescent_Dm (hDm := Cert.Dm.Gen.facts) := fun m g _ => Cert.Dm.Gen.frame m g

theorem frame_ideal : Cert.quiescent_DmIdeal (hDmIdeal := Cert.DmIdeal.Gen.facts) := fun m g _ => Cert.DmIdeal.Gen.frame m g

theorem frame_ref : Cert.quiescent_DmRefIdeal (hDmRefIdeal := Cert.DmRefIdeal.Gen.facts) := fun m g _ =>
  (θ_run _ _ _).mono (fun r h => ⟨fun c => (h c).2, sem_eq_zero_of_no_sems (by decide) r.2⟩) (Cert.DmRefIdeal.Value.run (F := Ideal) m g)

theorem algebraic : Cert.algebraic_DmIdeal_DmRefIdeal (hDmIdeal := Cert.DmIdeal.Gen.facts) (hDmRefIdeal := Cert.DmRefIdeal.Gen.facts) := by
  intro m g m' g' _ hagree
  refine ⟨fun c => (Cert.DmIdeal.Gen.dats m 0 c).arrAt 2 (Cert.DmIdeal.cfgs 0).N, Cert.DmIdeal.Value.run_blocks m g, ?_⟩
  refine (θ_run _ _ _).mono (fun r h c => ?_) (Cert.DmRefIdeal.Value.run (F := Ideal) m' g')
  obtain ⟨h0, k⟩ := h c
  obtain ⟨-, a1, a2⟩ := hagree c
  have E := Cert.DmIdeal.Words.value m c
  rw [← a1, ← a2] at E
  exact ⟨(h0.trans (Cert.DmRefIdeal.Read.val_main_v2_eq _ _ )).trans E.symm, k⟩

end Cert.Dm.Claims

namespace Cert.Go.Claims

theorem frame : Cert.quiescent_Go (hGo := Cert.Go.Gen.facts) := fun m g _ => Cert.Go.Gen.frame m g

theorem frame_ideal : Cert.quiescent_GoIdeal (hGoIdeal := Cert.GoIdeal.Gen.facts) := fun m g _ => Cert.GoIdeal.Gen.frame m g

theorem frame_ref : Cert.quiescent_GoRefIdeal (hGoRefIdeal := Cert.GoRefIdeal.Gen.facts) := fun m g _ =>
  (θ_run _ _ _).mono (fun r h => ⟨fun c => (h c).2.2, sem_eq_zero_of_no_sems (by decide) r.2⟩) (Cert.GoRefIdeal.Value.run (F := Ideal) m g)

theorem algebraic : Cert.algebraic_GoIdeal_GoRefIdeal (hGoIdeal := Cert.GoIdeal.Gen.facts) (hGoRefIdeal := Cert.GoRefIdeal.Gen.facts) := by
  intro m g m' g' _ hagree
  refine ⟨fun c => (Cert.GoIdeal.Gen.dats m 0 c).arrAt 4 (Cert.GoIdeal.cfgs 0).N, fun c => (Cert.GoIdeal.Gen.dats m 0 c).arrAt 5 (Cert.GoIdeal.cfgs 0).N, Cert.GoIdeal.Value.run_blocks m g, ?_⟩
  refine (θ_run _ _ _).mono (fun r h c => ?_) (Cert.GoRefIdeal.Value.run (F := Ideal) m' g')
  obtain ⟨h0, h1, k⟩ := h c
  obtain ⟨a0, a1, -, a3, a4⟩ := hagree c
  have E := Cert.GoIdeal.Words.value m c
  rw [← a0, ← a1, ← a3, ← a4] at E
  exact ⟨(h0.trans (Cert.GoRefIdeal.Read.val_main_v8_eq _ _ _ _ )).trans E.1.symm, (h1.trans (Cert.GoRefIdeal.Read.val_main_v9_eq _ _ _ _ )).trans E.2.symm, k⟩

end Cert.Go.Claims

namespace Cert.Inp.Claims

theorem frame : Cert.quiescent_Inp (hInp := Cert.Inp.Gen.facts) := fun m g _ => Cert.Inp.Gen.frame m g

theorem frame_ideal : Cert.quiescent_InpIdeal (hInpIdeal := Cert.InpIdeal.Gen.facts) := fun m g _ => Cert.InpIdeal.Gen.frame m g

theorem frame_ref : Cert.quiescent_InpRefIdeal (hInpRefIdeal := Cert.InpRefIdeal.Gen.facts) := fun m g _ =>
  (θ_run _ _ _).mono (fun r h => ⟨fun c => (h c).2.2, sem_eq_zero_of_no_sems (by decide) r.2⟩) (Cert.InpRefIdeal.Value.run (F := Ideal) m g)

theorem algebraic : Cert.algebraic_InpIdeal_InpRefIdeal (hInpIdeal := Cert.InpIdeal.Gen.facts) (hInpRefIdeal := Cert.InpRefIdeal.Gen.facts) := by
  intro m g m' g' _ hagree
  refine ⟨fun c => (Cert.InpIdeal.Gen.dats m 0 c).arrAt 3 (Cert.InpIdeal.cfgs 0).N, fun c => (Cert.InpIdeal.Gen.dats m 0 c).arrAt 4 (Cert.InpIdeal.cfgs 0).N, Cert.InpIdeal.Value.run_blocks m g, ?_⟩
  refine (θ_run _ _ _).mono (fun r h c => ?_) (Cert.InpRefIdeal.Value.run (F := Ideal) m' g')
  obtain ⟨h0, h1, k⟩ := h c
  obtain ⟨a0, a1, a2⟩ := hagree c
  have E := Cert.InpIdeal.Words.value m c
  rw [← a0, ← a1, ← a2] at E
  exact ⟨(h0.trans (Cert.InpRefIdeal.Read.val_main_v17_eq _ _ )).trans E.1.symm, (h1.trans (Cert.InpRefIdeal.Read.val_main_v19_eq _ _ _ )).trans E.2.symm, k⟩

end Cert.Inp.Claims

namespace Cert.Di.Claims

theorem frame : Cert.quiescent_Di (hDi := Cert.Di.Gen.facts) := fun m g _ => Cert.Di.Gen.frame m g

theorem frame_ideal : Cert.quiescent_DiIdeal (hDiIdeal := Cert.DiIdeal.Gen.facts) := fun m g _ => Cert.DiIdeal.Gen.frame m g

theorem frame_ref : Cert.quiescent_DiRefIdeal (hDiRefIdeal := Cert.DiRefIdeal.Gen.facts) := fun m g _ =>
  (θ_run _ _ _).mono (fun r h => ⟨fun c => (h c).2, sem_eq_zero_of_no_sems (by decide) r.2⟩) (Cert.DiRefIdeal.Value.run (F := Ideal) m g)

theorem algebraic : Cert.algebraic_DiIdeal_DiRefIdeal (hDiIdeal := Cert.DiIdeal.Gen.facts) (hDiRefIdeal := Cert.DiRefIdeal.Gen.facts) := by
  intro m g m' g' _ hagree
  refine ⟨fun c => (Cert.DiIdeal.Gen.dats m 0 c).arrAt 6 (Cert.DiIdeal.cfgs 0).N, Cert.DiIdeal.Value.run_blocks m g, ?_⟩
  refine (θ_run _ _ _).mono (fun r h c => ?_) (Cert.DiRefIdeal.Value.run (F := Ideal) m' g')
  obtain ⟨h0, k⟩ := h c
  obtain ⟨-, a1, a2⟩ := hagree c
  have E := Cert.DiIdeal.Words.value m c
  rw [← a1, ← a2] at E
  exact ⟨(h0.trans (Cert.DiRefIdeal.Read.val_main_v2_eq _ _ )).trans E.symm, k⟩

end Cert.Di.Claims

namespace Cert.Far.Claims

theorem frame : Cert.quiescent_Far (hFar := Cert.Far.Gen.facts) := fun m g _ => Cert.Far.Gen.frame m g

theorem frame_ideal : Cert.quiescent_FarIdeal (hFarIdeal := Cert.FarIdeal.Gen.facts) := fun m g _ => Cert.FarIdeal.Gen.frame m g

theorem frame_ref : Cert.quiescent_FarRefIdeal (hFarRefIdeal := Cert.FarRefIdeal.Gen.facts) := fun m g _ =>
  (θ_run _ _ _).mono (fun r h => ⟨fun c => (h c).2, sem_eq_zero_of_no_sems (by decide) r.2⟩) (Cert.FarRefIdeal.Value.run (F := Ideal) m g)

theorem algebraic : Cert.algebraic_FarIdeal_FarRefIdeal (hFarIdeal := Cert.FarIdeal.Gen.facts) (hFarRefIdeal := Cert.FarRefIdeal.Gen.facts) := by
  intro m g m' g' _ hagree
  refine ⟨fun c => (Cert.FarIdeal.Gen.dats m 0 c).arrAt 4 (Cert.FarIdeal.cfgs 0).N, (θ_run _ _ _).mono (fun r h c => ⟨(h c).1, (h c).2.2⟩) (Cert.FarIdeal.Value.run_blocks m g), ?_⟩
  refine (θ_run _ _ _).mono (fun r h c => ?_) (Cert.FarRefIdeal.Value.run (F := Ideal) m' g')
  obtain ⟨h0, k⟩ := h c
  obtain ⟨a0, a1, -, a3, a4, a5⟩ := hagree c
  have E := Cert.FarIdeal.Words.value m c
  rw [← a0, ← a1, ← a3, ← a4, ← a5] at E
  exact ⟨(h0.trans (Cert.FarRefIdeal.Read.val_main_v13_eq _ _ _ _ _ )).trans E.symm, k⟩

end Cert.Far.Claims

end
-- ==== Proof.UpFrame.lean ====
/- The run of the call that normalises the rows and multiplies by the widening weights: each of its points leaves its blocks at
   functions of the blocks staged there, the normalised rows staying in the scratch buffer from one column of the grid to
   the next. -/
module

public import proofs.«01_k».proof.Proof.Gen.UpIdeal.Launch
public import proofs.«01_k».proof.Proof.Gen.UpIdeal.Skeleton
public import proofs.«01_k».proof.Proof.Gen.UpIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.UpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.UpIdeal Cert.UpIdeal.Gen
open Facts

variable {F : FTy → Type} [FloatOps F]

local notation "𝕄" => MT nD τ sig Unit (Elt F) ℕ (UR sig nD τ) ℕ

section Body

variable (c : Dev nD) (i : grid0.Coords)
  (a0 : Memref sig .tc .vmem S1024x2048 .f32) (w0 : a0.IsWhole) (a1 : Memref sig .tc .vmem S1x2048 .f32) (w1 : a1.IsWhole)
  (a2 : Memref sig .tc .vmem S1x2048x1024 .bf16) (w2 : a2.IsWhole) (a3 : Memref sig .tc .vmem S2048x1024 .bf16) (w3 : a3.IsWhole)
  (a4 : Memref sig .tc .vmem S1024x1024 .bf16) (w4 : a4.IsWhole) (a5 : Memref sig .tc .vmem S1024x1024 .bf16) (w5 : a5.IsWhole)
  (a6 : Memref sig .tc .vmem S1024x1024 .bf16) (w6 : a6.IsWhole) (a7 : Memref sig .tc .vmem S1024x2048 .bf16) (w7 : a7.IsWhole)
  (x0 : Vec F S1024x2048 .f32) (x1 : Vec F S1x2048 .f32) (x2 : Vec F S1x2048x1024 .bf16)

/-- What the three products' buffers hold after the body, the scratch buffer holding the rows `n`. -/
def products (n : Vec F S1024x2048 .bf16) : sProp 𝕄 :=
  iprop(owns (c : Thread nD τ) a4 fullShare (k0_pay5 n x2) ∗ owns (c : Thread nD τ) a5 fullShare (k0_pay6 n x2) ∗ owns (c : Thread nD τ) a6 fullShare (k0_pay7 n x2)
    ∗ owns (c : Thread nD τ) a7 fullShare n)

set_option maxHeartbeats 1000000 in
/-- At the first column of the grid the body normalises the rows, keeps them in the scratch buffer and stores their transpose. -/
theorem first (hc : k0_cond1 i = 1#1) (E : Set ℕ) (K : PUnit → sProp 𝕄) :
    iprop(owns (c : Thread nD τ) a0 fullShare x0 ∗ owns (c : Thread nD τ) a1 fullShare x1 ∗ owns (c : Thread nD τ) a2 fullShare x2
        ∗ (∃ d, owns (c : Thread nD τ) a3 fullShare d) ∗ (∃ d, owns (c : Thread nD τ) a4 fullShare d) ∗ (∃ d, owns (c : Thread nD τ) a5 fullShare d)
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1 ∗ owns (c : Thread nD τ) a2 fullShare x2
            ∗ owns (c : Thread nD τ) a3 fullShare (k0_pay3 x0 x1) ∗ products c a4 a5 a6 a7 x2 (k0_pay2 x0 x1)) -∗ K ⟨⟩))
      ⊢ wp frame (wpE (defs₀ (F := F)) Variants.none c none) E (cc0_up_proj i a0 w0 a1 w1 a2 w2 a3 w3 a4 w4 a5 w5 a6 w6 a7 w7) K := by
  simp only [cc0_up_proj_eq_skeleton]; unfold cc0_up_proj_skel
  unfold products owns
  iintro ⟨⟨%f0, %e0, H0⟩, ⟨%f1, %e1, H1⟩, ⟨%f2, %e2, H2⟩, ⟨%d3, %f3, -, H3⟩, ⟨%d4, %f4, -, H4⟩, ⟨%d5, %f5, -, H5⟩, ⟨%d6, %f6, -, H6⟩, ⟨%d7, %f7, -, H7⟩, Hk⟩
  sl_exec (disch := sl_exact hc)
  sl_step
  unfold first.sl.v3 first.sl.H7_1
  rw [View.readCov_full, View.readAt_full, View.readAt_full, View.readAt_full, e0, e1, e2]
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; swap; · iexact H3
    ipureintro; exact View.read_writes_full ..
  isplitl [H4]
  · iexists _; isplitr; swap; · iexact H4
    ipureintro; exact View.read_writes_full ..
  isplitl [H5]
  · iexists _; isplitr; swap; · iexact H5
    ipureintro; exact View.read_writes_full ..
  isplitl [H6]
  · iexists _; isplitr; swap; · iexact H6
    ipureintro; exact View.read_writes_full ..
  iexists _; isplitr; swap; · iexact H7
  ipureintro; exact View.read_writes_full ..

set_option maxHeartbeats 1000000 in
/-- At every other column the body multiplies the rows it finds in the scratch buffer, and leaves them and the transpose as they are. -/
theorem later (hc : ¬k0_cond1 i = 1#1) (n : Vec F S1024x2048 .bf16) (E : Set ℕ) (K : PUnit → sProp 𝕄) :
    iprop(owns (c : Thread nD τ) a2 fullShare x2
        ∗ (∃ d, owns (c : Thread nD τ) a4 fullShare d) ∗ (∃ d, owns (c : Thread nD τ) a5 fullShare d)
        ∗ (∃ d, owns (c : Thread nD τ) a6 fullShare d) ∗ owns (c : Thread nD τ) a7 fullShare n
        ∗ (iprop(owns (c : Thread nD τ) a2 fullShare x2 ∗ products c a4 a5 a6 a7 x2 n) -∗ K ⟨⟩))
      ⊢ wp frame (wpE (defs₀ (F := F)) Variants.none c none) E (cc0_up_proj i a0 w0 a1 w1 a2 w2 a3 w3 a4 w4 a5 w5 a6 w6 a7 w7) K := by
  simp only [cc0_up_proj_eq_skeleton]; unfold cc0_up_proj_skel
  unfold products owns
  iintro ⟨⟨%f2, %e2, H2⟩, ⟨%d4, %f4, -, H4⟩, ⟨%d5, %f5, -, H5⟩, ⟨%d6, %f6, -, H6⟩, ⟨%f7, %e7, H7⟩, Hk⟩
  sl_exec (disch := sl_exact hc)
  sl_step
  rw [View.readAt_full, View.readAt_full, e2, e7]
  iapply Hk
  isplitl [H2]
  · iexists _; isplitr; · ipureintro; exact e2
    iexact H2
  isplitl [H4]
  · iexists _; isplitr; swap; · iexact H4
    ipureintro; exact View.read_writes_full ..
  isplitl [H5]
  · iexists _; isplitr; swap; · iexact H5
    ipureintro; exact View.read_writes_full ..
  isplitl [H6]
  · iexists _; isplitr; swap; · iexact H6
    ipureintro; exact View.read_writes_full ..
  iexists _; isplitr; swap; · iexact H7
  ipureintro; exact e7

end Body

variable (m : (ℓ : Loc nD τ sig) → Buf (Elt F) ℓ) (ρ : Dev nD → PrngReg) (c : Dev nD)

/-- The buffers when the grid is entered: after the operations on the weights. -/
abbrev V (c : Dev nD) (b : Ref sig .tc) : Buf (Elt F) ((c : Thread nD τ).loc b) := StableHlo.after hostOps0 (fun b => m (c, b)) b

/-- What the operations on the weights do not write stays as launched. -/
theorem V_of_ne (b : Ref sig .tc) (h : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h.1, StableHlo.devRef_ne_of_ne h.2.1, StableHlo.devRef_ne_of_ne h.2.2.1, StableHlo.devRef_ne_of_ne h.2.2.2⟩))

theorem enter (𝒱 : Variants) : Pipeline.HMain (Ix := Unit) (Name := ℕ) (U := UR sig nD τ) (Lvl := ℕ) cfgs 0 defs₀ 𝒱 m (main (F := F)) (V m) :=
  Pipeline.hmain_prefix cfgs 0 defs₀ 𝒱 m main hostOps0 hostOps0_sub (by simp only [List.Forall]; repeat' constructor) main_chain

/-- The block of an array that a point stages. -/
def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The rows a point multiplies: those staged there, normalised. -/
def rows (t : Fin cfg0.N) : Vec F S1024x2048 .bf16 := k0_pay2 (iblk m c 0 t) (iblk m c 1 t)

/-- The state between points: the scratch buffer holds the rows of the point before, except at the start of a row of the grid. -/
def between (t : Fin (cfg0.N + 1)) : sProp 𝕄 :=
  iprop((∃ X, ⌜∀ u : Fin cfg0.N, u.val + 1 = t.val → t.val % 8 ≠ 0 → X = rows m c u⌝ ∗ owns (c : Thread nD τ) (Memref.whole cc0_scratch0) fullShare X)
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (iblk m c 0 t) (iblk m c 1 t)
    | ⟨4, _⟩ => k0_pay5 (rows m c t) (iblk m c 2 t)
    | ⟨5, _⟩ => k0_pay6 (rows m c t) (iblk m c 2 t)
    | ⟨6, _⟩ => k0_pay7 (rows m c t) (iblk m c 2 t)
  Φ t := between m c t
  q _ := fullShare
  owed _ := 0

theorem A_eq (w : Fin cfg0.W) : (dats m 0 c).A w = V m c (Pipeline.arrRef spec0 w) := by dsimp only [dats]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = k0_pay3 (iblk m c 0 t) (iblk m c 1 t) := by dsimp only [dats]
theorem after_4 (t : Fin cfg0.N) : (dats m 0 c).after 4 t = k0_pay5 (rows m c t) (iblk m c 2 t) := by dsimp only [dats]
theorem after_5 (t : Fin cfg0.N) : (dats m 0 c).after 5 t = k0_pay6 (rows m c t) (iblk m c 2 t) := by dsimp only [dats]
theorem after_6 (t : Fin cfg0.N) : (dats m 0 c).after 6 t = k0_pay7 (rows m c t) (iblk m c 2 t) := by dsimp only [dats]

theorem before_0 (t : Fin cfg0.N) (d) : (dats m 0 c).before 0 t d = iblk m c 0 t :=
  (dats m 0 c).before_in_eq_fetched 0 rfl (fun _ => rfl) (fun _ _ _ => rfl) (fun _ => rfl) t d
theorem before_1 (t : Fin cfg0.N) (d) : (dats m 0 c).before 1 t d = iblk m c 1 t :=
  (dats m 0 c).before_in_eq_fetched 1 rfl (fun _ => rfl) (fun _ _ _ => rfl) (fun _ => rfl) t d
theorem before_2 (t : Fin cfg0.N) (d) : (dats m 0 c).before 2 t d = iblk m c 2 t :=
  (dats m 0 c).before_in_eq_fetched 2 rfl (fun _ => rfl) (fun _ _ _ => rfl) (fun _ => rfl) t d

theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

theorem idle_iff : ∀ t : Fin cfg0.N, cfg0.idle 3 (grid0.coords t) = !decide (t.val % 8 = 0) := by decide +kernel

/-- The transpose's buffer holds nothing of the body's only at the start of a row of the grid. -/
theorem fresh_eq (t : Fin cfg0.N) : cfg0.fresh 3 t.val = decide (t.val % 8 = 0) :=
  Pipeline.Cfg.fresh_tab cfg0 3 (fun n => decide (n % 8 = 0)) rfl (by decide +kernel) t.val (Nat.le_of_lt t.isLt)

/-- The point before. -/
abbrev prev (t : Fin cfg0.N) : Fin cfg0.N := ⟨t.val - 1, Nat.lt_of_le_of_lt (Nat.sub_le _ _) t.isLt⟩

/-- Within a row of the grid the same rows are staged, -/
theorem same_0 (t : Fin cfg0.N) (h : t.val % 8 ≠ 0) : iblk m c 0 t = iblk m c 0 (prev t) :=
  (dats m 0 c).fetched_congr 0 ((cfg0.win 0).index_eq_of_fetch rfl t (by simpa using fun e => h ((fetch0_0 t).mp e))).2 rfl (fun _ => Classical.choice inferInstance)

/-- and the same gain. -/
theorem same_1 (t : Fin cfg0.N) : iblk m c 1 t = iblk m c 1 (prev t) :=
  (dats m 0 c).fetched_congr 1 (t := t) (t' := prev t) rfl rfl (fun _ => Classical.choice inferInstance)

theorem rows_eq (t : Fin cfg0.N) (h : t.val % 8 ≠ 0) : rows m c t = rows m c (prev t) := by
  unfold rows; rw [same_0 m c t h, same_1 m c t]

theorem after_3_eq (t : Fin cfg0.N) (h : t.val % 8 ≠ 0) : (dats m 0 c).after 3 t = (dats m 0 c).after 3 (prev t) := by
  rw [after_3, after_3, same_0 m c t h, same_1 m c t]

/-- Past the start of a row of the grid the transpose's buffer holds the transpose. -/
theorem before_3 (t : Fin cfg0.N) (h : t.val % 8 ≠ 0) (d) : (dats m 0 c).before 3 t d = (dats m 0 c).after 3 t := by
  rw [Dat.before_out_traj _ 3 rfl (fun _ _ => rfl) (fun t _ _ hf => after_3_eq m c t (by simpa [fresh_eq] using hf)) t.val t rfl d,
    if_neg (by rw [fresh_eq]; simpa using h), after_3_eq m c t h]

theorem leaves_live (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- Past the start of a row of the grid the body hands the transpose's buffer back as it found it. -/
theorem leaves_3 (t : Fin cfg0.N) (h : t.val % 8 ≠ 0) :
    (iprop(∃ d, owns (c : Thread nD τ) (st0_3 t) fullShare ((dats m 0 c).before 3 t d)) : sProp 𝕄) ⊢ (dats m 0 c).leavesExact 3 t := by
  have hi : cfg0.idle 3 (cfg0.grid.coords t) = true := by rw [show _ = _ from idle_iff t]; simpa using h
  by_cases hf : (cfg0.win 3).flush t = true
  · unfold Dat.leavesExact; rw [hi, hf]
    simp only [before_3 m c t h]
    iintro ⟨%d, H⟩; iexact H
  · rw [Dat.leavesExact_idle _ 3 t hi (by simpa using hf)]

def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)))

def bodyPost (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t)

/-- The rows left in the scratch buffer are those the next point finds there. -/
theorem between_succ (t : Fin cfg0.N) :
    (iprop(owns (c : Thread nD τ) (Memref.whole cc0_scratch0) fullShare (rows m c t) ∗ ∃ r, prngReg c r) : sProp 𝕄) ⊢ (dats m 0 c).Φ t.succ := by
  show _ ⊢ between m c t.succ
  unfold between
  iintro ⟨H, Hr⟩
  isplitl [H]
  · iexists _; isplitr; swap; · iexact H
    ipureintro
    intro u hu _
    rw [show u = t from Fin.ext (by simpa using hu)]
  iexact Hr

set_option maxHeartbeats 1000000 in
/-- The body at any point. -/
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, leaves_live m c 0 t rfl, leaves_live m c 1 t rfl, leaves_live m c 2 t rfl,
    leaves_live m c 4 t rfl, leaves_live m c 5 t rfl, leaves_live m c 6 t rfl, after_0, after_1, after_2, after_4, after_5, after_6]
  by_cases h : t.val % 8 = 0
  · rw [leaves_live m c 3 t (by rw [show _ = _ from idle_iff t]; simpa using h), after_3,
      show (dats m 0 c).Φ t.castSucc = between m c t.castSucc from rfl]
    unfold between
    iintro ⟨⟨⟨%X, -, Hx⟩, Hr⟩, Ho, ⟨%d0, H0⟩, ⟨%d1, H1⟩, ⟨%d2, H2⟩, ⟨%d3, H3⟩, ⟨%d4, H4⟩, ⟨%d5, H5⟩, ⟨%d6, H6⟩⟩
    iapply (first c (grid0.coords t) _ _ _ _ _ _ _ _ _ _ _ _ _ _ _ _ (iblk m c 0 t) (iblk m c 1 t) (iblk m c 2 t) ((cond_iff t).mpr h) Set.univ _)
    unfold products
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [Hx]; · iexists _; iexact Hx
    iintro ⟨H0, H1, H2, H3, H4, H5, H6, Hx⟩
    isplitl [Hx Hr]
    · iapply (between_succ m c t)
      isplitl [Hx]; · iexact Hx
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).Φ t.castSucc = between m c t.castSucc from rfl]
    unfold between
    iintro ⟨⟨⟨%X, %hX, Hx⟩, Hr⟩, Ho, ⟨%d0, H0⟩, ⟨%d1, H1⟩, ⟨%d2, H2⟩, H3, ⟨%d4, H4⟩, ⟨%d5, H5⟩, ⟨%d6, H6⟩⟩
    obtain rfl : X = rows m c t := (hX (prev t) (by show t.val - 1 + 1 = t.val; omega) h).trans (rows_eq m c t h).symm
    iapply (later c (grid0.coords t) _ _ _ _ _ _ _ _ _ _ _ _ _ _ _ _ (iblk m c 2 t) (fun e => h ((cond_iff t).mp e)) (rows m c t) Set.univ _)
    unfold products
    isplitl [H2]; · iexact H2
    isplitl [H4]; · iexists _; iexact H4
    isplitl [H5]; · iexists _; iexact H5
    isplitl [H6]; · iexists _; iexact H6
    isplitl [Hx]; · iexact Hx
    iintro ⟨H2, H4, H5, H6, Hx⟩
    isplitl [Hx Hr]
    · iapply (between_succ m c t)
      isplitl [Hx]; · iexact Hx
      iexact Hr
    isplitl [Ho]; · iexact Ho
    isplitl [H0]; · iexact H0
    isplitl [H1]; · iexact H1
    isplitl [H2]; · iexact H2
    isplitl [H3]; · iapply (leaves_3 m c t h); iexact H3
    isplitl [H4]; · iexact H4
    isplitl [H5]; · iexact H5
    iexact H6

theorem body_obligation : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

set_option backward.isDefEq.respectTransparency.types false in
/-- Every run ends with each array at what its points left and every other array as the grid found it, no semaphore counting. -/
theorem run : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := enter m Variants.none) (hA := A_eq m)
    (hin := fun c => by
      show _ ⊢ between m c 0
      unfold Pipeline.ΦA between; rw [scopedRest0_eq]
      iintro ⟨⟨%f, H⟩, Hr⟩
      isplitl [H]
      · iexists f; isplitr
        · ipureintro; intro u hu; simp at hu
        rw [owns_whole]; iexact H
      iexact Hr)
    (hout := fun c => by
      show between m c (Fin.last cfg0.N) ⊢ _
      unfold Pipeline.ΦA between; rw [scopedRest0_eq]
      iintro ⟨⟨%X, -, H⟩, Hr⟩
      isplitl [H]
      · iexists X; rw [← owns_whole]; iexact H
      iexact Hr)

/-- What a run leaves: the four results at what the points left, the arguments as launched. -/
theorem ends : θ_run defs (onTc (τ := τ) (main (F := F))) ⟨m, fun _ => 0, ρ⟩ (fun r => (∀ c : Dev nD,
      r.2.mem ((c : Thread nD τ).loc main_v4_0) = (dats m 0 c).arrAt 3 (cfgs 0).N
      ∧ r.2.mem ((c : Thread nD τ).loc main_v4_1) = (dats m 0 c).arrAt 4 (cfgs 0).N
      ∧ r.2.mem ((c : Thread nD τ).loc main_v4_2) = (dats m 0 c).arrAt 5 (cfgs 0).N
      ∧ r.2.mem ((c : Thread nD τ).loc main_v4_3) = (dats m 0 c).arrAt 6 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun r h => ⟨fun c => ⟨(h.1 c).1 3, (h.1 c).1 4, (h.1 c).1 5, (h.1 c).1 6,
    ((h.1 c).1 0).trans (((dats m 0 c).arrAt_in 0 rfl _).trans ((A_eq m c 0).trans (V_of_ne m c main_arg0 (by decide)))),
    ((h.1 c).1 1).trans (((dats m 0 c).arrAt_in 1 rfl _).trans ((A_eq m c 1).trans (V_of_ne m c main_arg1 (by decide)))),
    ((h.1 c).2 main_arg2 (Pipeline.mem_restRefs_of main_arg2 (by decide) (by decide))).trans (V_of_ne m c main_arg2 (by decide))⟩, h.2⟩) (run m ρ)

/-- The arguments alone. -/
theorem keeps : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run defs _ _).mono (fun _ h => ⟨fun c => (h.1 c).2.2.2.2, h.2⟩) (ends m ρ)

end Cert.UpIdeal.Run

end
-- ==== Proof.UpVal.lean ====
/- The widening product: the normed rows times the weights, negative values cut off, with its square, the square's transpose
   and the normed rows' transpose. -/
module

public import proofs.«01_k».proof.Proof.UpFrame
public import proofs.«01_k».proof.Proof.Gen.UpRefIdeal.Read
public import Idealize.ShloMosaic.Lib.Pipeline.ValueKit
public import Idealize.ShloMosaic.Lib.StableHlo.RunRead

@[expose] public section

set_option maxRecDepth 16384

noncomputable section

namespace Cert.UpIdeal.Words

open Idealize.ShloMosaic Idealize.ShloMosaic.TcCoe Idealize.SL.Sem
open Cert.UpIdeal Cert.UpIdeal.Gen Cert.UpIdeal.Run
open Facts

variable (m : (ℓ : Loc nD τ sig) → Buf (Elt Ideal) ℓ) (c : Dev nD)

theorem idxs : ∀ t : Fin cfg0.N, win0_0.index t = ![t.val / 8, 0] ∧ win0_1.index t = ![0, 0] ∧ win0_2.index t = ![t.val % 8 / 2, 0, t.val % 2] ∧
    win0_3.index t = ![0, t.val / 8] ∧ win0_4.index t = ![t.val / 8, t.val % 8] ∧ win0_5.index t = ![t.val / 8, t.val % 8] ∧
    win0_6.index t = ![t.val % 8, t.val / 8] :=
  (by decide +kernel : ∀ t : Fin grid0.N, _)

/-- A row divided by its root mean square, times the gain, at a column. -/
def norm (x : FVec Ideal S4096x2048 .f32) (g : FVec Ideal S1x2048 .f32) (r : Fin 4096) (k : Fin 2048) : EReal :=
  x (ix2 r k) * Ideal.rsqrt (Ideal.div (∑ l : Fin 2048, x (ix2 r l) * x (ix2 r l)) (Ideal.ofBits FTy.f32 0x45000000#32) + Ideal.ofBits FTy.f32 0x3727C5AC#32)
    * g (ix2 0 k)

/-- The normed rows times the weights, the weights' columns lying in four blocks, with negative values cut off. -/
def total (x : FVec Ideal S4096x2048 .f32) (g : FVec Ideal S1x2048 .f32) (w : FVec Ideal S4x2048x2048 .bf16) (r : Fin 4096) (n : Fin 8192) : EReal :=
  max (∑ k : Fin 2048, norm x g r k * w (ix3 ⟨n.val / 2048, by omega⟩ k ⟨n.val % 2048, by omega⟩)) 0

theorem final3 : (dats m 0 c).arrAt 3 (cfgs 0).N = (fun i => norm (V m c main_arg0) (V m c main_arg1) (i 1) (i 0) : FVec Ideal S2048x4096 .bf16) := by
  refine (dats m 0 c).arrAt_eq_of_covers 3 _ (by decide +kernel) fun t hf y => ?_
  blk_simp
  rw [after_3]
  pointwise [k0_pay3, k0_pay1, norm]
  blk_point [iblk, idxs t]

theorem final4 : (dats m 0 c).arrAt 4 (cfgs 0).N = (fun i => total (V m c main_arg0) (V m c main_arg1) (V m c main_v3) (i 0) (i 1) : FVec Ideal S4096x8192 .bf16) := by
  refine (dats m 0 c).arrAt_eq_of_covers 4 _ (by decide +kernel) fun t hf y => ?_
  blk_simp
  rw [after_4]
  pointwise [k0_pay5, k0_pay4, rows, k0_pay2, k0_pay1, total, norm]
  blk_point [iblk, idxs t]

theorem final5 : (dats m 0 c).arrAt 5 (cfgs 0).N = (fun i => total (V m c main_arg0) (V m c main_arg1) (V m c main_v3) (i 0) (i 1)
    * total (V m c main_arg0) (V m c main_arg1) (V m c main_v3) (i 0) (i 1) : FVec Ideal S4096x8192 .bf16) := by
  refine (dats m 0 c).arrAt_eq_of_covers 5 _ (by decide +kernel) fun t hf y => ?_
  blk_simp
  rw [after_5]
  pointwise [k0_pay6, k0_pay4, rows, k0_pay2, k0_pay1, total, norm]
  blk_point [iblk, idxs t]

theorem final6 : (dats m 0 c).arrAt 6 (cfgs 0).N = (fun i => total (V m c main_arg0) (V m c main_arg1) (V m c main_v3) (i 1) (i 0)
    * total (V m c main_arg0) (V m c main_arg1) (V m c main_v3) (i 1) (i 0) : FVec Ideal S8192x4096 .bf16) := by
  refine (dats m 0 c).arrAt_eq_of_covers 6 _ (by decide +kernel) fun t hf y => ?_
  blk_simp
  rw [after_6]
  pointwise [k0_pay7, k0_pay6, k0_pay4, rows, k0_pay2, k0_pay1, total, norm]
  blk_point [iblk, idxs t]

theorem V_v3 : V m c main_v3 = (fun i => (m ((c : Thread nD τ).loc main_arg2) : FVec Ideal S1x2048x8192 .f32)
    (ix3 0 (i 1) ⟨(i 0 : ℕ) * 2048 + (i 2 : ℕ), by idx_bounds; omega⟩) : FVec Ideal S4x2048x2048 .bf16) := by
  unfold V; after_reads_simp
  funext i
  pointwise

open Cert.UpRefIdeal.Read in
/-- The normed row of the reference. -/
theorem ref_norm (x : FVec Ideal S4096x2048 .f32) (g : FVec Ideal S1x2048 .f32) (i : S4096x2048.Idx) :
    val_main_v13 (F := Ideal) x g i = norm x g (i 0) (i 1) := by
  pointwise [norm, val_main_v13, val_main_v12, val_main_v11, val_main_v10, val_main_v9, val_main_v8, val_main_v7, val_main_v6, val_main_v5, val_main_v4,
    val_main_v3, val_main_v2, val_main_v1, val_main_v0, val_main_cst, val_main_cst_0, val_main_cst_1]

open Cert.UpRefIdeal.Read in
theorem ref_total (x : FVec Ideal S4096x2048 .f32) (g : FVec Ideal S1x2048 .f32) (w : FVec Ideal S1x2048x8192 .f32) (i : S4096x8192.Idx) :
    val_main_v16 (F := Ideal) x g w i = max (∑ k : Fin 2048, norm x g (i 0) k * w (ix3 0 k (i 1))) 0 := by
  pointwise [val_main_v16, val_main_call0_v0, val_main_call0_cst, val_main_v15, val_main_v14, ref_norm]

/-- The weights in their four blocks, read at a column, are the weights at that column. -/
theorem total_eq (i : S4096x8192.Idx) : total (V m c main_arg0) (V m c main_arg1) (V m c main_v3) (i 0) (i 1)
    = Cert.UpRefIdeal.Read.val_main_v16 (F := Ideal) (m ((c : Thread nD τ).loc main_arg0)) (m ((c : Thread nD τ).loc main_arg1)) (m ((c : Thread nD τ).loc main_arg2)) i := by
  rw [ref_total, V_of_ne m c main_arg0 (by decide), V_of_ne m c main_arg1 (by decide), V_v3]
  unfold total
  blk_point []

open Cert.UpRefIdeal.Read in
/-- The four result arrays are the reference's. -/
theorem value : (dats m 0 c).arrAt 3 (cfgs 0).N = val_main_v18 (F := Ideal) (m ((c : Thread nD τ).loc main_arg0)) (m ((c : Thread nD τ).loc main_arg1)) ∧
    (dats m 0 c).arrAt 4 (cfgs 0).N = val_main_v19 (F := Ideal) (m ((c : Thread nD τ).loc main_arg0)) (m ((c : Thread nD τ).loc main_arg1)) (m ((c : Thread nD τ).loc main_arg2)) ∧
    (dats m 0 c).arrAt 5 (cfgs 0).N = val_main_v21 (F := Ideal) (m ((c : Thread nD τ).loc main_arg0)) (m ((c : Thread nD τ).loc main_arg1)) (m ((c : Thread nD τ).loc main_arg2)) ∧
    (dats m 0 c).arrAt 6 (cfgs 0).N = val_main_v24 (F := Ideal) (m ((c : Thread nD τ).loc main_arg0)) (m ((c : Thread nD τ).loc main_arg1)) (m ((c : Thread nD τ).loc main_arg2)) := by
  rw [final3, final4, final5, final6]
  refine ⟨?_, ?_, ?_, ?_⟩
  · rw [V_of_ne m c main_arg0 (by decide), V_of_ne m c main_arg1 (by decide)]
    funext i
    pointwise [val_main_v18, val_main_v17, ref_norm]
  · funext i
    pointwise [val_main_v19]
    exact total_eq m c i
  · funext i
    pointwise [val_main_v20, val_main_v21]
    exact congrArg (fun z : EReal => z * z) (total_eq m c i)
  · funext i
    pointwise [val_main_v22, val_main_v23, val_main_v24]
    exact congrArg (fun z : EReal => z * z) (total_eq m c (ix2 (i 1) (i 0)))

end Cert.UpIdeal.Words

end
-- ==== Proof.UpClaims.lean ====
/- The claims about the widening product. The program and its reading over the extended reals have one text, so one run gives
   both frames. -/
module

public import proofs.«01_k».proof.Defs
public import proofs.«01_k».proof.Proof.Gen.Up
public import proofs.«01_k».proof.Proof.UpVal
public import Idealize.ShloMosaic.Lib.Tactic
public import Idealize.ShloMosaic.Adequacy
public import Idealize.ShloMosaic.Init

@[expose] public section

set_option maxRecDepth 16384

noncomputable section

namespace Cert.Up.Claims

open Idealize.ShloMosaic Idealize.ShloMosaic.Tactic Idealize.SL.Sem

theorem same_defs : Cert.Up.defs (F := Bits) = Cert.UpIdeal.defs (F := Bits) := by sl_kernel_rfl

theorem frame : Cert.quiescent_Up (hUp := Cert.Up.Gen.facts) := by
  intro m g _
  rw [same_defs]
  exact Cert.UpIdeal.Run.keeps (F := Bits) m g

theorem frame_ideal : Cert.quiescent_UpIdeal (hUpIdeal := Cert.UpIdeal.Gen.facts) := fun m g _ => Cert.UpIdeal.Run.keeps m g

theorem frame_ref : Cert.quiescent_UpRefIdeal (hUpRefIdeal := Cert.UpRefIdeal.Gen.facts) := fun m g _ =>
  (θ_run _ _ _).mono (fun r h => ⟨fun c => (h c).2.2.2.2, sem_eq_zero_of_no_sems (by decide) r.2⟩) (Cert.UpRefIdeal.Value.run (F := Ideal) m g)

theorem algebraic : Cert.algebraic_UpIdeal_UpRefIdeal (hUpIdeal := Cert.UpIdeal.Gen.facts) (hUpRefIdeal := Cert.UpRefIdeal.Gen.facts) := by
  intro m g m' g' _ hagree
  refine ⟨fun c => (Cert.UpIdeal.Run.dats m 0 c).arrAt 3 (Cert.UpIdeal.cfgs 0).N, fun c => (Cert.UpIdeal.Run.dats m 0 c).arrAt 4 (Cert.UpIdeal.cfgs 0).N,
    fun c => (Cert.UpIdeal.Run.dats m 0 c).arrAt 5 (Cert.UpIdeal.cfgs 0).N, fun c => (Cert.UpIdeal.Run.dats m 0 c).arrAt 6 (Cert.UpIdeal.cfgs 0).N,
    (θ_run _ _ _).mono (fun r h => h.1) (Cert.UpIdeal.Run.ends m g), ?_⟩
  refine (θ_run _ _ _).mono (fun r h c => ?_) (Cert.UpRefIdeal.Value.run (F := Ideal) m' g')
  obtain ⟨h0, h1, h2, h3, k⟩ := h c
  obtain ⟨a0, a1, a2⟩ := hagree c
  have E := Cert.UpIdeal.Words.value m c
  rw [← a0, ← a1, ← a2] at E
  exact ⟨(h0.trans (Cert.UpRefIdeal.Read.val_main_v18_eq _ _)).trans E.1.symm, (h1.trans (Cert.UpRefIdeal.Read.val_main_v19_eq _ _ _)).trans E.2.1.symm,
    (h2.trans (Cert.UpRefIdeal.Read.val_main_v21_eq _ _ _)).trans E.2.2.1.symm, (h3.trans (Cert.UpRefIdeal.Read.val_main_v24_eq _ _ _)).trans E.2.2.2.symm, k⟩

end Cert.Up.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Meet
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Dz
public import proofs.«01_k».proof.Proof.Gen.Dz.Skeleton
public import proofs.«01_k».proof.Proof.Gen.Dz.Launch
public import proofs.«01_k».proof.Proof.Gen.Dz.Points
public import proofs.«01_k».proof.Proof.Gen.Dz.Frame
public import proofs.«01_k».proof.Proof.Gen.DzIdeal
public import proofs.«01_k».proof.Proof.Gen.DzIdeal.Skeleton
public import proofs.«01_k».proof.Proof.Gen.DzIdeal.Launch
public import proofs.«01_k».proof.Proof.Gen.DzIdeal.Points
public import proofs.«01_k».proof.Proof.Gen.DzIdeal.Frame
public import proofs.«01_k».proof.Proof.Gen.DzIdeal.Value
public import proofs.«01_k».proof.Proof.Gen.DzRefIdeal
public import proofs.«01_k».proof.Proof.Gen.DzRefIdeal.Run
public import proofs.«01_k».proof.Proof.Gen.DzRefIdeal.Read
public import proofs.«01_k».proof.Proof.Gen.Dn
public import proofs.«01_k».proof.Proof.Gen.Dn.Skeleton
public import proofs.«01_k».proof.Proof.Gen.Dn.Launch
public import proofs.«01_k».proof.Proof.Gen.Dn.Points
public import proofs.«01_k».proof.Proof.Gen.Dn.Frame
public import proofs.«01_k».proof.Proof.Gen.DnIdeal
public import proofs.«01_k».proof.Proof.Gen.DnIdeal.Skeleton
public import proofs.«01_k».proof.Proof.Gen.DnIdeal.Launch
public import proofs.«01_k».proof.Proof.Gen.DnIdeal.Points
public import proofs.«01_k».proof.Proof.Gen.DnIdeal.Frame
public import proofs.«01_k».proof.Proof.Gen.DnIdeal.Value
public import proofs.«01_k».proof.Proof.Gen.DnRefIdeal
public import proofs.«01_k».proof.Proof.Gen.DnRefIdeal.Run
public import proofs.«01_k».proof.Proof.Gen.DnRefIdeal.Read
public import proofs.«01_k».proof.Proof.Gen.Gd
public import proofs.«01_k».proof.Proof.Gen.Gd.Skeleton
public import proofs.«01_k».proof.Proof.Gen.Gd.Launch
public import proofs.«01_k».proof.Proof.Gen.Gd.Points
public import proofs.«01_k».proof.Proof.Gen.Gd.Frame
public import proofs.«01_k».proof.Proof.Gen.GdIdeal
public import proofs.«01_k».proof.Proof.Gen.GdIdeal.Skeleton
public import proofs.«01_k».proof.Proof.Gen.GdIdeal.Launch
public import proofs.«01_k».proof.Proof.Gen.GdIdeal.Points
public import proofs.«01_k».proof.Proof.Gen.GdIdeal.Frame
public import proofs.«01_k».proof.Proof.Gen.GdIdeal.Value
public import proofs.«01_k».proof.Proof.Gen.GdRefIdeal
public import proofs.«01_k».proof.Proof.Gen.GdRefIdeal.Run
public import proofs.«01_k».proof.Proof.Gen.GdRefIdeal.Read
public import proofs.«01_k».proof.Proof.Gen.Gu
public import proofs.«01_k».proof.Proof.Gen.Gu.Skeleton
public import proofs.«01_k».proof.Proof.Gen.Gu.Launch
public import proofs.«01_k».proof.Proof.Gen.Gu.Points
public import proofs.«01_k».proof.Proof.Gen.Gu.Frame
public import proofs.«01_k».proof.Proof.Gen.GuIdeal
public import proofs.«01_k».proof.Proof.Gen.GuIdeal.Skeleton
public import proofs.«01_k».proof.Proof.Gen.GuIdeal.Launch
public import proofs.«01_k».proof.Proof.Gen.GuIdeal.Points
public import proofs.«01_k».proof.Proof.Gen.GuIdeal.Frame
public import proofs.«01_k».proof.Proof.Gen.GuIdeal.Value
public import proofs.«01_k».proof.Proof.Gen.GuRefIdeal
public import proofs.«01_k».proof.Proof.Gen.GuRefIdeal.Run
public import proofs.«01_k».proof.Proof.Gen.GuRefIdeal.Read
public import proofs.«01_k».proof.Proof.Calls
public import proofs.«01_k».proof.Proof.UpClaims
public import Idealize.ShloMosaic.Adequacy
public import Idealize.ShloMosaic.Init

@[expose] public section

set_option maxRecDepth 16384

noncomputable section

namespace Cert.Proof

open Idealize.ShloMosaic Idealize.SL.Sem Cert.Kernel

theorem frame_k : Cert.quiescent_Kernel (hKernel := Cert.Kernel.Gen.facts) := by
  intro m g _
  exact Cert.Kernel.Gen.frame m g

theorem frame_ki : Cert.quiescent_KernelIdeal (hKernelIdeal := Cert.KernelIdeal.Gen.facts) := by
  intro m g _
  exact Cert.KernelIdeal.Gen.frame m g

theorem frame_ki_pre : Cert.quiescent_KernelIdeal_pre_finite (hKernelIdeal := Cert.KernelIdeal.Gen.facts) (hPre_finite := Cert.Pre_finite.facts) := by
  intro m g _
  exact Cert.KernelIdeal.Gen.frame m g

/-- The reference runs, keeps its arguments, and has no semaphore to leave anything on. -/
theorem frame_ri : Cert.quiescent_ReferenceIdeal (hReferenceIdeal := Cert.ReferenceIdeal.Gen.facts) := fun m g _ =>
  (θ_run _ _ _).mono (fun r h => ⟨fun c => (h c).2.2.2.2.2.2.2, sem_eq_zero_of_no_sems (by decide) r.2⟩)
    (Cert.ReferenceIdeal.Value.run (F := Ideal) m g)

theorem frame_ri_pre : Cert.quiescent_ReferenceIdeal_pre_finite (hReferenceIdeal := Cert.ReferenceIdeal.Gen.facts) (hPre_finite := Cert.Pre_finite.facts) :=
  fun m g _ => frame_ri m g trivial

theorem preserves : Cert.preserves_Kernel_KernelIdeal :=
  ⟨IdealRules.named_const.statement _ _ _ _ _ rfl, IdealRules.named_const.statement _ _ _ _ _ rfl⟩

set_option maxHeartbeats 2000000 in
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  refine ⟨fun c => (Cert.KernelIdeal.Gen.dats m 0 c).arrAt 9 (Cert.KernelIdeal.cfgs 0).N,
    fun c => (Cert.KernelIdeal.Gen.dats m 0 c).arrAt 10 (Cert.KernelIdeal.cfgs 0).N,
    fun c => (Cert.KernelIdeal.Gen.dats m 0 c).arrAt 11 (Cert.KernelIdeal.cfgs 0).N,
    fun c => (Cert.KernelIdeal.Gen.dats m 0 c).arrAt 12 (Cert.KernelIdeal.cfgs 0).N,
    fun c => (Cert.KernelIdeal.Gen.dats m 0 c).arrAt 13 (Cert.KernelIdeal.cfgs 0).N,
    fun c => (Cert.KernelIdeal.Gen.dats m 0 c).arrAt 14 (Cert.KernelIdeal.cfgs 0).N,
    fun c => (Cert.KernelIdeal.Gen.dats m 0 c).arrAt 15 (Cert.KernelIdeal.cfgs 0).N,
    Cert.KernelIdeal.Value.run_blocks m g, ?_⟩
  refine (θ_run _ _ _).mono (fun r h c => ?_) (Cert.ReferenceIdeal.Value.run (F := Ideal) m' g')
  obtain ⟨h0, h1, h2, h3, h4, h5, h6, k⟩ := h c
  obtain ⟨a0, -, a2, a3, a4, a5, a6, a7⟩ := hagree c
  obtain ⟨D, H⟩ : ∃ D, Cert.ReferenceIdeal.Words.Inp _ _ _ _ _ _ _ D := ⟨_, @Cert.Pre_finite.inp Cert.Pre_finite.facts _ _ _ _ _ _ _ _ (hpre c)⟩
  have R := Cert.Entry.reads m c H
  rw [← a0, ← a2, ← a3, ← a4, ← a5, ← a6, ← a7] at H
  refine ⟨?_, ?_, ?_, ?_, ?_, ?_, ?_, k⟩
  · exact (h0.trans (Cert.ReferenceIdeal.Read.val_main_v207_eq (StableHlo.launchContents m' c))).trans (Cert.Meet.duv H R)
  · exact (h1.trans (Cert.ReferenceIdeal.Read.val_main_v208_eq (StableHlo.launchContents m' c))).trans (Cert.Meet.duvT H R)
  · exact (h2.trans (Cert.ReferenceIdeal.Read.val_main_v209_eq (StableHlo.launchContents m' c))).trans (Cert.Meet.dga H R)
  · exact (h3.trans (Cert.ReferenceIdeal.Read.val_main_v143_eq (StableHlo.launchContents m' c))).trans (Cert.Meet.dw H R)
  · exact (h4.trans (Cert.ReferenceIdeal.Read.val_main_v210_eq (StableHlo.launchContents m' c))).trans (Cert.Meet.dbs H R)
  · exact (h5.trans (Cert.ReferenceIdeal.Read.val_main_v153_eq (StableHlo.launchContents m' c))).trans (Cert.Meet.dlg H R)
  · exact (h6.trans (Cert.ReferenceIdeal.Read.val_main_v147_eq (StableHlo.launchContents m' c))).trans (Cert.Meet.dlb H R)

theorem claim : Cert.Claim :=
  ⟨Cert.Kernel.Gen.facts, Cert.KernelIdeal.Gen.facts, Cert.ReferenceIdeal.Gen.facts,
    Cert.Down.Gen.facts, Cert.DownIdeal.Gen.facts, Cert.DownRefIdeal.Gen.facts, Cert.Dz.Gen.facts, Cert.DzIdeal.Gen.facts, Cert.DzRefIdeal.Gen.facts, Cert.Dn.Gen.facts, Cert.DnIdeal.Gen.facts, Cert.DnRefIdeal.Gen.facts, Cert.Gd.Gen.facts, Cert.GdIdeal.Gen.facts, Cert.GdRefIdeal.Gen.facts, Cert.Gu.Gen.facts, Cert.GuIdeal.Gen.facts, Cert.GuRefIdeal.Gen.facts,
    Cert.Out.Gen.facts, Cert.OutIdeal.Gen.facts, Cert.OutRefIdeal.Gen.facts, Cert.Dm.Gen.facts, Cert.DmIdeal.Gen.facts, Cert.DmRefIdeal.Gen.facts, Cert.Go.Gen.facts, Cert.GoIdeal.Gen.facts, Cert.GoRefIdeal.Gen.facts, Cert.Inp.Gen.facts, Cert.InpIdeal.Gen.facts, Cert.InpRefIdeal.Gen.facts, Cert.Di.Gen.facts, Cert.DiIdeal.Gen.facts, Cert.DiRefIdeal.Gen.facts, Cert.Far.Gen.facts, Cert.FarIdeal.Gen.facts, Cert.FarRefIdeal.Gen.facts,
    Cert.Up.Gen.facts, Cert.UpIdeal.Gen.facts, Cert.UpRefIdeal.Gen.facts,
    Cert.Pre_finite.facts,
    frame_k, frame_ki, frame_ki_pre, frame_ri, frame_ri_pre,
    Cert.Down.Claims.frame, Cert.Down.Claims.frame_ideal, Cert.Down.Claims.frame_ref,
    Cert.Dz.Claims.frame, Cert.Dz.Claims.frame_ideal, Cert.Dz.Claims.frame_ref,
    Cert.Dn.Claims.frame, Cert.Dn.Claims.frame_ideal, Cert.Dn.Claims.frame_ref,
    Cert.Gd.Claims.frame, Cert.Gd.Claims.frame_ideal, Cert.Gd.Claims.frame_ref,
    Cert.Gu.Claims.frame, Cert.Gu.Claims.frame_ideal, Cert.Gu.Claims.frame_ref,
    Cert.Out.Claims.frame, Cert.Out.Claims.frame_ideal, Cert.Out.Claims.frame_ref,
    Cert.Dm.Claims.frame, Cert.Dm.Claims.frame_ideal, Cert.Dm.Claims.frame_ref,
    Cert.Go.Claims.frame, Cert.Go.Claims.frame_ideal, Cert.Go.Claims.frame_ref,
    Cert.Inp.Claims.frame, Cert.Inp.Claims.frame_ideal, Cert.Inp.Claims.frame_ref,
    Cert.Di.Claims.frame, Cert.Di.Claims.frame_ideal, Cert.Di.Claims.frame_ref,
    Cert.Far.Claims.frame, Cert.Far.Claims.frame_ideal, Cert.Far.Claims.frame_ref,
    Cert.Up.Claims.frame, Cert.Up.Claims.frame_ideal, Cert.Up.Claims.frame_ref,
    preserves, algebraic, trivial, Cert.Down.Claims.algebraic, trivial, Cert.Dz.Claims.algebraic, trivial, Cert.Dn.Claims.algebraic, trivial, Cert.Gd.Claims.algebraic, trivial, Cert.Gu.Claims.algebraic,
    trivial, Cert.Out.Claims.algebraic, trivial, Cert.Dm.Claims.algebraic, trivial, Cert.Go.Claims.algebraic, trivial, Cert.Inp.Claims.algebraic, trivial, Cert.Di.Claims.algebraic, trivial, Cert.Far.Claims.algebraic, trivial, Cert.Up.Claims.algebraic⟩

end Cert.Proof

end
